-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S2048x1024 : Shape := ⟨2, ![2048, 1024]⟩
abbrev S2048x2 : Shape := ⟨2, ![2048, 2]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S2048x1 : Shape := ⟨2, ![2048, 1]⟩
abbrev S2048 : Shape := ⟨1, ![2048]⟩
abbrev S_ : Shape := ⟨0, ![]⟩

class Facts : Prop where
  slices_S2048x2_S2048x1_0_0 : S2048x2.Slices ![0, 0] S2048x1
  shapeCasts_S2048x1_S2048 : S2048x1.ShapeCasts S2048
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S2048x1024 .f32) (main_arg1 : IVec S2048x2 32) (main_arg2 : FVec F S8x1024x2048 .f32) (main_arg3 : FVec F S8x2048 .f32) (main_arg4 : FVec F S8x2048x1024 .f32) (main_arg5 : FVec F S8x1024 .f32) : IVec S_ 1 :=
  let main_v0 : IVec S2048x1 32 := (extractStridedSlice S2048x1 ![0, 0] · slices_S2048x2_S2048x1_0_0) main_arg1
  let main_v1 : IVec S2048 32 := shapeCast S2048 main_v0 shapeCasts_S2048x1_S2048
  let main_c : IVec S_ 32 := constantI S_ 32 0#32
  let main_v2 : IVec S2048 32 := broadcastInDim S2048 ![] bcast_S_S2048 main_c
  let main_v3 : IVec S2048 1 := cmpi .sge main_v1 main_v2
  let main_c_0 : IVec S_ 32 := constantI S_ 32 8#32
  let main_v4 : IVec S2048 32 := broadcastInDim S2048 ![] bcast_S_S2048 main_c_0
  let main_v5 : IVec S2048 1 := cmpi .slt main_v1 main_v4
  let main_v6 : IVec S2048 1 := andi main_v3 main_v5
  let main_c_1 : IVec S_ 1 := constantI S_ 1 1#1
  let main_v7 : IVec S_ 1 := (fun x v => Host.reduce IntOp.andi x v reducesTo_S2048_S_d0 h_S_) main_v6 main_c_1
  main_v7
-- ==== Kernel.lean ====
abbrev S2048x1024 : Shape := ⟨2, ![2048, 1024]⟩
abbrev S2048x2 : Shape := ⟨2, ![2048, 2]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S2048x1 : Shape := ⟨2, ![2048, 1]⟩
abbrev S2048 : Shape := ⟨1, ![2048]⟩
abbrev S1x8 : Shape := ⟨2, ![1, 8]⟩
abbrev S2048x8 : Shape := ⟨2, ![2048, 8]⟩
abbrev S_ : Shape := ⟨0, ![]⟩
abbrev S8 : Shape := ⟨1, ![8]⟩
abbrev S2048x1x1 : Shape := ⟨3, ![2048, 1, 1]⟩
abbrev S1 : Shape := ⟨1, ![1]⟩
abbrev S1x1x1 : Shape := ⟨3, ![1, 1, 1]⟩
abbrev S24 : Shape := ⟨1, ![24]⟩
abbrev S24x1 : Shape := ⟨2, ![24, 1]⟩
abbrev S24x8 : Shape := ⟨2, ![24, 8]⟩
abbrev S64x32 : Shape := ⟨2, ![64, 32]⟩
abbrev S3072x1024 : Shape := ⟨2, ![3072, 1024]⟩
abbrev S2x32x1024 : Shape := ⟨3, ![2, 32, 1024]⟩
abbrev S2 : Shape := ⟨1, ![2]⟩
abbrev S2x1x32 : Shape := ⟨3, ![2, 1, 32]⟩
abbrev S1x32x1024 : Shape := ⟨3, ![1, 32, 1024]⟩
abbrev S32x1024 : Shape := ⟨2, ![32, 1024]⟩
abbrev S1x1x32 : Shape := ⟨3, ![1, 1, 32]⟩
abbrev S1x32 : Shape := ⟨2, ![1, 32]⟩
abbrev S32x128 : Shape := ⟨2, ![32, 128]⟩
abbrev S32 : Shape := ⟨1, ![32]⟩
abbrev S3072x128 : Shape := ⟨2, ![3072, 128]⟩
abbrev S8x1x2048 : Shape := ⟨3, ![8, 1, 2048]⟩
abbrev S8x1x1024 : Shape := ⟨3, ![8, 1, 1024]⟩
abbrev S128x1024 : Shape := ⟨2, ![128, 1024]⟩
abbrev S1x1024x2048 : Shape := ⟨3, ![1, 1024, 2048]⟩
abbrev S1x1x2048 : Shape := ⟨3, ![1, 1, 2048]⟩
abbrev S1x2048x1024 : Shape := ⟨3, ![1, 2048, 1024]⟩
abbrev S1x1x1024 : Shape := ⟨3, ![1, 1, 1024]⟩
abbrev S1024x2048 : Shape := ⟨2, ![1024, 2048]⟩
abbrev S128x2048 : Shape := ⟨2, ![128, 2048]⟩
abbrev S1x2048 : Shape := ⟨2, ![1, 2048]⟩
abbrev S1x1024 : Shape := ⟨2, ![1, 1024]⟩

abbrev nBuf : Table → Nat
  | .hbm => 111
  | .local .tc .vmem => 12
  | .local .tc .smem => 1
  | .local .scVector .vmem => 4
  | _ => 0

abbrev bufTy : (tb : Table) → Fin (nBuf tb) → BufTy
  | .hbm, ⟨0, _⟩ => ⟨S2048x1024, .f32⟩
  | .hbm, ⟨1, _⟩ => ⟨S2048x2, .i32⟩
  | .hbm, ⟨2, _⟩ => ⟨S8x1024x2048, .f32⟩
  | .hbm, ⟨3, _⟩ => ⟨S8x2048, .f32⟩
  | .hbm, ⟨4, _⟩ => ⟨S8x2048x1024, .f32⟩
  | .hbm, ⟨5, _⟩ => ⟨S8x1024, .f32⟩
  | .hbm, ⟨6, _⟩ => ⟨S2048x1, .i32⟩
  | .hbm, ⟨7, _⟩ => ⟨S2048, .i32⟩
  | .hbm, ⟨8, _⟩ => ⟨S2048x1, .i32⟩
  | .hbm, ⟨9, _⟩ => ⟨S1x8, .i32⟩
  | .hbm, ⟨10, _⟩ => ⟨S2048x8, .i32⟩
  | .hbm, ⟨11, _⟩ => ⟨S2048x8, .i32⟩
  | .hbm, ⟨12, _⟩ => ⟨S2048x8, .i1⟩
  | .hbm, ⟨13, _⟩ => ⟨S2048x8, .i32⟩
  | .hbm, ⟨14, _⟩ => ⟨S_, .i32⟩
  | .hbm, ⟨15, _⟩ => ⟨S8, .i32⟩
  | .hbm, ⟨16, _⟩ => ⟨S_, .i32⟩
  | .hbm, ⟨17, _⟩ => ⟨S_, .i32⟩
  | .hbm, ⟨18, _⟩ => ⟨S2048x8, .i32⟩
  | .hbm, ⟨19, _⟩ => ⟨S2048x8, .i32⟩
  | .hbm, ⟨20, _⟩ => ⟨S2048x1, .i32⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S_, .i32⟩
  | .hbm, ⟨25, _⟩ => ⟨S2048x1, .i32⟩
  | .hbm, ⟨26, _⟩ => ⟨S2048x1, .i32⟩
  | .hbm, ⟨27, _⟩ => ⟨S2048x1, .i32⟩
  | .hbm, ⟨28, _⟩ => ⟨S2048x1x1, .i32⟩
  | .hbm, ⟨29, _⟩ => ⟨S1, .i32⟩
  | .hbm, ⟨30, _⟩ => ⟨S_, .i32⟩
  | .hbm, ⟨31, _⟩ => ⟨S2048x1x1, .i32⟩
  | .hbm, ⟨32, _⟩ => ⟨S2048x1x1, .i1⟩
  | .hbm, ⟨33, _⟩ => ⟨S1x1x1, .i32⟩
  | .hbm, ⟨34, _⟩ => ⟨S2048x1x1, .i32⟩
  | .hbm, ⟨35, _⟩ => ⟨S2048x1x1, .i1⟩
  | .hbm, ⟨36, _⟩ => ⟨S2048x1x1, .i1⟩
  | .hbm, ⟨37, _⟩ => ⟨S_, .i1⟩
  | .hbm, ⟨38, _⟩ => ⟨S2048x1, .i1⟩
  | .hbm, ⟨39, _⟩ => ⟨S2048x1, .i32⟩
  | .hbm, ⟨40, _⟩ => ⟨S_, .i32⟩
  | .hbm, ⟨41, _⟩ => ⟨S2048x1, .i32⟩
  | .hbm, ⟨42, _⟩ => ⟨S2048x1, .i32⟩
  | .hbm, ⟨43, _⟩ => ⟨S2048, .i32⟩
  | .hbm, ⟨44, _⟩ => ⟨S_, .i32⟩
  | .hbm, ⟨45, _⟩ => ⟨S8, .i32⟩
  | .hbm, ⟨46, _⟩ => ⟨S8, .i32⟩
  | .hbm, ⟨47, _⟩ => ⟨S_, .i32⟩
  | .hbm, ⟨48, _⟩ => ⟨S8, .i32⟩
  | .hbm, ⟨49, _⟩ => ⟨S8, .i32⟩
  | .hbm, ⟨50, _⟩ => ⟨S_, .i32⟩
  | .hbm, ⟨51, _⟩ => ⟨S_, .i32⟩
  | .hbm, ⟨52, _⟩ => ⟨S8, .i32⟩
  | .hbm, ⟨53, _⟩ => ⟨S8, .i32⟩
  | .hbm, ⟨54, _⟩ => ⟨S8, .i32⟩
  | .hbm, ⟨55, _⟩ => ⟨S_, .i32⟩
  | .hbm, ⟨56, _⟩ => ⟨S8, .i32⟩
  | .hbm, ⟨57, _⟩ => ⟨S8, .i1⟩
  | .hbm, ⟨58, _⟩ => ⟨S8, .i32⟩
  | .hbm, ⟨59, _⟩ => ⟨S8, .i32⟩
  | .hbm, ⟨60, _⟩ => ⟨S_, .i32⟩
  | .hbm, ⟨61, _⟩ => ⟨S8, .i32⟩
  | .hbm, ⟨62, _⟩ => ⟨S8, .i1⟩
  | .hbm, ⟨63, _⟩ => ⟨S8, .i1⟩
  | .hbm, ⟨64, _⟩ => ⟨S_, .i32⟩
  | .hbm, ⟨65, _⟩ => ⟨S8, .i32⟩
  | .hbm, ⟨66, _⟩ => ⟨S8, .i32⟩
  | .hbm, ⟨67, _⟩ => ⟨S8, .i32⟩
  | .hbm, ⟨68, _⟩ => ⟨S_, .i32⟩
  | .hbm, ⟨69, _⟩ => ⟨S8, .i32⟩
  | .hbm, ⟨70, _⟩ => ⟨S8, .i32⟩
  | .hbm, ⟨71, _⟩ => ⟨S_, .i32⟩
  | .hbm, ⟨72, _⟩ => ⟨S_, .i32⟩
  | .hbm, ⟨73, _⟩ => ⟨S8, .i32⟩
  | .hbm, ⟨74, _⟩ => ⟨S8, .i32⟩
  | .hbm, ⟨75, _⟩ => ⟨S_, .i32⟩
  | .hbm, ⟨76, _⟩ => ⟨S2048, .i32⟩
  | .hbm, ⟨77, _⟩ => ⟨S2048, .i1⟩
  | .hbm, ⟨78, _⟩ => ⟨S_, .i32⟩
  | .hbm, ⟨79, _⟩ => ⟨S2048, .i32⟩
  | .hbm, ⟨80, _⟩ => ⟨S2048, .i32⟩
  | .hbm, ⟨81, _⟩ => ⟨S2048, .i32⟩
  | .hbm, ⟨82, _⟩ => ⟨S2048x1, .i32⟩
  | .hbm, ⟨83, _⟩ => ⟨S2048, .i32⟩
  | .hbm, ⟨84, _⟩ => ⟨S2048, .i32⟩
  | .hbm, ⟨85, _⟩ => ⟨S24, .i32⟩
  | .hbm, ⟨86, _⟩ => ⟨S_, .i32⟩
  | .hbm, ⟨87, _⟩ => ⟨S24, .i32⟩
  | .hbm, ⟨88, _⟩ => ⟨S24, .i32⟩
  | .hbm, ⟨89, _⟩ => ⟨S1x8, .i32⟩
  | .hbm, ⟨90, _⟩ => ⟨S24x1, .i32⟩
  | .hbm, ⟨91, _⟩ => ⟨S24x8, .i32⟩
  | .hbm, ⟨92, _⟩ => ⟨S24x8, .i32⟩
  | .hbm, ⟨93, _⟩ => ⟨S24x8, .i1⟩
  | .hbm, ⟨94, _⟩ => ⟨S24x8, .i32⟩
  | .hbm, ⟨95, _⟩ => ⟨S_, .i32⟩
  | .hbm, ⟨96, _⟩ => ⟨S24, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S24, .i32⟩
  | .hbm, ⟨101, _⟩ => ⟨S24, .i32⟩
  | .hbm, ⟨102, _⟩ => ⟨S_, .i32⟩
  | .hbm, ⟨103, _⟩ => ⟨S24, .i32⟩
  | .hbm, ⟨104, _⟩ => ⟨S64x32, .i32⟩
  | .hbm, ⟨105, _⟩ => ⟨S3072x1024, .f32⟩
  | .hbm, ⟨106, _⟩ => ⟨S8x1x2048, .f32⟩
  | .hbm, ⟨107, _⟩ => ⟨S8x1x1024, .f32⟩
  | .hbm, ⟨108, _⟩ => ⟨S3072x1024, .f32⟩
  | .hbm, ⟨109, _⟩ => ⟨S64x32, .i32⟩
  | .hbm, ⟨110, _⟩ => ⟨S2048x1024, .f32⟩
  | .local .tc .vmem, ⟨0, _⟩ => ⟨S128x1024, .f32⟩
  | .local .tc .vmem, ⟨1, _⟩ => ⟨S128x1024, .f32⟩
  | .local .tc .vmem, ⟨2, _⟩ => ⟨S1x1024x2048, .f32⟩
  | .local .tc .vmem, ⟨3, _⟩ => ⟨S1x1024x2048, .f32⟩
  | .local .tc .vmem, ⟨4, _⟩ => ⟨S1x1x2048, .f32⟩
  | .local .tc .vmem, ⟨5, _⟩ => ⟨S1x1x2048, .f32⟩
  | .local .tc .vmem, ⟨6, _⟩ => ⟨S1x2048x1024, .f32⟩
  | .local .tc .vmem, ⟨7, _⟩ => ⟨S1x2048x1024, .f32⟩
  | .local .tc .vmem, ⟨8, _⟩ => ⟨S1x1x1024, .f32⟩
  | .local .tc .vmem, ⟨9, _⟩ => ⟨S1x1x1024, .f32⟩
  | .local .tc .vmem, ⟨10, _⟩ => ⟨S128x1024, .f32⟩
  | .local .tc .vmem, ⟨11, _⟩ => ⟨S128x1024, .f32⟩
  | .local .tc .smem, ⟨0, _⟩ => ⟨S24, .i32⟩
  | .local .scVector .vmem, ⟨0, _⟩ => ⟨S2x32x1024, .f32⟩
  | .local .scVector .vmem, ⟨1, _⟩ => ⟨S2x1x32, .i32⟩
  | .local .scVector .vmem, ⟨2, _⟩ => ⟨S2x1x32, .i32⟩
  | .local .scVector .vmem, ⟨3, _⟩ => ⟨S2x32x1024, .f32⟩
  | _, _ => ⟨S2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => false
  | ⟨18, _⟩ => false
  | ⟨19, _⟩ => false
  | ⟨20, _⟩ => false
  | ⟨21, _⟩ => false
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_call1_call0_c : Ref sig .tc := ⟨.hbm, 16, rfl⟩
abbrev main_call1_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call2_c : Ref sig .tc := ⟨.hbm, 21, rfl⟩
abbrev main_call2_v0 : Ref sig .tc := ⟨.hbm, 22, rfl⟩
abbrev main_call2_v1 : Ref sig .tc := ⟨.hbm, 23, rfl⟩
abbrev main_call2_c_0 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_call2_v5 : Ref sig .tc := ⟨.hbm, 28, rfl⟩
abbrev main_call2_c_1 : Ref sig .tc := ⟨.hbm, 29, rfl⟩
abbrev main_call2_c_2 : Ref sig .tc := ⟨.hbm, 30, rfl⟩
abbrev main_call2_v6 : Ref sig .tc := ⟨.hbm, 31, rfl⟩
abbrev main_call2_v7 : Ref sig .tc := ⟨.hbm, 32, rfl⟩
abbrev main_call2_v8 : Ref sig .tc := ⟨.hbm, 33, rfl⟩
abbrev main_call2_v9 : Ref sig .tc := ⟨.hbm, 34, rfl⟩
abbrev main_call2_v10 : Ref sig .tc := ⟨.hbm, 35, rfl⟩
abbrev main_call2_v11 : Ref sig .tc := ⟨.hbm, 36, rfl⟩
abbrev main_call2_c_3 : Ref sig .tc := ⟨.hbm, 37, rfl⟩
abbrev main_call2_v12 : Ref sig .tc := ⟨.hbm, 38, rfl⟩
abbrev main_call2_v13 : Ref sig .tc := ⟨.hbm, 39, rfl⟩
abbrev main_call2_c_4 : Ref sig .tc := ⟨.hbm, 40, rfl⟩
abbrev main_call2_v14 : Ref sig .tc := ⟨.hbm, 41, rfl⟩
abbrev main_v7 : Ref sig .tc := ⟨.hbm, 42, rfl⟩
abbrev main_v8 : Ref sig .tc := ⟨.hbm, 43, rfl⟩
abbrev main_c_0 : Ref sig .tc := ⟨.hbm, 44, rfl⟩
abbrev main_v9 : Ref sig .tc := ⟨.hbm, 45, rfl⟩
abbrev main_v10 : Ref sig .tc := ⟨.hbm, 46, rfl⟩
abbrev main_c_1 : Ref sig .tc := ⟨.hbm, 47, rfl⟩
abbrev main_v11 : Ref sig .tc := ⟨.hbm, 48, rfl⟩
abbrev main_v12 : Ref sig .tc := ⟨.hbm, 49, rfl⟩
abbrev main_c_2 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_v5 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_c : Ref sig .tc := ⟨.hbm, 60, rfl⟩
abbrev main_call3_v9 : Ref sig .tc := ⟨.hbm, 61, rfl⟩
abbrev main_call3_v10 : Ref sig .tc := ⟨.hbm, 62, rfl⟩
abbrev main_call3_v11 : Ref sig .tc := ⟨.hbm, 63, rfl⟩
abbrev main_call3_c_0 : Ref sig .tc := ⟨.hbm, 64, rfl⟩
abbrev main_call3_v12 : Ref sig .tc := ⟨.hbm, 65, rfl⟩
abbrev main_call3_v13 : Ref sig .tc := ⟨.hbm, 66, rfl⟩
abbrev main_v13 : Ref sig .tc := ⟨.hbm, 67, rfl⟩
abbrev main_c_3 : Ref sig .tc := ⟨.hbm, 68, rfl⟩
abbrev main_v14 : Ref sig .tc := ⟨.hbm, 69, rfl⟩
abbrev main_v15 : Ref sig .tc := ⟨.hbm, 70, rfl⟩
abbrev main_call4_call0_c : Ref sig .tc := ⟨.hbm, 71, rfl⟩
abbrev main_call4_call0_v0 : Ref sig .tc := ⟨.hbm, 72, rfl⟩
abbrev main_v16 : Ref sig .tc := ⟨.hbm, 73, rfl⟩
abbrev main_v17 : Ref sig .tc := ⟨.hbm, 74, rfl⟩
abbrev main_c_4 : Ref sig .tc := ⟨.hbm, 75, rfl⟩
abbrev main_v18 : Ref sig .tc := ⟨.hbm, 76, rfl⟩
abbrev main_v19 : Ref sig .tc := ⟨.hbm, 77, rfl⟩
abbrev main_c_5 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_c_6 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_c_7 : Ref sig .tc := ⟨.hbm, 95, rfl⟩
abbrev main_v35 : Ref sig .tc := ⟨.hbm, 96, rfl⟩
abbrev main_c_8 : Ref sig .tc := ⟨.hbm, 97, rfl⟩
abbrev main_c_9 : Ref sig .tc := ⟨.hbm, 98, rfl⟩
abbrev main_call5_v0 : Ref sig .tc := ⟨.hbm, 99, rfl⟩
abbrev main_call5_v1 : Ref sig .tc := ⟨.hbm, 100, rfl⟩
abbrev main_call5_v2 : Ref sig .tc := ⟨.hbm, 101, rfl⟩
abbrev main_call5_v3 : Ref sig .tc := ⟨.hbm, 102, rfl⟩
abbrev main_call5_v4 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v36 : Ref sig .tc := ⟨.smem, 0, rfl⟩
abbrev main_arg0_scv : Ref sig .scVector := ⟨.hbm, 0, rfl⟩
abbrev main_v37_scv : Ref sig .scVector := ⟨.hbm, 104, rfl⟩
abbrev main_v38_scv : Ref sig .scVector := ⟨.hbm, 105, rfl⟩
abbrev main_v41_scv : Ref sig .scVector := ⟨.hbm, 108, rfl⟩
abbrev main_v42_scv : Ref sig .scVector := ⟨.hbm, 109, rfl⟩
abbrev main_v43_scv : Ref sig .scVector := ⟨.hbm, 110, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc0_scoped0 : Ref sig .scVector := ⟨.vmem, 0, rfl⟩
abbrev cc0_scoped2 : Ref sig .scVector := ⟨.vmem, 1, rfl⟩
abbrev cc2_scoped0 : Ref sig .scVector := ⟨.vmem, 2, rfl⟩
abbrev cc2_scoped2 : Ref sig .scVector := ⟨.vmem, 3, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_14_r0 : BitVec 32 := 0#32
  let c2_i32_15_r0 : BitVec 32 := 2#32
  let v21_r0 : BitVec 32 := Scalar.remui c0_i32_14_r0 c2_i32_15_r0
  let c0_i32_16_r0 : BitVec 32 := 0#32
  let c0_i32_17_r0 : BitVec 32 := 0#32
  ![v21_r0.toNat, 0, 0]
def k0_off2 (i : grid0.Coords) : Fin 2 → Nat :=
  let c32_i32_r0 : BitVec 32 := 32#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v7_r0 : BitVec 32 := Scalar.addi c0_i32_1_r0 v4
  let v22_r0 : BitVec 32 := Scalar.muli c32_i32_r0 v7_r0
  let c0_i32_18_r0 : BitVec 32 := 0#32
  ![v22_r0.toNat, 0]
def k0_off3 : Fin 1 → Nat :=
  let c0_i32_14_r0 : BitVec 32 := 0#32
  let c2_i32_15_r0 : BitVec 32 := 2#32
  let v21_r0 : BitVec 32 := Scalar.remui c0_i32_14_r0 c2_i32_15_r0
  ![v21_r0.toNat]
def k0_off4 : Fin 3 → Nat :=
  let c0_i32_24_r0 : BitVec 32 := 0#32
  let c2_i32_25_r0 : BitVec 32 := 2#32
  let v32_r0 : BitVec 32 := Scalar.remui c0_i32_24_r0 c2_i32_25_r0
  let c0_i32_27_r0 : BitVec 32 := 0#32
  let c0_i32_28_r0 : BitVec 32 := 0#32
  ![v32_r0.toNat, 0, 0]
def k0_off5 (i : grid0.Coords) : Fin 2 → Nat :=
  let c1_i32_26_r0 : BitVec 32 := 1#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v7_r0 : BitVec 32 := Scalar.addi c0_i32_1_r0 v4
  let v33_r0 : BitVec 32 := Scalar.muli c1_i32_26_r0 v7_r0
  let c0_i32_29_r0 : BitVec 32 := 0#32
  ![v33_r0.toNat, 0]
@[reducible] def k0_t1_loop : Scf.Loop 32 :=
  let c0_i32_38_r0 : BitVec 32 := 0#32
  let c2_i32_39_r0 : BitVec 32 := 2#32
  let v43_r0 : BitVec 32 := Scalar.addi c0_i32_38_r0 c2_i32_39_r0
  let c1_i32_40_r0 : BitVec 32 := 1#32
  ⟨c0_i32_38_r0, v43_r0, c1_i32_40_r0⟩
def k0_off6 (arg6_r0 : BitVec 32) : Fin 3 → Nat :=
  let c2_i32_108_r0 : BitVec 32 := 2#32
  let v152_r0 : BitVec 32 := Scalar.remui arg6_r0 c2_i32_108_r0
  let c0_i32_110_r0 : BitVec 32 := 0#32
  let c0_i32_111_r0 : BitVec 32 := 0#32
  ![v152_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v67_r0 : BitVec 32 := Scalar.addi arg10_r0 v4
  let true_65_r0 : BitVec 1 := 1#1
  let c1_i32_64_r0 : BitVec 32 := 1#32
  let v73_r0 : BitVec 32 := Scalar.addi arg10_r0 c1_i32_64_r0
  let v74_r0 : BitVec 32 := Scalar.select true_65_r0 v73_r0 arg10_r0
  let c2_i32_66_r0 : BitVec 32 := 2#32
  let v75_r0 : BitVec 1 := Scalar.cmpi .eq v74_r0 c2_i32_66_r0
  let c0_i32_67_r0 : BitVec 32 := 0#32
  let v76_r0 : BitVec 32 := Scalar.select v75_r0 c0_i32_67_r0 v74_r0
  let v77_r0 : BitVec 32 := Scalar.addi v76_r0 v4
  let v83_r0 : BitVec 1 := Scalar.cmpi .ne v67_r0 v77_r0
  let c0_i32_38_r0 : BitVec 32 := 0#32
  let c1_i32_40_r0 : BitVec 32 := 1#32
  let arg5_r0 : BitVec 32 := Scf.iv c0_i32_38_r0 c1_i32_40_r0 k0_t1
  let c1_i32_72_r0 : BitVec 32 := 1#32
  let v84_r0 : BitVec 1 := Scalar.cmpi .sge arg5_r0 c1_i32_72_r0
  let true_73_r0 : BitVec 1 := 1#1
  let v85_r0 : BitVec 1 := Scalar.xori v84_r0 true_73_r0
  let v86_r0 : BitVec 1 := Scalar.andi v83_r0 v85_r0
  let true_74_r0 : BitVec 1 := 1#1
  let v87_r0 : BitVec 1 := Scalar.andi v86_r0 true_74_r0
  let v88_r0 : BitVec 32 := Scalar.extui v87_r0
  let c0_i32_75_r0 : BitVec 32 := 0#32
  let v89_r0 : BitVec 1 := Scalar.cmpi .ne v88_r0 c0_i32_75_r0
  v89_r0

def k0_off7 (i : grid0.Coords) (arg10_r0 : BitVec 32) : Fin 2 → Nat :=
  let c32_i32_109_r0 : BitVec 32 := 32#32
  let true_65_r0 : BitVec 1 := 1#1
  let c1_i32_64_r0 : BitVec 32 := 1#32
  let v73_r0 : BitVec 32 := Scalar.addi arg10_r0 c1_i32_64_r0
  let v74_r0 : BitVec 32 := Scalar.select true_65_r0 v73_r0 arg10_r0
  let c2_i32_66_r0 : BitVec 32 := 2#32
  let v75_r0 : BitVec 1 := Scalar.cmpi .eq v74_r0 c2_i32_66_r0
  let c0_i32_67_r0 : BitVec 32 := 0#32
  let v76_r0 : BitVec 32 := Scalar.select v75_r0 c0_i32_67_r0 v74_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v77_r0 : BitVec 32 := Scalar.addi v76_r0 v4
  let v153_r0 : BitVec 32 := Scalar.muli c32_i32_109_r0 v77_r0
  let c0_i32_112_r0 : BitVec 32 := 0#32
  ![v153_r0.toNat, 0]
def k0_off8 (arg6_r0 : BitVec 32) : Fin 1 → Nat :=
  let c2_i32_108_r0 : BitVec 32 := 2#32
  let v152_r0 : BitVec 32 := Scalar.remui arg6_r0 c2_i32_108_r0
  ![v152_r0.toNat]
def k0_off9 (arg8_r0 : BitVec 32) : Fin 3 → Nat :=
  let c2_i32_108_r0 : BitVec 32 := 2#32
  let v152_r0 : BitVec 32 := Scalar.remui arg8_r0 c2_i32_108_r0
  let c0_i32_110_r0 : BitVec 32 := 0#32
  let c0_i32_111_r0 : BitVec 32 := 0#32
  ![v152_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v67_r0 : BitVec 32 := Scalar.addi arg10_r0 v4
  let true_65_r0 : BitVec 1 := 1#1
  let c1_i32_64_r0 : BitVec 32 := 1#32
  let v73_r0 : BitVec 32 := Scalar.addi arg10_r0 c1_i32_64_r0
  let v74_r0 : BitVec 32 := Scalar.select true_65_r0 v73_r0 arg10_r0
  let c2_i32_66_r0 : BitVec 32 := 2#32
  let v75_r0 : BitVec 1 := Scalar.cmpi .eq v74_r0 c2_i32_66_r0
  let c0_i32_67_r0 : BitVec 32 := 0#32
  let v76_r0 : BitVec 32 := Scalar.select v75_r0 c0_i32_67_r0 v74_r0
  let v77_r0 : BitVec 32 := Scalar.addi v76_r0 v4
  let v93_r0 : BitVec 1 := Scalar.cmpi .ne v67_r0 v77_r0
  let c0_i32_38_r0 : BitVec 32 := 0#32
  let c1_i32_40_r0 : BitVec 32 := 1#32
  let arg5_r0 : BitVec 32 := Scf.iv c0_i32_38_r0 c1_i32_40_r0 k0_t1
  let c1_i32_78_r0 : BitVec 32 := 1#32
  let v94_r0 : BitVec 1 := Scalar.cmpi .sge arg5_r0 c1_i32_78_r0
  let true_79_r0 : BitVec 1 := 1#1
  let v95_r0 : BitVec 1 := Scalar.xori v94_r0 true_79_r0
  let v96_r0 : BitVec 1 := Scalar.andi v93_r0 v95_r0
  let true_80_r0 : BitVec 1 := 1#1
  let v97_r0 : BitVec 1 := Scalar.andi v96_r0 true_80_r0
  let v98_r0 : BitVec 32 := Scalar.extui v97_r0
  let c0_i32_81_r0 : BitVec 32 := 0#32
  let v99_r0 : BitVec 1 := Scalar.cmpi .ne v98_r0 c0_i32_81_r0
  v99_r0

def k0_off10 (i : grid0.Coords) (arg10_r0 : BitVec 32) : Fin 2 → Nat :=
  let c1_i32_109_r0 : BitVec 32 := 1#32
  let true_65_r0 : BitVec 1 := 1#1
  let c1_i32_64_r0 : BitVec 32 := 1#32
  let v73_r0 : BitVec 32 := Scalar.addi arg10_r0 c1_i32_64_r0
  let v74_r0 : BitVec 32 := Scalar.select true_65_r0 v73_r0 arg10_r0
  let c2_i32_66_r0 : BitVec 32 := 2#32
  let v75_r0 : BitVec 1 := Scalar.cmpi .eq v74_r0 c2_i32_66_r0
  let c0_i32_67_r0 : BitVec 32 := 0#32
  let v76_r0 : BitVec 32 := Scalar.select v75_r0 c0_i32_67_r0 v74_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v77_r0 : BitVec 32 := Scalar.addi v76_r0 v4
  let v153_r0 : BitVec 32 := Scalar.muli c1_i32_109_r0 v77_r0
  let c0_i32_112_r0 : BitVec 32 := 0#32
  ![v153_r0.toNat, 0]
def k0_off11 (arg8_r0 : BitVec 32) : Fin 1 → Nat :=
  let c2_i32_108_r0 : BitVec 32 := 2#32
  let v152_r0 : BitVec 32 := Scalar.remui arg8_r0 c2_i32_108_r0
  ![v152_r0.toNat]
def k0_off12 (arg7_r0 : BitVec 32) : Fin 3 → Nat :=
  let c2_i32_109_r0 : BitVec 32 := 2#32
  let v153_r0 : BitVec 32 := Scalar.remui arg7_r0 c2_i32_109_r0
  let c0_i32_110_r0 : BitVec 32 := 0#32
  let c0_i32_111_r0 : BitVec 32 := 0#32
  ![v153_r0.toNat, 0, 0]
def k0_cond3 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v67_r0 : BitVec 32 := Scalar.addi arg10_r0 v4
  let true_61_r0 : BitVec 1 := 1#1
  let c1_i32_60_r0 : BitVec 32 := 1#32
  let v68_r0 : BitVec 32 := Scalar.subi arg10_r0 c1_i32_60_r0
  let v69_r0 : BitVec 32 := Scalar.select true_61_r0 v68_r0 arg10_r0
  let c_m1_i32_62_r0 : BitVec 32 := 4294967295#32
  let v70_r0 : BitVec 1 := Scalar.cmpi .eq v69_r0 c_m1_i32_62_r0
  let c1_i32_63_r0 : BitVec 32 := 1#32
  let v71_r0 : BitVec 32 := Scalar.select v70_r0 c1_i32_63_r0 v69_r0
  let v72_r0 : BitVec 32 := Scalar.addi v71_r0 v4
  let v103_r0 : BitVec 1 := Scalar.cmpi .ne v67_r0 v72_r0
  let c0_i32_38_r0 : BitVec 32 := 0#32
  let c1_i32_40_r0 : BitVec 32 := 1#32
  let arg5_r0 : BitVec 32 := Scf.iv c0_i32_38_r0 c1_i32_40_r0 k0_t1
  let c0_i32_58_r0 : BitVec 32 := 0#32
  let v65_r0 : BitVec 1 := Scalar.cmpi .eq arg5_r0 c0_i32_58_r0
  let v104_r0 : BitVec 1 := Scalar.ori v103_r0 v65_r0
  let c0_i32_84_r0 : BitVec 32 := 0#32
  let v105_r0 : BitVec 1 := Scalar.cmpi .sge arg5_r0 c0_i32_84_r0
  let v106_r0 : BitVec 1 := Scalar.andi v104_r0 v105_r0
  let v107_r0 : BitVec 32 := Scalar.extui v106_r0
  let c0_i32_85_r0 : BitVec 32 := 0#32
  let v108_r0 : BitVec 1 := Scalar.cmpi .ne v107_r0 c0_i32_85_r0
  v108_r0

def k0_off13 (i : grid0.Coords) (arg10_r0 : BitVec 32) : Fin 2 → Nat :=
  let c32_i32_108_r0 : BitVec 32 := 32#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v67_r0 : BitVec 32 := Scalar.addi arg10_r0 v4
  let v152_r0 : BitVec 32 := Scalar.muli c32_i32_108_r0 v67_r0
  let c0_i32_112_r0 : BitVec 32 := 0#32
  ![v152_r0.toNat, 0]
def k0_off14 (arg7_r0 : BitVec 32) : Fin 1 → Nat :=
  let c2_i32_109_r0 : BitVec 32 := 2#32
  let v153_r0 : BitVec 32 := Scalar.remui arg7_r0 c2_i32_109_r0
  ![v153_r0.toNat]
def k0_off15 (arg9_r0 : BitVec 32) : Fin 3 → Nat :=
  let c2_i32_109_r0 : BitVec 32 := 2#32
  let v153_r0 : BitVec 32 := Scalar.remui arg9_r0 c2_i32_109_r0
  let c0_i32_110_r0 : BitVec 32 := 0#32
  let c0_i32_111_r0 : BitVec 32 := 0#32
  ![v153_r0.toNat, 0, 0]
def k0_cond4 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v67_r0 : BitVec 32 := Scalar.addi arg10_r0 v4
  let true_61_r0 : BitVec 1 := 1#1
  let c1_i32_60_r0 : BitVec 32 := 1#32
  let v68_r0 : BitVec 32 := Scalar.subi arg10_r0 c1_i32_60_r0
  let v69_r0 : BitVec 32 := Scalar.select true_61_r0 v68_r0 arg10_r0
  let c_m1_i32_62_r0 : BitVec 32 := 4294967295#32
  let v70_r0 : BitVec 1 := Scalar.cmpi .eq v69_r0 c_m1_i32_62_r0
  let c1_i32_63_r0 : BitVec 32 := 1#32
  let v71_r0 : BitVec 32 := Scalar.select v70_r0 c1_i32_63_r0 v69_r0
  let v72_r0 : BitVec 32 := Scalar.addi v71_r0 v4
  let v109_r0 : BitVec 1 := Scalar.cmpi .ne v67_r0 v72_r0
  let c0_i32_38_r0 : BitVec 32 := 0#32
  let c1_i32_40_r0 : BitVec 32 := 1#32
  let arg5_r0 : BitVec 32 := Scf.iv c0_i32_38_r0 c1_i32_40_r0 k0_t1
  let c0_i32_58_r0 : BitVec 32 := 0#32
  let v65_r0 : BitVec 1 := Scalar.cmpi .eq arg5_r0 c0_i32_58_r0
  let v110_r0 : BitVec 1 := Scalar.ori v109_r0 v65_r0
  let c0_i32_86_r0 : BitVec 32 := 0#32
  let v111_r0 : BitVec 1 := Scalar.cmpi .sge arg5_r0 c0_i32_86_r0
  let v112_r0 : BitVec 1 := Scalar.andi v110_r0 v111_r0
  let v113_r0 : BitVec 32 := Scalar.extui v112_r0
  let c0_i32_87_r0 : BitVec 32 := 0#32
  let v114_r0 : BitVec 1 := Scalar.cmpi .ne v113_r0 c0_i32_87_r0
  v114_r0

def k0_off16 (i : grid0.Coords) (arg10_r0 : BitVec 32) : Fin 2 → Nat :=
  let c1_i32_108_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v67_r0 : BitVec 32 := Scalar.addi arg10_r0 v4
  let v152_r0 : BitVec 32 := Scalar.muli c1_i32_108_r0 v67_r0
  let c0_i32_112_r0 : BitVec 32 := 0#32
  ![v152_r0.toNat, 0]
def k0_off17 (arg9_r0 : BitVec 32) : Fin 1 → Nat :=
  let c2_i32_109_r0 : BitVec 32 := 2#32
  let v153_r0 : BitVec 32 := Scalar.remui arg9_r0 c2_i32_109_r0
  ![v153_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off6 arg6_r0) a + S1x32x1024.size a ≤ S2x32x1024.size a) ∧
  (∀ (k0_h1 : k0_cond1 i k0_t1 arg10_r0 = 1#1), ∀ a, (k0_off7 i arg10_r0) a + S32x1024.size a ≤ S2048x1024.size a) ∧
  (∀ (k0_h1 : k0_cond1 i k0_t1 arg10_r0 = 1#1), ∀ a, (k0_off8 arg6_r0) a + S1.size a ≤ S2.size a) ∧
  (∀ (k0_h2 : k0_cond2 i k0_t1 arg10_r0 = 1#1), ∀ a, (k0_off9 arg8_r0) a + S1x1x32.size a ≤ S2x1x32.size a) ∧
  (∀ (k0_h2 : k0_cond2 i k0_t1 arg10_r0 = 1#1), ∀ a, (k0_off10 i arg10_r0) a + S1x32.size a ≤ S64x32.size a) ∧
  (∀ (k0_h2 : k0_cond2 i k0_t1 arg10_r0 = 1#1), ∀ a, (k0_off11 arg8_r0) a + S1.size a ≤ S2.size a) ∧
  (∀ (k0_h3 : k0_cond3 i k0_t1 arg10_r0 = 1#1), ∀ a, (k0_off12 arg7_r0) a + S1x32x1024.size a ≤ S2x32x1024.size a) ∧
  (∀ (k0_h3 : k0_cond3 i k0_t1 arg10_r0 = 1#1), ∀ a, (k0_off13 i arg10_r0) a + S32x1024.size a ≤ S2048x1024.size a) ∧
  (∀ (k0_h3 : k0_cond3 i k0_t1 arg10_r0 = 1#1), ∀ a, (k0_off14 arg7_r0) a + S1.size a ≤ S2.size a) ∧
  (∀ (k0_h4 : k0_cond4 i k0_t1 arg10_r0 = 1#1), ∀ a, (k0_off15 arg9_r0) a + S1x1x32.size a ≤ S2x1x32.size a) ∧
  (∀ (k0_h4 : k0_cond4 i k0_t1 arg10_r0 = 1#1), ∀ a, (k0_off16 i arg10_r0) a + S1x32.size a ≤ S64x32.size a) ∧
  (∀ (k0_h4 : k0_cond4 i k0_t1 arg10_r0 = 1#1), ∀ a, (k0_off17 arg9_r0) a + S1.size a ≤ S2.size a)
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1x32x1024.size a ≤ S2x32x1024.size a := fun i k0_t1 arg6_r0 arg7_r0 arg8_r0 arg9_r0 arg10_r0 k0_hw1 k0_h1 => k0_hw1.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off7 i arg10_r0) a + S32x1024.size a ≤ S2048x1024.size a := fun i k0_t1 arg6_r0 arg7_r0 arg8_r0 arg9_r0 arg10_r0 k0_hw1 k0_h1 => k0_hw1.2.1 k0_h1
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off8 arg6_r0) a + S1.size a ≤ S2.size a := fun i k0_t1 arg6_r0 arg7_r0 arg8_r0 arg9_r0 arg10_r0 k0_hw1 k0_h1 => k0_hw1.2.2.1 k0_h1
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg8_r0) a + S1x1x32.size a ≤ S2x1x32.size a := fun i k0_t1 arg6_r0 arg7_r0 arg8_r0 arg9_r0 arg10_r0 k0_hw1 k0_h2 => k0_hw1.2.2.2.1 k0_h2
theorem k0_off10_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off10 i arg10_r0) a + S1x32.size a ≤ S64x32.size a := fun i k0_t1 arg6_r0 arg7_r0 arg8_r0 arg9_r0 arg10_r0 k0_hw1 k0_h2 => k0_hw1.2.2.2.2.1 k0_h2
theorem k0_off11_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off11 arg8_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h3 : k0_cond3 i k0_t1 arg10_r0 = 1#1), ∀ a, (k0_off12 arg7_r0) a + S1x32x1024.size a ≤ S2x32x1024.size a := fun i k0_t1 arg6_r0 arg7_r0 arg8_r0 arg9_r0 arg10_r0 k0_hw1 k0_h3 => k0_hw1.2.2.2.2.2.2.1 k0_h3
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h3 : k0_cond3 i k0_t1 arg10_r0 = 1#1), ∀ a, (k0_off13 i arg10_r0) a + S32x1024.size a ≤ S2048x1024.size a := fun i k0_t1 arg6_r0 arg7_r0 arg8_r0 arg9_r0 arg10_r0 k0_hw1 k0_h3 => k0_hw1.2.2.2.2.2.2.2.1 k0_h3
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h3 : k0_cond3 i k0_t1 arg10_r0 = 1#1), ∀ a, (k0_off14 arg7_r0) a + S1.size a ≤ S2.size a := fun i k0_t1 arg6_r0 arg7_r0 arg8_r0 arg9_r0 arg10_r0 k0_hw1 k0_h3 => k0_hw1.2.2.2.2.2.2.2.2.1 k0_h3
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h4 : k0_cond4 i k0_t1 arg10_r0 = 1#1), ∀ a, (k0_off15 arg9_r0) a + S1x1x32.size a ≤ S2x1x32.size a := fun i k0_t1 arg6_r0 arg7_r0 arg8_r0 arg9_r0 arg10_r0 k0_hw1 k0_h4 => k0_hw1.2.2.2.2.2.2.2.2.2.1 k0_h4
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h4 : k0_cond4 i k0_t1 arg10_r0 = 1#1), ∀ a, (k0_off16 i arg10_r0) a + S1x32.size a ≤ S64x32.size a := fun i k0_t1 arg6_r0 arg7_r0 arg8_r0 arg9_r0 arg10_r0 k0_hw1 k0_h4 => k0_hw1.2.2.2.2.2.2.2.2.2.2.1 k0_h4
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h4 : k0_cond4 i k0_t1 arg10_r0 = 1#1), ∀ a, (k0_off17 arg9_r0) a + S1.size a ≤ S2.size a := fun i k0_t1 arg6_r0 arg7_r0 arg8_r0 arg9_r0 arg10_r0 k0_hw1 k0_h4 => k0_hw1.2.2.2.2.2.2.2.2.2.2.2 k0_h4

@[reducible] def k0_t2_loop : Scf.Loop 32 :=
  let c0_i32_90_r0 : BitVec 32 := 0#32
  let c8_i32_r0 : BitVec 32 := 8#32
  let v117_r0 : BitVec 32 := Scalar.addi c0_i32_90_r0 c8_i32_r0
  let c1_i32_91_r0 : BitVec 32 := 1#32
  ⟨c0_i32_90_r0, v117_r0, c1_i32_91_r0⟩
def k0_off18 (arg7_r0 : BitVec 32) : Fin 3 → Nat :=
  let c2_i32_88_r0 : BitVec 32 := 2#32
  let v115_r0 : BitVec 32 := Scalar.remui arg7_r0 c2_i32_88_r0
  let c0_i32_110_r1 : BitVec 32 := 0#32
  let c0_i32_111_r1 : BitVec 32 := 0#32
  ![v115_r0.toNat, 0, 0]

def k0_chk2 (arg7_r0 : BitVec 32) : Prop :=
  (∀ a, (k0_off18 arg7_r0) a + S1x32x1024.size a ≤ S2x32x1024.size a)
theorem k0_off18_inb : ∀ (arg7_r0 : BitVec 32) (k0_hw2 : k0_chk2 arg7_r0), ∀ a, (k0_off18 arg7_r0) a + S1x32x1024.size a ≤ S2x32x1024.size a := fun arg7_r0 k0_hw2 => k0_hw2

def k0_off19 (k0_t2 : Fin k0_t2_loop.trips) : Fin 2 → Nat :=
  let c0_i32_112_r1 : BitVec 32 := 0#32
  let c0_i32_108_r0 : BitVec 32 := 0#32
  let c0_i32_90_r0 : BitVec 32 := 0#32
  let c1_i32_91_r0 : BitVec 32 := 1#32
  let arg11_r0 : BitVec 32 := Scf.iv c0_i32_90_r0 c1_i32_91_r0 k0_t2
  let c128_i32_r0 : BitVec 32 := 128#32
  let v152_r0 : BitVec 32 := Scalar.muli arg11_r0 c128_i32_r0
  let v153_r0 : BitVec 32 := Scalar.addi c0_i32_108_r0 v152_r0
  ![0, v153_r0.toNat]
def k0_off20 (arg9_r0 : BitVec 32) : Fin 3 → Nat :=
  let c2_i32_89_r0 : BitVec 32 := 2#32
  let v116_r0 : BitVec 32 := Scalar.remui arg9_r0 c2_i32_89_r0
  let c0_i32_113_r1 : BitVec 32 := 0#32
  let c0_i32_114_r1 : BitVec 32 := 0#32
  ![v116_r0.toNat, 0, 0]

def k0_chk3 (arg9_r0 : BitVec 32) : Prop :=
  (∀ a, (k0_off20 arg9_r0) a + S1x1x32.size a ≤ S2x1x32.size a)
theorem k0_off20_inb : ∀ (arg9_r0 : BitVec 32) (k0_hw3 : k0_chk3 arg9_r0), ∀ a, (k0_off20 arg9_r0) a + S1x1x32.size a ≤ S2x1x32.size a := fun arg9_r0 k0_hw3 => k0_hw3

def k0_off21 (k0_t2 : Fin k0_t2_loop.trips) : Fin 2 → Nat :=
  let c0_i32_116_r1 : BitVec 32 := 0#32
  let c0_i32_108_r0 : BitVec 32 := 0#32
  let c0_i32_90_r0 : BitVec 32 := 0#32
  let c1_i32_91_r0 : BitVec 32 := 1#32
  let arg11_r0 : BitVec 32 := Scf.iv c0_i32_90_r0 c1_i32_91_r0 k0_t2
  let c128_i32_r0 : BitVec 32 := 128#32
  let v152_r0 : BitVec 32 := Scalar.muli arg11_r0 c128_i32_r0
  let v153_r0 : BitVec 32 := Scalar.addi c0_i32_108_r0 v152_r0
  ![0, v153_r0.toNat]
abbrev grid1 : Pipeline.Grid := ⟨1, ![24], ![false]⟩

abbrev pre1 : Pipeline.Prefetch sig := ⟨1, ![main_v36.idx], fun | 0 => main_v36.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (k1_off1_inb : ∀ i : grid1.Coords, ∀ a, (k1_off1 i) a + S1.size a ≤ S24.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S24) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S24.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S24) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (k1_off1_inb : ∀ i : grid1.Coords, ∀ a, (k1_off1 i) a + S1.size a ≤ S24.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S24) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (k1_off1_inb : ∀ i : grid1.Coords, ∀ a, (k1_off1 i) a + S1.size a ≤ S24.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S24) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 16], ![false, false]⟩

def k2_off1 : Fin 3 → Nat :=
  let c0_i32_14_r0 : BitVec 32 := 0#32
  let c2_i32_15_r0 : BitVec 32 := 2#32
  let v21_r0 : BitVec 32 := Scalar.remui c0_i32_14_r0 c2_i32_15_r0
  let c0_i32_17_r0 : BitVec 32 := 0#32
  let c0_i32_18_r0 : BitVec 32 := 0#32
  ![v21_r0.toNat, 0, 0]
def k2_off2 (i : grid2.Coords) : Fin 2 → Nat :=
  let c1_i32_16_r0 : BitVec 32 := 1#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v7_r0 : BitVec 32 := Scalar.addi c0_i32_1_r0 v4
  let v22_r0 : BitVec 32 := Scalar.muli c1_i32_16_r0 v7_r0
  let c0_i32_19_r0 : BitVec 32 := 0#32
  ![v22_r0.toNat, 0]
def k2_off3 : Fin 1 → Nat :=
  let c0_i32_14_r0 : BitVec 32 := 0#32
  let c2_i32_15_r0 : BitVec 32 := 2#32
  let v21_r0 : BitVec 32 := Scalar.remui c0_i32_14_r0 c2_i32_15_r0
  ![v21_r0.toNat]
@[reducible] def k2_t1_loop : Scf.Loop 32 :=
  let c0_i32_29_r0 : BitVec 32 := 0#32
  let c2_i32_30_r0 : BitVec 32 := 2#32
  let v32_r0 : BitVec 32 := Scalar.addi c0_i32_29_r0 c2_i32_30_r0
  let c1_i32_31_r0 : BitVec 32 := 1#32
  ⟨c0_i32_29_r0, v32_r0, c1_i32_31_r0⟩
def k2_off4 (arg6_r0 : BitVec 32) : Fin 3 → Nat :=
  let c2_i32_103_r0 : BitVec 32 := 2#32
  let v145_r0 : BitVec 32 := Scalar.remui arg6_r0 c2_i32_103_r0
  let c0_i32_105_r0 : BitVec 32 := 0#32
  let c0_i32_106_r0 : BitVec 32 := 0#32
  ![v145_r0.toNat, 0, 0]
def k2_cond1 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v82_r0 : BitVec 1 := Scalar.cmpi .ne v66_r0 v76_r0
  let c0_i32_29_r0 : BitVec 32 := 0#32
  let c1_i32_31_r0 : BitVec 32 := 1#32
  let arg5_r0 : BitVec 32 := Scf.iv c0_i32_29_r0 c1_i32_31_r0 k2_t1
  let c1_i32_70_r0 : BitVec 32 := 1#32
  let v83_r0 : BitVec 1 := Scalar.cmpi .sge arg5_r0 c1_i32_70_r0
  let true_71_r0 : BitVec 1 := 1#1
  let v84_r0 : BitVec 1 := Scalar.xori v83_r0 true_71_r0
  let v85_r0 : BitVec 1 := Scalar.andi v82_r0 v84_r0
  let true_72_r0 : BitVec 1 := 1#1
  let v86_r0 : BitVec 1 := Scalar.andi v85_r0 true_72_r0
  let v87_r0 : BitVec 32 := Scalar.extui v86_r0
  let c0_i32_73_r0 : BitVec 32 := 0#32
  let v88_r0 : BitVec 1 := Scalar.cmpi .ne v87_r0 c0_i32_73_r0
  v88_r0

def k2_off5 (i : grid2.Coords) (arg10_r0 : BitVec 32) : Fin 2 → Nat :=
  let c1_i32_104_r0 : BitVec 32 := 1#32
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v76_r0 : BitVec 32 := Scalar.addi v75_r0 v4
  let v146_r0 : BitVec 32 := Scalar.muli c1_i32_104_r0 v76_r0
  let c0_i32_107_r0 : BitVec 32 := 0#32
  ![v146_r0.toNat, 0]
def k2_off6 (arg6_r0 : BitVec 32) : Fin 1 → Nat :=
  let c2_i32_103_r0 : BitVec 32 := 2#32
  let v145_r0 : BitVec 32 := Scalar.remui arg6_r0 c2_i32_103_r0
  ![v145_r0.toNat]
def k2_off7 (arg7_r0 : BitVec 32) : Fin 3 → Nat :=
  let c2_i32_104_r0 : BitVec 32 := 2#32
  let v146_r0 : BitVec 32 := Scalar.remui arg7_r0 c2_i32_104_r0
  let c0_i32_105_r0 : BitVec 32 := 0#32
  let c0_i32_106_r0 : BitVec 32 := 0#32
  ![v146_r0.toNat, 0, 0]
def k2_cond2 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v96_r0 : BitVec 1 := Scalar.cmpi .ne v66_r0 v71_r0
  let c0_i32_29_r0 : BitVec 32 := 0#32
  let c1_i32_31_r0 : BitVec 32 := 1#32
  let arg5_r0 : BitVec 32 := Scf.iv c0_i32_29_r0 c1_i32_31_r0 k2_t1
  let c0_i32_56_r0 : BitVec 32 := 0#32
  let v64_r0 : BitVec 1 := Scalar.cmpi .eq arg5_r0 c0_i32_56_r0
  let v97_r0 : BitVec 1 := Scalar.ori v96_r0 v64_r0
  let c0_i32_78_r0 : BitVec 32 := 0#32
  let v98_r0 : BitVec 1 := Scalar.cmpi .sge arg5_r0 c0_i32_78_r0
  let v99_r0 : BitVec 1 := Scalar.andi v97_r0 v98_r0
  let v100_r0 : BitVec 32 := Scalar.extui v99_r0
  let c0_i32_79_r0 : BitVec 32 := 0#32
  let v101_r0 : BitVec 1 := Scalar.cmpi .ne v100_r0 c0_i32_79_r0
  v101_r0

def k2_off8 (i : grid2.Coords) (arg10_r0 : BitVec 32) : Fin 2 → Nat :=
  let c1_i32_103_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let v145_r0 : BitVec 32 := Scalar.muli c1_i32_103_r0 v66_r0
  let c0_i32_107_r0 : BitVec 32 := 0#32
  ![v145_r0.toNat, 0]
def k2_off9 (arg7_r0 : BitVec 32) : Fin 1 → Nat :=
  let c2_i32_104_r0 : BitVec 32 := 2#32
  let v146_r0 : BitVec 32 := Scalar.remui arg7_r0 c2_i32_104_r0
  ![v146_r0.toNat]
@[reducible] def k2_t2_loop : Scf.Loop 32 :=
  let c0_i32_84_r0 : BitVec 32 := 0#32
  let c8_i32_r0 : BitVec 32 := 8#32
  let v110_r0 : BitVec 32 := Scalar.addi c0_i32_84_r0 c8_i32_r0
  let c1_i32_85_r0 : BitVec 32 := 1#32
  ⟨c0_i32_84_r0, v110_r0, c1_i32_85_r0⟩
def k2_off10 (arg8_r0 : BitVec 32) : Fin 3 → Nat :=
  let c2_i32_83_r0 : BitVec 32 := 2#32
  let v109_r0 : BitVec 32 := Scalar.remui arg8_r0 c2_i32_83_r0
  let c0_i32_105_r1 : BitVec 32 := 0#32
  let c0_i32_106_r1 : BitVec 32 := 0#32
  ![v109_r0.toNat, 0, 0]

def k2_chk2 (arg8_r0 : BitVec 32) : Prop :=
  (∀ a, (k2_off10 arg8_r0) a + S1x32x1024.size a ≤ S2x32x1024.size a)
theorem k2_off10_inb : ∀ (arg8_r0 : BitVec 32) (k2_hw2 : k2_chk2 arg8_r0), ∀ a, (k2_off10 arg8_r0) a + S1x32x1024.size a ≤ S2x32x1024.size a := fun arg8_r0 k2_hw2 => k2_hw2

def k2_off11 (k2_t2 : Fin k2_t2_loop.trips) : Fin 2 → Nat :=
  let c0_i32_107_r1 : BitVec 32 := 0#32
  let c0_i32_103_r0 : BitVec 32 := 0#32
  let c0_i32_84_r0 : BitVec 32 := 0#32
  let c1_i32_85_r0 : BitVec 32 := 1#32
  let arg11_r0 : BitVec 32 := Scf.iv c0_i32_84_r0 c1_i32_85_r0 k2_t2
  let c128_i32_r0 : BitVec 32 := 128#32
  let v145_r0 : BitVec 32 := Scalar.muli arg11_r0 c128_i32_r0
  let v146_r0 : BitVec 32 := Scalar.addi c0_i32_103_r0 v145_r0
  ![0, v146_r0.toNat]
def k2_off12 (arg7_r0 : BitVec 32) : Fin 3 → Nat :=
  let c2_i32_82_r0 : BitVec 32 := 2#32
  let v108_r0 : BitVec 32 := Scalar.remui arg7_r0 c2_i32_82_r0
  let c0_i32_108_r1 : BitVec 32 := 0#32
  let c0_i32_109_r1 : BitVec 32 := 0#32
  ![v108_r0.toNat, 0, 0]

def k2_chk3 (arg7_r0 : BitVec 32) : Prop :=
  (∀ a, (k2_off12 arg7_r0) a + S1x1x32.size a ≤ S2x1x32.size a)
theorem k2_off12_inb : ∀ (arg7_r0 : BitVec 32) (k2_hw3 : k2_chk3 arg7_r0), ∀ a, (k2_off12 arg7_r0) a + S1x1x32.size a ≤ S2x1x32.size a := fun arg7_r0 k2_hw3 => k2_hw3

def k2_off13 (k2_t2 : Fin k2_t2_loop.trips) : Fin 2 → Nat :=
  let c0_i32_111_r1 : BitVec 32 := 0#32
  let c0_i32_103_r0 : BitVec 32 := 0#32
  let c0_i32_84_r0 : BitVec 32 := 0#32
  let c1_i32_85_r0 : BitVec 32 := 1#32
  let arg11_r0 : BitVec 32 := Scf.iv c0_i32_84_r0 c1_i32_85_r0 k2_t2
  let c128_i32_r0 : BitVec 32 := 128#32
  let v145_r0 : BitVec 32 := Scalar.muli arg11_r0 c128_i32_r0
  let v146_r0 : BitVec 32 := Scalar.addi c0_i32_103_r0 v145_r0
  ![0, v146_r0.toNat]
def k2_off14 (arg8_r0 : BitVec 32) : Fin 3 → Nat :=
  let c2_i32_103_r0 : BitVec 32 := 2#32
  let v145_r0 : BitVec 32 := Scalar.remui arg8_r0 c2_i32_103_r0
  let c0_i32_105_r0 : BitVec 32 := 0#32
  let c0_i32_106_r0 : BitVec 32 := 0#32
  ![v145_r0.toNat, 0, 0]
def k2_cond5 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v116_r0 : BitVec 1 := Scalar.cmpi .ne v66_r0 v76_r0
  let c0_i32_29_r0 : BitVec 32 := 0#32
  let c1_i32_31_r0 : BitVec 32 := 1#32
  let arg5_r0 : BitVec 32 := Scf.iv c0_i32_29_r0 c1_i32_31_r0 k2_t1
  let c1_i32_57_r0 : BitVec 32 := 1#32
  let v65_r0 : BitVec 1 := Scalar.cmpi .eq arg5_r0 c1_i32_57_r0
  let v117_r0 : BitVec 1 := Scalar.ori v116_r0 v65_r0
  let v118_r0 : BitVec 32 := Scalar.extui v117_r0
  let c0_i32_88_r0 : BitVec 32 := 0#32
  let v119_r0 : BitVec 1 := Scalar.cmpi .ne v118_r0 c0_i32_88_r0
  v119_r0

def k2_off15 (i : grid2.Coords) (arg10_r0 : BitVec 32) : Fin 2 → Nat :=
  let c32_i32_104_r0 : BitVec 32 := 32#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let v146_r0 : BitVec 32 := Scalar.muli c32_i32_104_r0 v66_r0
  let c0_i32_107_r0 : BitVec 32 := 0#32
  ![v146_r0.toNat, 0]
def k2_off16 (arg8_r0 : BitVec 32) : Fin 1 → Nat :=
  let c2_i32_103_r0 : BitVec 32 := 2#32
  let v145_r0 : BitVec 32 := Scalar.remui arg8_r0 c2_i32_103_r0
  ![v145_r0.toNat]
def k2_off17 (arg9_r0 : BitVec 32) : Fin 3 → Nat :=
  let c2_i32_103_r0 : BitVec 32 := 2#32
  let v145_r0 : BitVec 32 := Scalar.remui arg9_r0 c2_i32_103_r0
  let c0_i32_105_r0 : BitVec 32 := 0#32
  let c0_i32_106_r0 : BitVec 32 := 0#32
  ![v145_r0.toNat, 0, 0]
def k2_cond7 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v129_r0 : BitVec 1 := Scalar.cmpi .ne v66_r0 v71_r0
  let c0_i32_29_r0 : BitVec 32 := 0#32
  let c1_i32_31_r0 : BitVec 32 := 1#32
  let arg5_r0 : BitVec 32 := Scf.iv c0_i32_29_r0 c1_i32_31_r0 k2_t1
  let c0_i32_56_r0 : BitVec 32 := 0#32
  let v64_r0 : BitVec 1 := Scalar.cmpi .eq arg5_r0 c0_i32_56_r0
  let true_94_r0 : BitVec 1 := 1#1
  let v130_r0 : BitVec 1 := Scalar.xori v64_r0 true_94_r0
  let v131_r0 : BitVec 1 := Scalar.andi v129_r0 v130_r0
  let v132_r0 : BitVec 32 := Scalar.extui v131_r0
  let c0_i32_95_r0 : BitVec 32 := 0#32
  let v133_r0 : BitVec 1 := Scalar.cmpi .ne v132_r0 c0_i32_95_r0
  v133_r0

def k2_off18 (i : grid2.Coords) (arg10_r0 : BitVec 32) : Fin 2 → Nat :=
  let c32_i32_104_r0 : BitVec 32 := 32#32
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v71_r0 : BitVec 32 := Scalar.addi v70_r0 v4
  let v146_r0 : BitVec 32 := Scalar.muli c32_i32_104_r0 v71_r0
  let c0_i32_107_r0 : BitVec 32 := 0#32
  ![v146_r0.toNat, 0]
def k2_off19 (arg9_r0 : BitVec 32) : Fin 1 → Nat :=
  let c2_i32_103_r0 : BitVec 32 := 2#32
  let v145_r0 : BitVec 32 := Scalar.remui arg9_r0 c2_i32_103_r0
  ![v145_r0.toNat]

def k2_chk1 (i : grid2.Coords) (k2_t1 : Fin k2_t1_loop.trips) (arg6_r0 : BitVec 32) (arg7_r0 : BitVec 32) (arg8_r0 : BitVec 32) (arg9_r0 : BitVec 32) (arg10_r0 : BitVec 32) : Prop :=
  (∀ (k2_h1 : k2_cond1 i k2_t1 arg10_r0 = 1#1), ∀ a, (k2_off4 arg6_r0) a + S1x1x32.size a ≤ S2x1x32.size a) ∧
  (∀ (k2_h1 : k2_cond1 i k2_t1 arg10_r0 = 1#1), ∀ a, (k2_off5 i arg10_r0) a + S1x32.size a ≤ S64x32.size a) ∧
  (∀ (k2_h1 : k2_cond1 i k2_t1 arg10_r0 = 1#1), ∀ a, (k2_off6 arg6_r0) a + S1.size a ≤ S2.size a) ∧
  (∀ (k2_h2 : k2_cond2 i k2_t1 arg10_r0 = 1#1), ∀ a, (k2_off7 arg7_r0) a + S1x1x32.size a ≤ S2x1x32.size a) ∧
  (∀ (k2_h2 : k2_cond2 i k2_t1 arg10_r0 = 1#1), ∀ a, (k2_off8 i arg10_r0) a + S1x32.size a ≤ S64x32.size a) ∧
  (∀ (k2_h2 : k2_cond2 i k2_t1 arg10_r0 = 1#1), ∀ a, (k2_off9 arg7_r0) a + S1.size a ≤ S2.size a) ∧
  (∀ (k2_h5 : k2_cond5 i k2_t1 arg10_r0 = 1#1), ∀ a, (k2_off14 arg8_r0) a + S1x32x1024.size a ≤ S2x32x1024.size a) ∧
  (∀ (k2_h5 : k2_cond5 i k2_t1 arg10_r0 = 1#1), ∀ a, (k2_off15 i arg10_r0) a + S32x1024.size a ≤ S2048x1024.size a) ∧
  (∀ (k2_h5 : k2_cond5 i k2_t1 arg10_r0 = 1#1), ∀ a, (k2_off16 arg8_r0) a + S1.size a ≤ S2.size a) ∧
  (∀ (k2_h7 : k2_cond7 i k2_t1 arg10_r0 = 1#1), ∀ a, (k2_off17 arg9_r0) a + S1x32x1024.size a ≤ S2x32x1024.size a) ∧
  (∀ (k2_h7 : k2_cond7 i k2_t1 arg10_r0 = 1#1), ∀ a, (k2_off18 i arg10_r0) a + S32x1024.size a ≤ S2048x1024.size a) ∧
  (∀ (k2_h7 : k2_cond7 i k2_t1 arg10_r0 = 1#1), ∀ a, (k2_off19 arg9_r0) a + S1.size a ≤ S2.size a)
theorem k2_off4_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off4 arg6_r0) a + S1x1x32.size a ≤ S2x1x32.size a := fun i k2_t1 arg6_r0 arg7_r0 arg8_r0 arg9_r0 arg10_r0 k2_hw1 k2_h1 => k2_hw1.1 k2_h1
theorem k2_off5_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off5 i arg10_r0) a + S1x32.size a ≤ S64x32.size a := fun i k2_t1 arg6_r0 arg7_r0 arg8_r0 arg9_r0 arg10_r0 k2_hw1 k2_h1 => k2_hw1.2.1 k2_h1
theorem k2_off6_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off6 arg6_r0) a + S1.size a ≤ S2.size a := fun i k2_t1 arg6_r0 arg7_r0 arg8_r0 arg9_r0 arg10_r0 k2_hw1 k2_h1 => k2_hw1.2.2.1 k2_h1
theorem k2_off7_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off7 arg7_r0) a + S1x1x32.size a ≤ S2x1x32.size a := fun i k2_t1 arg6_r0 arg7_r0 arg8_r0 arg9_r0 arg10_r0 k2_hw1 k2_h2 => k2_hw1.2.2.2.1 k2_h2
theorem k2_off8_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off8 i arg10_r0) a + S1x32.size a ≤ S64x32.size a := fun i k2_t1 arg6_r0 arg7_r0 arg8_r0 arg9_r0 arg10_r0 k2_hw1 k2_h2 => k2_hw1.2.2.2.2.1 k2_h2
theorem k2_off9_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off9 arg7_r0) a + S1.size a ≤ S2.size a := fun i k2_t1 arg6_r0 arg7_r0 arg8_r0 arg9_r0 arg10_r0 k2_hw1 k2_h2 => k2_hw1.2.2.2.2.2.1 k2_h2
theorem k2_off14_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off14 arg8_r0) a + S1x32x1024.size a ≤ S2x32x1024.size a := fun i k2_t1 arg6_r0 arg7_r0 arg8_r0 arg9_r0 arg10_r0 k2_hw1 k2_h5 => k2_hw1.2.2.2.2.2.2.1 k2_h5
theorem k2_off15_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off15 i arg10_r0) a + S32x1024.size a ≤ S2048x1024.size a := fun i k2_t1 arg6_r0 arg7_r0 arg8_r0 arg9_r0 arg10_r0 k2_hw1 k2_h5 => k2_hw1.2.2.2.2.2.2.2.1 k2_h5
theorem k2_off16_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off16 arg8_r0) a + S1.size a ≤ S2.size a := fun i k2_t1 arg6_r0 arg7_r0 arg8_r0 arg9_r0 arg10_r0 k2_hw1 k2_h5 => k2_hw1.2.2.2.2.2.2.2.2.1 k2_h5
theorem k2_off17_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off17 arg9_r0) a + S1x32x1024.size a ≤ S2x32x1024.size a := fun i k2_t1 arg6_r0 arg7_r0 arg8_r0 arg9_r0 arg10_r0 k2_hw1 k2_h7 => k2_hw1.2.2.2.2.2.2.2.2.2.1 k2_h7
theorem k2_off18_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off18 i arg10_r0) a + S32x1024.size a ≤ S2048x1024.size a := fun i k2_t1 arg6_r0 arg7_r0 arg8_r0 arg9_r0 arg10_r0 k2_hw1 k2_h7 => k2_hw1.2.2.2.2.2.2.2.2.2.2.1 k2_h7
theorem k2_off19_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off19 arg9_r0) a + S1.size a ≤ S2.size a := fun i k2_t1 arg6_r0 arg7_r0 arg8_r0 arg9_r0 arg10_r0 k2_hw1 k2_h7 => k2_hw1.2.2.2.2.2.2.2.2.2.2.2 k2_h7

def k2_off20 (v33_3_r0 : BitVec 32) : Fin 3 → Nat :=
  let c2_i32_49_r0 : BitVec 32 := 2#32
  let v54_r0 : BitVec 32 := Scalar.remui v33_3_r0 c2_i32_49_r0
  let c0_i32_50_r0 : BitVec 32 := 0#32
  let c0_i32_51_r0 : BitVec 32 := 0#32
  ![v54_r0.toNat, 0, 0]

def k2_off21 (i : grid2.Coords) (v33_4_r0 : BitVec 32) : Fin 2 → Nat :=
  let c32_i32_r0 : BitVec 32 := 32#32
  let true_34_r0 : BitVec 1 := 1#1
  let c1_i32_33_r0 : BitVec 32 := 1#32
  let v34_r0 : BitVec 32 := Scalar.subi v33_4_r0 c1_i32_33_r0
  let v35_r0 : BitVec 32 := Scalar.select true_34_r0 v34_r0 v33_4_r0
  let c_m1_i32_35_r0 : BitVec 32 := 4294967295#32
  let v36_r0 : BitVec 1 := Scalar.cmpi .eq v35_r0 c_m1_i32_35_r0
  let c1_i32_36_r0 : BitVec 32 := 1#32
  let v37_r0 : BitVec 32 := Scalar.select v36_r0 c1_i32_36_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v38_r0 : BitVec 32 := Scalar.addi v37_r0 v4
  let v55_r0 : BitVec 32 := Scalar.muli c32_i32_r0 v38_r0
  let c0_i32_52_r0 : BitVec 32 := 0#32
  ![v55_r0.toNat, 0]

def k2_chk5 (i : grid2.Coords) (v33_4_r0 : BitVec 32) : Prop :=
  (∀ a, (k2_off21 i v33_4_r0) a + S32x1024.size a ≤ S2048x1024.size a)
theorem k2_off21_inb : ∀ (i : grid2.Coords) (v33_4_r0 : BitVec 32) (k2_hw5 : k2_chk5 i v33_4_r0), ∀ a, (k2_off21 i v33_4_r0) a + S32x1024.size a ≤ S2048x1024.size a := fun i v33_4_r0 k2_hw5 => k2_hw5

def k2_off22 (v33_3_r0 : BitVec 32) : Fin 1 → Nat :=
  let c2_i32_49_r0 : BitVec 32 := 2#32
  let v54_r0 : BitVec 32 := Scalar.remui v33_3_r0 c2_i32_49_r0
  ![v54_r0.toNat]
def k2_off23 (v33_3_r0 : BitVec 32) : Fin 3 → Nat :=
  let c2_i32_49_r0 : BitVec 32 := 2#32
  let v54_r0 : BitVec 32 := Scalar.remui v33_3_r0 c2_i32_49_r0
  let c0_i32_54_r0 : BitVec 32 := 0#32
  let c0_i32_55_r0 : BitVec 32 := 0#32
  ![v54_r0.toNat, 0, 0]

def k2_chk4 (v33_3_r0 : BitVec 32) : Prop :=
  (∀ a, (k2_off20 v33_3_r0) a + S1x32x1024.size a ≤ S2x32x1024.size a) ∧
  (∀ a, (k2_off22 v33_3_r0) a + S1.size a ≤ S2.size a) ∧
  (∀ a, (k2_off23 v33_3_r0) a + S1x32x1024.size a ≤ S2x32x1024.size a)
theorem k2_off20_inb : ∀ (v33_3_r0 : BitVec 32) (k2_hw4 : k2_chk4 v33_3_r0), ∀ a, (k2_off20 v33_3_r0) a + S1x32x1024.size a ≤ S2x32x1024.size a := fun v33_3_r0 k2_hw4 => k2_hw4.1
theorem k2_off22_inb : ∀ (v33_3_r0 : BitVec 32) (k2_hw4 : k2_chk4 v33_3_r0), ∀ a, (k2_off22 v33_3_r0) a + S1.size a ≤ S2.size a := fun v33_3_r0 k2_hw4 => k2_hw4.2.1
theorem k2_off23_inb : ∀ (v33_3_r0 : BitVec 32) (k2_hw4 : k2_chk4 v33_3_r0), ∀ a, (k2_off23 v33_3_r0) a + S1x32x1024.size a ≤ S2x32x1024.size a := fun v33_3_r0 k2_hw4 => k2_hw4.2.2

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S2048x1024 : Shape := ⟨2, ![2048, 1024]⟩
abbrev S2048x2 : Shape := ⟨2, ![2048, 2]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S2048x1 : Shape := ⟨2, ![2048, 1]⟩
abbrev S2048 : Shape := ⟨1, ![2048]⟩
abbrev S1x8 : Shape := ⟨2, ![1, 8]⟩
abbrev S2048x8 : Shape := ⟨2, ![2048, 8]⟩
abbrev S2048x8x2048 : Shape := ⟨3, ![2048, 8, 2048]⟩
abbrev S1x8x2048 : Shape := ⟨3, ![1, 8, 2048]⟩
abbrev S_ : Shape := ⟨0, ![]⟩
abbrev S2048x8x1024 : Shape := ⟨3, ![2048, 8, 1024]⟩
abbrev S1x8x1024 : Shape := ⟨3, ![1, 8, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2, .i32⟩
  | .hbm, ⟨2, _⟩ => ⟨S8x1024x2048, .f32⟩
  | .hbm, ⟨3, _⟩ => ⟨S8x2048, .f32⟩
  | .hbm, ⟨4, _⟩ => ⟨S8x2048x1024, .f32⟩
  | .hbm, ⟨5, _⟩ => ⟨S8x1024, .f32⟩
  | .hbm, ⟨6, _⟩ => ⟨S2048x1, .i32⟩
  | .hbm, ⟨7, _⟩ => ⟨S2048, .i32⟩
  | .hbm, ⟨8, _⟩ => ⟨S2048x1, .i32⟩
  | .hbm, ⟨9, _⟩ => ⟨S1x8, .i32⟩
  | .hbm, ⟨10, _⟩ => ⟨S2048x8, .i32⟩
  | .hbm, ⟨11, _⟩ => ⟨S2048x8, .i32⟩
  | .hbm, ⟨12, _⟩ => ⟨S2048x8, .i1⟩
  | .hbm, ⟨13, _⟩ => ⟨S2048x8, .f32⟩
  | .hbm, ⟨14, _⟩ => ⟨S2048x8x2048, .f32⟩
  | .hbm, ⟨15, _⟩ => ⟨S1x8x2048, .f32⟩
  | .hbm, ⟨16, _⟩ => ⟨S2048x8x2048, .f32⟩
  | .hbm, ⟨17, _⟩ => ⟨S2048x8x2048, .f32⟩
  | .hbm, ⟨18, _⟩ => ⟨S_, .f32⟩
  | .hbm, ⟨19, _⟩ => ⟨S2048x8x2048, .f32⟩
  | .hbm, ⟨20, _⟩ => ⟨S2048x8x2048, .f32⟩
  | .hbm, ⟨21, _⟩ => ⟨S8x1024x2048, .f32⟩
  | .hbm, ⟨22, _⟩ => ⟨S2048x8x1024, .f32⟩
  | .hbm, ⟨23, _⟩ => ⟨S1x8x1024, .f32⟩
  | .hbm, ⟨24, _⟩ => ⟨S2048x8x1024, .f32⟩
  | .hbm, ⟨25, _⟩ => ⟨S2048x8x1024, .f32⟩
  | .hbm, ⟨26, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call1_cst : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]
-- ==== Proof.Common.lean ====
/-
  The program as the launch sees it, its resource algebra, and the index arithmetic its transfers share: which block of the
  arrays a tile's slot stands for.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP [FloatOps F] : Labels := Pipeline.Sig Λ₀ (Fin 1) fun p => (pcfgs (F := F) p).Adm
abbrev K [FloatOps F] : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' semaphores are four distinct ones, none of them scoped, and nothing in a SparseCore's own buffers is
    shared with its tiles by the launch. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)
abbrev MM (F : FTy → Type) : Type := MT nD τ sig (HIx 2) (Elt F) ℕ UU ℕ

abbrev EH : Emb UH (MM F) := embL
abbrev EP : Emb UP (MM F) := Emb.inl.trans embR
abbrev EC : UEmb Counters (MM F) := countersEmb

/-! ## Tiles and blocks -/

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The number of a tile's first block of 32 rows; its second is the next. -/
def bn (L : grid0.Coords) : ℕ := 2 * (L 1).val + 32 * (L 0).val

theorem bn_le (L : grid0.Coords) : bn L ≤ 62 := by
  have h0 : (L 0).val < 2 := (L 0).isLt
  have h1 : (L 1).val < 16 := (L 1).isLt
  unfold bn; omega

/-- Entry `(r, l)` of the blocked list of positions, at any pair of numbers. -/
def ixP (r l : ℕ) : S64x32.Idx := fun
  | 0 => ⟨r % 64, Nat.mod_lt _ (by decide)⟩
  | 1 => ⟨l % 32, Nat.mod_lt _ (by decide)⟩

/-- Entry `(r, l)` of an array of 3072 rows, at any pair of numbers. -/
def ixY (r l : ℕ) : S3072x1024.Idx := fun
  | 0 => ⟨r % 3072, Nat.mod_lt _ (by decide)⟩
  | 1 => ⟨l % 1024, Nat.mod_lt _ (by decide)⟩

theorem ixP_eq (x : S64x32.Idx) (r l : ℕ) (h0 : r = (x 0).val) (h1 : l = (x 1).val) : ixP r l = x := by
  subst h0 h1; funext a
  match a with
  | 0 => exact Fin.ext (Nat.mod_eq_of_lt (x 0).isLt)
  | 1 => exact Fin.ext (Nat.mod_eq_of_lt (x 1).isLt)

theorem ixP_congr {r l r' l' : ℕ} (h0 : r % 64 = r' % 64) (h1 : l % 32 = l' % 32) : ixP r l = ixP r' l' := by
  funext a
  match a with
  | 0 => exact Fin.ext h0
  | 1 => exact Fin.ext h1

theorem ixY_eq (x : S3072x1024.Idx) (r l : ℕ) (h0 : r = (x 0).val) (h1 : l = (x 1).val) : ixY r l = x := by
  subst h0 h1; funext a
  match a with
  | 0 => exact Fin.ext (Nat.mod_eq_of_lt (x 0).isLt)
  | 1 => exact Fin.ext (Nat.mod_eq_of_lt (x 1).isLt)

end Cert.Proof

end
-- ==== Proof.HostOps.lean ====
/-
  The host's straight line of operations before the first SparseCore call, as lists: the one-hot rows of the groups and their
  column sums, each token's rank in its group, the padded group sizes and their running sums, each token's row, and the
  expert of each tile.
-/
module

public import proofs.«01_k».proof.Proof.Common
public import Idealize.ShloMosaic.Lib.StableHlo.RunRead

@[expose] public section

noncomputable section

namespace Cert.Proof.Host

open Cert.KernelIdeal Cert.KernelIdeal.Gen Cert.Proof
open Idealize.ShloMosaic Idealize.ShloMosaic.TcCoe Idealize.SL Idealize.SL.Sem

variable {F : FTy → Type} [FloatOps F]

/-- The one-hot rows, their column sums and running sums. -/
abbrev opsA : List (HloOp τ sig (Elt F)) := [
  StableHlo.unary main_arg1 main_v0 ((extractStridedSlice S2048x1 ![0, 0] · slices_S2048x2_S2048x1_0_0) : (⟨S2048x2, .i32⟩ : BufTy).Contents (Elt F) → (⟨S2048x1, .i32⟩ : BufTy).Contents (Elt F)),
  StableHlo.reshape main_v0 main_v1 (rfl : (.i32 : EltTy) = .i32) shapeCasts_S2048x1_S2048,
  StableHlo.TRef.unary (.of main_v1 : StableHlo.TRef sig ⟨S2048, .i32⟩) main_call0.v0 (broadcastInDim S2048x1 ![0] bcast_S2048_S2048x1_0),
  StableHlo.TRef.nullary main_call0.v1 (iotaInDim S1x8 32 1),
  StableHlo.TRef.unary main_call0.v0 main_call0.v2 (broadcastInDim S2048x8 ![0, 1] bcast_S2048x1_S2048x8_0_1),
  StableHlo.TRef.unary main_call0.v1 main_call0.v3 (broadcastInDim S2048x8 ![0, 1] bcast_S1x8_S2048x8_0_1),
  StableHlo.TRef.binary main_call0.v2 main_call0.v3 main_call0.v4 (cmpi .eq),
  StableHlo.TRef.unary main_call0.v4 main_call0.v5 (extui 32 · natLt_1_32),
  StableHlo.nullary main_c (constantI S_ 32 0#32),
  StableHlo.binary main_v2 main_c main_v3 ((fun x v => Host.reduce IntOp.addi x v reducesTo_S2048x8_S8_d0 h_S_) : (⟨S2048x8, .i32⟩ : BufTy).Contents (Elt F) → (⟨S_, .i32⟩ : BufTy).Contents (Elt F) → (⟨S8, .i32⟩ : BufTy).Contents (Elt F)),
  StableHlo.TRef.nullary main_call1.call0.c (constantI S_ 32 0#32),
  StableHlo.TRef.unary main_call1.call0.c main_call1.call0.v0 (broadcastInDim S_ ![] bcast_S_S_),
  StableHlo.TRef.binary (.of main_v2 : StableHlo.TRef sig ⟨S2048x8, .i32⟩) main_call1.call0.v0 main_call1.call0.v1 (fun x v => Host.reduceWindow IntOp.addi ![2048, 1] ![1, 1] ![2047, 0] ![0, 0] x v reduceWindows_S2048x8_S2048x8_w2048s1p2047_0_w1s1p0_0 h_S_),
  StableHlo.binary main_v4 main_v2 main_v5 (subi : (⟨S2048x8, .i32⟩ : BufTy).Contents (Elt F) → (⟨S2048x8, .i32⟩ : BufTy).Contents (Elt F) → (⟨S2048x8, .i32⟩ : BufTy).Contents (Elt F)),
  StableHlo.unary main_v1 main_v6 (broadcastInDim S2048x1 ![0] bcast_S2048_S2048x1_0 : (⟨S2048, .i32⟩ : BufTy).Contents (Elt F) → (⟨S2048x1, .i32⟩ : BufTy).Contents (Elt F))]

/-- Each token's rank in its group. -/
abbrev opsB : List (HloOp τ sig (Elt F)) := [
  StableHlo.TRef.nullary main_call2.c (constantI S_ 32 0#32),
  StableHlo.TRef.unary main_call2.c main_call2.v0 (broadcastInDim S2048x1 ![] bcast_S_S2048x1),
  StableHlo.TRef.binary (.of main_v6 : StableHlo.TRef sig ⟨S2048x1, .i32⟩) main_call2.v0 main_call2.v1 (cmpi .slt),
  StableHlo.TRef.nullary main_call2.c_0 (constantI S_ 32 8#32),
  StableHlo.TRef.unary main_call2.c_0 main_call2.v2 (broadcastInDim S2048x1 ![] bcast_S_S2048x1),
  StableHlo.TRef.binary (.of main_v6 : StableHlo.TRef sig ⟨S2048x1, .i32⟩) main_call2.v2 main_call2.v3 addi,
  StableHlo.TRef.ternary main_call2.v1 main_call2.v3 (.of main_v6 : StableHlo.TRef sig ⟨S2048x1, .i32⟩) main_call2.v4 select,
  StableHlo.TRef.reshape main_call2.v4 main_call2.v5 (rfl : (.i32 : EltTy) = .i32) shapeCasts_S2048x1_S2048x1x1,
  StableHlo.TRef.nullary main_call2.c_1 (constantI S1 32 7#32),
  StableHlo.TRef.nullary main_call2.c_2 (constantI S_ 32 0#32),
  StableHlo.TRef.unary main_call2.c_2 main_call2.v6 (broadcastInDim S2048x1x1 ![] bcast_S_S2048x1x1),
  StableHlo.TRef.binary main_call2.v5 main_call2.v6 main_call2.v7 (cmpi .sge),
  StableHlo.TRef.unary main_call2.c_1 main_call2.v8 (broadcastInDim S1x1x1 ![2] bcast_S1_S1x1x1_2),
  StableHlo.TRef.unary main_call2.v8 main_call2.v9 (broadcastInDim S2048x1x1 ![0, 1, 2] bcast_S1x1x1_S2048x1x1_0_1_2),
  StableHlo.TRef.binary main_call2.v5 main_call2.v9 main_call2.v10 (cmpi .sle),
  StableHlo.TRef.binary main_call2.v7 main_call2.v10 main_call2.v11 andi,
  StableHlo.TRef.nullary main_call2.c_3 (constantI S_ 1 1#1),
  StableHlo.TRef.binary main_call2.v11 main_call2.c_3 main_call2.v12 (fun x v => Host.reduce IntOp.andi x v reducesTo_S2048x1x1_S2048x1_d2 h_S_),
  StableHlo.TRef.binary (.of main_v5 : StableHlo.TRef sig ⟨S2048x8, .i32⟩) main_call2.v5 main_call2.v13 (fun x i => Host.gather gather_S2048x8_S2048x1x1_S2048x1_n_1_0_0_1_2_11 x i),
  StableHlo.TRef.nullary main_call2.c_4 (constantI S_ 32 2147483648#32),
  StableHlo.TRef.unary main_call2.c_4 main_call2.v14 (broadcastInDim S2048x1 ![] bcast_S_S2048x1),
  StableHlo.TRef.ternary main_call2.v12 main_call2.v13 main_call2.v14 main_call2.v15 select,
  StableHlo.reshape main_v7 main_v8 (rfl : (.i32 : EltTy) = .i32) shapeCasts_S2048x1_S2048]

/-- The padded group sizes, their running sums and starts. -/
abbrev opsC : List (HloOp τ sig (Elt F)) := [
  StableHlo.nullary main_c_0 (constantI S_ 32 128#32),
  StableHlo.unary main_c_0 main_v9 (broadcastInDim S8 ![] bcast_S_S8 : (⟨S_, .i32⟩ : BufTy).Contents (Elt F) → (⟨S8, .i32⟩ : BufTy).Contents (Elt F)),
  StableHlo.binary main_v3 main_v9 main_v10 (addi : (⟨S8, .i32⟩ : BufTy).Contents (Elt F) → (⟨S8, .i32⟩ : BufTy).Contents (Elt F) → (⟨S8, .i32⟩ : BufTy).Contents (Elt F)),
  StableHlo.nullary main_c_1 (constantI S_ 32 1#32),
  StableHlo.unary main_c_1 main_v11 (broadcastInDim S8 ![] bcast_S_S8 : (⟨S_, .i32⟩ : BufTy).Contents (Elt F) → (⟨S8, .i32⟩ : BufTy).Contents (Elt F)),
  StableHlo.binary main_v10 main_v11 main_v12 (subi : (⟨S8, .i32⟩ : BufTy).Contents (Elt F) → (⟨S8, .i32⟩ : BufTy).Contents (Elt F) → (⟨S8, .i32⟩ : BufTy).Contents (Elt F)),
  StableHlo.nullary main_c_2 (constantI S_ 32 128#32),
  StableHlo.TRef.unary (.of main_c_2 : StableHlo.TRef sig ⟨S_, .i32⟩) main_call3.v0 id,
  StableHlo.TRef.unary main_call3.v0 main_call3.v1 (broadcastInDim S8 ![] bcast_S_S8),
  StableHlo.TRef.binary (.of main_v12 : StableHlo.TRef sig ⟨S8, .i32⟩) main_call3.v1 main_call3.v2 Host.divsi,
  StableHlo.TRef.unary (.of main_v12 : StableHlo.TRef sig ⟨S8, .i32⟩) main_call3.v3 signi,
  StableHlo.TRef.unary main_call3.v0 main_call3.v4 signi,
  StableHlo.TRef.unary main_call3.v4 main_call3.v5 (broadcastInDim S8 ![] bcast_S_S8),
  StableHlo.TRef.binary main_call3.v3 main_call3.v5 main_call3.v6 (cmpi .ne),
  StableHlo.TRef.unary main_call3.v0 main_call3.v7 (broadcastInDim S8 ![] bcast_S_S8),
  StableHlo.TRef.binary (.of main_v12 : StableHlo.TRef sig ⟨S8, .i32⟩) main_call3.v7 main_call3.v8 Host.remsi,
  StableHlo.TRef.nullary main_call3.c (constantI S_ 32 0#32),
  StableHlo.TRef.unary main_call3.c main_call3.v9 (broadcastInDim S8 ![] bcast_S_S8),
  StableHlo.TRef.binary main_call3.v8 main_call3.v9 main_call3.v10 (cmpi .ne),
  StableHlo.TRef.binary main_call3.v6 main_call3.v10 main_call3.v11 andi,
  StableHlo.TRef.nullary main_call3.c_0 (constantI S_ 32 1#32),
  StableHlo.TRef.unary main_call3.c_0 main_call3.v12 (broadcastInDim S8 ![] bcast_S_S8),
  StableHlo.TRef.binary main_call3.v2 main_call3.v12 main_call3.v13 subi,
  StableHlo.TRef.ternary main_call3.v11 main_call3.v13 main_call3.v2 main_call3.call0.v0 select,
  StableHlo.nullary main_c_3 (constantI S_ 32 128#32),
  StableHlo.unary main_c_3 main_v14 (broadcastInDim S8 ![] bcast_S_S8 : (⟨S_, .i32⟩ : BufTy).Contents (Elt F) → (⟨S8, .i32⟩ : BufTy).Contents (Elt F)),
  StableHlo.binary main_v13 main_v14 main_v15 (muli : (⟨S8, .i32⟩ : BufTy).Contents (Elt F) → (⟨S8, .i32⟩ : BufTy).Contents (Elt F) → (⟨S8, .i32⟩ : BufTy).Contents (Elt F)),
  StableHlo.TRef.nullary main_call4.call0.c (constantI S_ 32 0#32),
  StableHlo.TRef.unary main_call4.call0.c main_call4.call0.v0 (broadcastInDim S_ ![] bcast_S_S_),
  StableHlo.TRef.binary (.of main_v15 : StableHlo.TRef sig ⟨S8, .i32⟩) main_call4.call0.v0 main_call4.call0.v1 (fun x v => Host.reduceWindow IntOp.addi ![8] ![1] ![7] ![0] x v reduceWindows_S8_S8_w8s1p7_0 h_S_),
  StableHlo.binary main_v16 main_v15 main_v17 (subi : (⟨S8, .i32⟩ : BufTy).Contents (Elt F) → (⟨S8, .i32⟩ : BufTy).Contents (Elt F) → (⟨S8, .i32⟩ : BufTy).Contents (Elt F))]

/-- Each token's row. -/
abbrev opsD : List (HloOp τ sig (Elt F)) := [
  StableHlo.nullary main_c_4 (constantI S_ 32 0#32),
  StableHlo.unary main_c_4 main_v18 (broadcastInDim S2048 ![] bcast_S_S2048 : (⟨S_, .i32⟩ : BufTy).Contents (Elt F) → (⟨S2048, .i32⟩ : BufTy).Contents (Elt F)),
  StableHlo.binary main_v1 main_v18 main_v19 (cmpi .slt : (⟨S2048, .i32⟩ : BufTy).Contents (Elt F) → (⟨S2048, .i32⟩ : BufTy).Contents (Elt F) → (⟨S2048, .i1⟩ : BufTy).Contents (Elt F)),
  StableHlo.nullary main_c_5 (constantI S_ 32 8#32),
  StableHlo.unary main_c_5 main_v20 (broadcastInDim S2048 ![] bcast_S_S2048 : (⟨S_, .i32⟩ : BufTy).Contents (Elt F) → (⟨S2048, .i32⟩ : BufTy).Contents (Elt F)),
  StableHlo.binary main_v1 main_v20 main_v21 (addi : (⟨S2048, .i32⟩ : BufTy).Contents (Elt F) → (⟨S2048, .i32⟩ : BufTy).Contents (Elt F) → (⟨S2048, .i32⟩ : BufTy).Contents (Elt F)),
  StableHlo.ternary main_v19 main_v21 main_v1 main_v22 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
  StableHlo.unary main_v22 main_v23 (broadcastInDim S2048x1 ![0] bcast_S2048_S2048x1_0 : (⟨S2048, .i32⟩ : BufTy).Contents (Elt F) → (⟨S2048x1, .i32⟩ : BufTy).Contents (Elt F)),
  StableHlo.binary main_v17 main_v23 main_v24 ((fun x i => Host.gather gather_S8_S2048x1_S2048_n_0_n_n_0_1_1 x i) : (⟨S8, .i32⟩ : BufTy).Contents (Elt F) → (⟨S2048x1, .i32⟩ : BufTy).Contents (Elt F) → (⟨S2048, .i32⟩ : BufTy).Contents (Elt F)),
  StableHlo.binary main_v24 main_v8 main_v25 (addi : (⟨S2048, .i32⟩ : BufTy).Contents (Elt F) → (⟨S2048, .i32⟩ : BufTy).Contents (Elt F) → (⟨S2048, .i32⟩ : BufTy).Contents (Elt F))]

/-- The expert of each tile. -/
abbrev opsE : List (HloOp τ sig (Elt F)) := [
  StableHlo.nullary main_v26 (iotaInDim S24 32 0),
  StableHlo.nullary main_c_6 (constantI S_ 32 128#32),
  StableHlo.unary main_c_6 main_v27 (broadcastInDim S24 ![] bcast_S_S24 : (⟨S_, .i32⟩ : BufTy).Contents (Elt F) → (⟨S24, .i32⟩ : BufTy).Contents (Elt F)),
  StableHlo.binary main_v26 main_v27 main_v28 (muli : (⟨S24, .i32⟩ : BufTy).Contents (Elt F) → (⟨S24, .i32⟩ : BufTy).Contents (Elt F) → (⟨S24, .i32⟩ : BufTy).Contents (Elt F)),
  StableHlo.unary main_v16 main_v29 (broadcastInDim S1x8 ![1] bcast_S8_S1x8_1 : (⟨S8, .i32⟩ : BufTy).Contents (Elt F) → (⟨S1x8, .i32⟩ : BufTy).Contents (Elt F)),
  StableHlo.unary main_v28 main_v30 (broadcastInDim S24x1 ![0] bcast_S24_S24x1_0 : (⟨S24, .i32⟩ : BufTy).Contents (Elt F) → (⟨S24x1, .i32⟩ : BufTy).Contents (Elt F)),
  StableHlo.unary main_v29 main_v31 (broadcastInDim S24x8 ![0, 1] bcast_S1x8_S24x8_0_1 : (⟨S1x8, .i32⟩ : BufTy).Contents (Elt F) → (⟨S24x8, .i32⟩ : BufTy).Contents (Elt F)),
  StableHlo.unary main_v30 main_v32 (broadcastInDim S24x8 ![0, 1] bcast_S24x1_S24x8_0_1 : (⟨S24x1, .i32⟩ : BufTy).Contents (Elt F) → (⟨S24x8, .i32⟩ : BufTy).Contents (Elt F)),
  StableHlo.binary main_v31 main_v32 main_v33 (cmpi .sle : (⟨S24x8, .i32⟩ : BufTy).Contents (Elt F) → (⟨S24x8, .i32⟩ : BufTy).Contents (Elt F) → (⟨S24x8, .i1⟩ : BufTy).Contents (Elt F)),
  StableHlo.unary main_v33 main_v34 ((extui 32 · natLt_1_32) : (⟨S24x8, .i1⟩ : BufTy).Contents (Elt F) → (⟨S24x8, .i32⟩ : BufTy).Contents (Elt F)),
  StableHlo.nullary main_c_7 (constantI S_ 32 0#32),
  StableHlo.binary main_v34 main_c_7 main_v35 ((fun x v => Host.reduce IntOp.addi x v reducesTo_S24x8_S24_d1 h_S_) : (⟨S24x8, .i32⟩ : BufTy).Contents (Elt F) → (⟨S_, .i32⟩ : BufTy).Contents (Elt F) → (⟨S24, .i32⟩ : BufTy).Contents (Elt F)),
  StableHlo.nullary main_c_8 (constantI S_ 32 0#32),
  StableHlo.nullary main_c_9 (constantI S_ 32 7#32),
  StableHlo.TRef.unary (.of main_c_8 : StableHlo.TRef sig ⟨S_, .i32⟩) main_call5.v0 id,
  StableHlo.TRef.unary main_call5.v0 main_call5.v1 (broadcastInDim S24 ![] bcast_S_S24),
  StableHlo.TRef.binary main_call5.v1 (.of main_v35 : StableHlo.TRef sig ⟨S24, .i32⟩) main_call5.v2 maxsi,
  StableHlo.TRef.unary (.of main_c_9 : StableHlo.TRef sig ⟨S_, .i32⟩) main_call5.v3 id,
  StableHlo.TRef.unary main_call5.v3 main_call5.v4 (broadcastInDim S24 ![] bcast_S_S24),
  StableHlo.TRef.binary main_call5.v4 main_call5.v2 main_call5.v5 minsi]

/-- The rows, cut in blocks of 32. -/
abbrev opsF : List (HloOp τ sig (Elt F)) := [
  StableHlo.reshape main_v25 main_v37 (rfl : (.i32 : EltTy) = .i32) shapeCasts_S2048_S64x32]

/-- The line. -/
abbrev ops : List (HloOp τ sig (Elt F)) := opsA ++ opsB ++ opsC ++ opsD ++ opsE ++ opsF

/-- The line after the first SparseCore call. -/
abbrev opsG : List (HloOp τ sig (Elt F)) := [
  StableHlo.reshape main_arg3 main_v39 (rfl : (.f32 : EltTy) = .f32) shapeCasts_S8x2048_S8x1x2048,
  StableHlo.reshape main_arg5 main_v40 (rfl : (.f32 : EltTy) = .f32) shapeCasts_S8x1024_S8x1x1024]

/-- The line before the second SparseCore call. -/
abbrev opsH : List (HloOp τ sig (Elt F)) := [StableHlo.reshape main_v25 main_v42 (rfl : (.i32 : EltTy) = .i32) shapeCasts_S2048_S64x32]

set_option maxHeartbeats 4000000 in
theorem main_eq (d : Dev nD) : main (F := F) d
    = StableHlo.seq ops >>= fun _ => sc.run d 0 >>= fun _ => StableHlo.seq opsG >>= fun _ =>
        Prog.lift (.customCall (SparseCore.inner (Pipeline.entry 0)) ()) >>= fun _ => StableHlo.seq opsH >>= fun _ => sc.run d 1 >>= fun _ => pure ⟨⟩ := by
  rfl

end Cert.Proof.Host
-- ==== Proof.HostRead.lean ====
/-
  What the host's line leaves in each array it hands on, as an array of those it starts from.
-/
module

public import proofs.«01_k».proof.Proof.HostOps
public import Idealize.ShloMosaic.Lib.Routing.Words

@[expose] public section

set_option maxHeartbeats 400000

noncomputable section

namespace Cert.Proof.Host

open Cert.KernelIdeal Cert.KernelIdeal.Gen Cert.Proof
open Idealize.ShloMosaic Idealize.ShloMosaic.TcCoe Idealize.SL Idealize.SL.Sem

variable {F : FTy → Type} [FloatOps F]

/-- Each token's group. -/
def a1 (G : S2048x2.Idx → BitVec 32) : S2048.Idx → BitVec 32 :=
  shapeCast S2048 (extractStridedSlice S2048x1 ![0, 0] G slices_S2048x2_S2048x1_0_0) shapeCasts_S2048x1_S2048

/-- The one-hot rows, as bits. -/
def hot (x : S2048.Idx → BitVec 32) : IVec S2048x8 1 :=
  cmpi .eq (broadcastInDim S2048x8 ![0, 1] bcast_S2048x1_S2048x8_0_1 (broadcastInDim S2048x1 ![0] bcast_S2048_S2048x1_0 x))
    (broadcastInDim S2048x8 ![0, 1] bcast_S1x8_S2048x8_0_1 (iotaInDim S1x8 32 1))

/-- The group sizes. -/
def a3 (x : S2048.Idx → BitVec 32) : S8.Idx → BitVec 32 :=
  Host.reduce IntOp.addi (extui 32 (hot x) natLt_1_32) (constantI S_ 32 0#32) reducesTo_S2048x8_S8_d0 h_S_

/-- The running sums of the one-hot rows, before each row. -/
def a5 (x : S2048.Idx → BitVec 32) : S2048x8.Idx → BitVec 32 :=
  subi (Host.reduceWindow IntOp.addi ![2048, 1] ![1, 1] ![2047, 0] ![0, 0] (extui 32 (hot x) natLt_1_32)
    (broadcastInDim S_ ![] bcast_S_S_ (constantI S_ 32 0#32)) reduceWindows_S2048x8_S2048x8_w2048s1p2047_0_w1s1p0_0 h_S_) (extui 32 (hot x) natLt_1_32)

/-- A column of indices, a negative one taken from the end. -/
def fix (c : S2048x1.Idx → BitVec 32) : S2048x1x1.Idx → BitVec 32 :=
  shapeCast S2048x1x1 (select (cmpi .slt c (broadcastInDim S2048x1 ![] bcast_S_S2048x1 (constantI S_ 32 0#32)))
    (addi c (broadcastInDim S2048x1 ![] bcast_S_S2048x1 (constantI S_ 32 8#32))) c) shapeCasts_S2048x1_S2048x1x1

/-- Which indices are in range. -/
def inR (i : S2048x1x1.Idx → BitVec 32) : IVec S2048x1x1 1 :=
  andi (cmpi .sge i (broadcastInDim S2048x1x1 ![] bcast_S_S2048x1x1 (constantI S_ 32 0#32)))
    (cmpi .sle i (broadcastInDim S2048x1x1 ![0, 1, 2] bcast_S1x1x1_S2048x1x1_0_1_2 (broadcastInDim S1x1x1 ![2] bcast_S1_S1x1x1_2 (constantI S1 32 7#32))))

/-- The entry of each row at the row's index. -/
def a8 (r : S2048x8.Idx → BitVec 32) (c : S2048x1.Idx → BitVec 32) : S2048.Idx → BitVec 32 :=
  shapeCast S2048 (select (Host.reduce IntOp.andi (inR (fix c)) (constantI S_ 1 1#1) reducesTo_S2048x1x1_S2048x1_d2 h_S_)
    (Host.gather gather_S2048x8_S2048x1x1_S2048x1_n_1_0_0_1_2_11 r (fix c))
    (broadcastInDim S2048x1 ![] bcast_S_S2048x1 (constantI S_ 32 2147483648#32))) shapeCasts_S2048x1_S2048

/-- The sizes in whole tiles. -/
def a15 (x : S8.Idx → BitVec 32) : S8.Idx → BitVec 32 :=
  muli (Routing.pyDiv bcast_S_S8 (subi (addi x (broadcastInDim S8 ![] bcast_S_S8 (constantI S_ 32 128#32)))
    (broadcastInDim S8 ![] bcast_S_S8 (constantI S_ 32 1#32))) (constantI S_ 32 128#32)) (broadcastInDim S8 ![] bcast_S_S8 (constantI S_ 32 128#32))

/-- Their running sums. -/
def a16 (x : S8.Idx → BitVec 32) : S8.Idx → BitVec 32 :=
  Host.reduceWindow IntOp.addi ![8] ![1] ![7] ![0] (a15 x) (broadcastInDim S_ ![] bcast_S_S_ (constantI S_ 32 0#32)) reduceWindows_S8_S8_w8s1p7_0 h_S_

/-- Each token's row. -/
def a25 (x : S2048.Idx → BitVec 32) (s : S8.Idx → BitVec 32) (r : S2048.Idx → BitVec 32) : S2048.Idx → BitVec 32 :=
  addi (Host.gather gather_S8_S2048x1_S2048_n_0_n_n_0_1_1 s (broadcastInDim S2048x1 ![0] bcast_S2048_S2048x1_0
    (select (cmpi .slt x (broadcastInDim S2048 ![] bcast_S_S2048 (constantI S_ 32 0#32)))
      (addi x (broadcastInDim S2048 ![] bcast_S_S2048 (constantI S_ 32 8#32))) x))) r

/-- Where each tile starts against where each group ends. -/
def sle (x : S8.Idx → BitVec 32) : IVec S24x8 1 :=
  cmpi .sle (broadcastInDim S24x8 ![0, 1] bcast_S1x8_S24x8_0_1 (broadcastInDim S1x8 ![1] bcast_S8_S1x8_1 x))
    (broadcastInDim S24x8 ![0, 1] bcast_S24x1_S24x8_0_1 (broadcastInDim S24x1 ![0] bcast_S24_S24x1_0
      (muli (iotaInDim S24 32 0) (broadcastInDim S24 ![] bcast_S_S24 (constantI S_ 32 128#32)))))

/-- The expert of each tile. -/
def a36 (x : S8.Idx → BitVec 32) : S24.Idx → BitVec 32 :=
  minsi (broadcastInDim S24 ![] bcast_S_S24 (constantI S_ 32 7#32)) (maxsi (broadcastInDim S24 ![] bcast_S_S24 (constantI S_ 32 0#32))
    (Host.reduce IntOp.addi (extui 32 (sle x) natLt_1_32) (constantI S_ 32 0#32) reducesTo_S24x8_S24_d1 h_S_))

variable (V : Valuation τ sig (Elt F))

theorem A_v1 : StableHlo.after opsA V (Proc.devRef .tc main_v1) = a1 (V (Proc.devRef .tc main_arg1)) := by after_reads_simp; (try simp -implicitDefEqProofs only [StableHlo.TRef.toBuf, StableHlo.TRef.ofBuf, cast_cast, cast_eq, id_eq]); rfl
theorem A_v3 : StableHlo.after opsA V (Proc.devRef .tc main_v3) = a3 (a1 (V (Proc.devRef .tc main_arg1))) := by after_reads_simp; (try simp -implicitDefEqProofs only [StableHlo.TRef.toBuf, StableHlo.TRef.ofBuf, cast_cast, cast_eq, id_eq]); rfl
theorem A_v5 : StableHlo.after opsA V (Proc.devRef .tc main_v5) = a5 (a1 (V (Proc.devRef .tc main_arg1))) := by after_reads_simp; (try simp -implicitDefEqProofs only [StableHlo.TRef.toBuf, StableHlo.TRef.ofBuf, cast_cast, cast_eq, id_eq]); rfl
theorem A_v6 : StableHlo.after opsA V (Proc.devRef .tc main_v6) = broadcastInDim S2048x1 ![0] bcast_S2048_S2048x1_0 (a1 (V (Proc.devRef .tc main_arg1))) := by
  after_reads_simp; (try simp -implicitDefEqProofs only [StableHlo.TRef.toBuf, StableHlo.TRef.ofBuf, cast_cast, cast_eq, id_eq]); rfl
theorem B_v8 : StableHlo.after opsB V (Proc.devRef .tc main_v8) = a8 (V (Proc.devRef .tc main_v5)) (V (Proc.devRef .tc main_v6)) := by
  after_reads_simp; (try simp -implicitDefEqProofs only [StableHlo.TRef.toBuf, StableHlo.TRef.ofBuf, cast_cast, cast_eq, id_eq]); rfl
theorem B_v1 : StableHlo.after opsB V (Proc.devRef .tc main_v1) = V (Proc.devRef .tc main_v1) := by after_reads_simp
theorem B_v3 : StableHlo.after opsB V (Proc.devRef .tc main_v3) = V (Proc.devRef .tc main_v3) := by after_reads_simp
theorem C_v16 : StableHlo.after opsC V (Proc.devRef .tc main_v16) = a16 (V (Proc.devRef .tc main_v3)) := by after_reads_simp; (try simp -implicitDefEqProofs only [StableHlo.TRef.toBuf, StableHlo.TRef.ofBuf, cast_cast, cast_eq, id_eq]); rfl
theorem C_v17 : StableHlo.after opsC V (Proc.devRef .tc main_v17) = subi (a16 (V (Proc.devRef .tc main_v3))) (a15 (V (Proc.devRef .tc main_v3))) := by
  after_reads_simp; (try simp -implicitDefEqProofs only [StableHlo.TRef.toBuf, StableHlo.TRef.ofBuf, cast_cast, cast_eq, id_eq]); rfl
theorem C_v1 : StableHlo.after opsC V (Proc.devRef .tc main_v1) = V (Proc.devRef .tc main_v1) := by after_reads_simp
theorem C_v8 : StableHlo.after opsC V (Proc.devRef .tc main_v8) = V (Proc.devRef .tc main_v8) := by after_reads_simp
theorem D_v25 : StableHlo.after opsD V (Proc.devRef .tc main_v25)
    = a25 (V (Proc.devRef .tc main_v1)) (V (Proc.devRef .tc main_v17)) (V (Proc.devRef .tc main_v8)) := by after_reads_simp; (try simp -implicitDefEqProofs only [StableHlo.TRef.toBuf, StableHlo.TRef.ofBuf, cast_cast, cast_eq, id_eq]); rfl
theorem D_v16 : StableHlo.after opsD V (Proc.devRef .tc main_v16) = V (Proc.devRef .tc main_v16) := by after_reads_simp
theorem E_v36 : StableHlo.after opsE V (Proc.devRef .tc main_v36) = a36 (V (Proc.devRef .tc main_v16)) := by after_reads_simp; (try simp -implicitDefEqProofs only [StableHlo.TRef.toBuf, StableHlo.TRef.ofBuf, cast_cast, cast_eq, id_eq]); rfl
theorem E_v25 : StableHlo.after opsE V (Proc.devRef .tc main_v25) = V (Proc.devRef .tc main_v25) := by after_reads_simp
theorem F_v37 : StableHlo.after opsF V (Proc.devRef .tc main_v37) = shapeCast S64x32 (V (Proc.devRef .tc main_v25)) shapeCasts_S2048_S64x32 := by
  after_reads_simp; rfl
theorem F_v25 : StableHlo.after opsF V (Proc.devRef .tc main_v25) = V (Proc.devRef .tc main_v25) := by after_reads_simp
theorem F_v36 : StableHlo.after opsF V (Proc.devRef .tc main_v36) = V (Proc.devRef .tc main_v36) := by after_reads_simp

/-- The group sizes in whole tiles, their running sums, each token's row and each tile's expert, of the routing table. -/
def ends (G : S2048x2.Idx → BitVec 32) : S8.Idx → BitVec 32 := a16 (a3 (a1 G))
def rows (G : S2048x2.Idx → BitVec 32) : S2048.Idx → BitVec 32 :=
  a25 (a1 G) (subi (a16 (a3 (a1 G))) (a15 (a3 (a1 G)))) (a8 (a5 (a1 G)) (broadcastInDim S2048x1 ![0] bcast_S2048_S2048x1_0 (a1 G)))
def experts (G : S2048x2.Idx → BitVec 32) : S24.Idx → BitVec 32 := a36 (ends G)

theorem after_append (l l' : List (HloOp τ sig (Elt F))) (V : Valuation τ sig (Elt F)) :
    StableHlo.after (l ++ l') V = StableHlo.after l' (StableHlo.after l V) := by
  induction l generalizing V with
  | nil => rfl
  | cons o l ih => exact ih _

theorem ops_v25 : StableHlo.after ops V (Proc.devRef .tc main_v25) = rows (V (Proc.devRef .tc main_arg1)) := by
  unfold ops
  rw [after_append, after_append, after_append, after_append, after_append, F_v25, E_v25, D_v25, C_v1, C_v17, C_v8, B_v1, B_v3, B_v8, A_v1, A_v3, A_v5, A_v6]
  rfl
theorem ops_v37 : StableHlo.after ops V (Proc.devRef .tc main_v37) = shapeCast S64x32 (rows (V (Proc.devRef .tc main_arg1))) shapeCasts_S2048_S64x32 := by
  unfold ops
  rw [after_append, after_append, after_append, after_append, after_append, F_v37, E_v25, D_v25, C_v1, C_v17, C_v8, B_v1, B_v3, B_v8, A_v1, A_v3, A_v5, A_v6]
  rfl
theorem ops_v36 : StableHlo.after ops V (Proc.devRef .tc main_v36) = experts (V (Proc.devRef .tc main_arg1)) := by
  unfold ops
  rw [after_append, after_append, after_append, after_append, after_append, F_v36, E_v36, D_v16, C_v16, B_v3, A_v3]
  rfl

theorem G_v39 : StableHlo.after opsG V (Proc.devRef .tc main_v39) = shapeCast S8x1x2048 (V (Proc.devRef .tc main_arg3)) shapeCasts_S8x2048_S8x1x2048 := by
  after_reads_simp; rfl
theorem G_v40 : StableHlo.after opsG V (Proc.devRef .tc main_v40) = shapeCast S8x1x1024 (V (Proc.devRef .tc main_arg5)) shapeCasts_S8x1024_S8x1x1024 := by
  after_reads_simp; rfl
theorem H_v42 : StableHlo.after opsH V (Proc.devRef .tc main_v42) = shapeCast S64x32 (V (Proc.devRef .tc main_v25)) shapeCasts_S2048_S64x32 := by
  after_reads_simp; rfl

end Cert.Proof.Host
-- ==== Proof.HostFrame.lean ====
/-
  What the host's straight lines leave alone: they touch unscoped buffers only, hand out no fresh contents, and keep the
  program's arguments and the arrays later calls read.
-/
module

public import proofs.«01_k».proof.Proof.HostRead
public import Idealize.ShloMosaic.Lib.Pipeline.Frame

@[expose] public section

noncomputable section

namespace Cert.Proof.Host

open Cert.KernelIdeal Cert.KernelIdeal.Gen Cert.Proof
open Idealize.ShloMosaic Idealize.ShloMosaic.TcCoe Idealize.SL Idealize.SL.Sem

variable {F : FTy → Type} [FloatOps F]

/-- A line that touches TensorCore buffers only and hands out nothing fresh. -/
def Plain (l : List (HloOp τ sig (Elt F))) : Prop := ∀ op ∈ l, op.bufs ⊆ StableHlo.tcRefs τ sig ∧ op.fresh = ∅

theorem Plain.append {l l' : List (HloOp τ sig (Elt F))} (h : Plain l) (h' : Plain l') : Plain (l ++ l') :=
  fun op hop => (List.mem_append.mp hop).elim (h op) (h' op)

theorem Plain.cons {o : HloOp τ sig (Elt F)} {l : List (HloOp τ sig (Elt F))} (h : o.bufs ⊆ StableHlo.tcRefs τ sig) (hf : o.fresh = ∅) (h' : Plain l) : Plain (o :: l) :=
  fun op hop => (List.mem_cons.mp hop).elim (fun e => e ▸ ⟨h, hf⟩) (h' op)

theorem Plain.nil : Plain ([] : List (HloOp τ sig (Elt F))) := fun _ h => (List.not_mem_nil h).elim

theorem plainA : Plain (opsA : List (HloOp τ sig (Elt F))) := by
  unfold opsA
  repeat (first | exact Plain.nil | refine Plain.cons (by simp) rfl ?_)
theorem plainB : Plain (opsB : List (HloOp τ sig (Elt F))) := by
  unfold opsB
  repeat (first | exact Plain.nil | refine Plain.cons (by simp) rfl ?_)
theorem plainC : Plain (opsC : List (HloOp τ sig (Elt F))) := by
  unfold opsC
  repeat (first | exact Plain.nil | refine Plain.cons (by simp) rfl ?_)
theorem plainD : Plain (opsD : List (HloOp τ sig (Elt F))) := by
  unfold opsD
  repeat (first | exact Plain.nil | refine Plain.cons (by simp) rfl ?_)
theorem plainE : Plain (opsE : List (HloOp τ sig (Elt F))) := by
  unfold opsE
  repeat (first | exact Plain.nil | refine Plain.cons (by simp) rfl ?_)
theorem plainF : Plain (opsF : List (HloOp τ sig (Elt F))) := by
  unfold opsF
  repeat (first | exact Plain.nil | refine Plain.cons (by simp) rfl ?_)
theorem plainG : Plain (opsG : List (HloOp τ sig (Elt F))) := by
  unfold opsG
  repeat (first | exact Plain.nil | refine Plain.cons (by simp) rfl ?_)
theorem plainH : Plain (opsH : List (HloOp τ sig (Elt F))) := by
  unfold opsH
  repeat (first | exact Plain.nil | refine Plain.cons (by simp) rfl ?_)
theorem plain : Plain (ops : List (HloOp τ sig (Elt F))) :=
  ((((plainA.append plainB).append plainC).append plainD).append plainE).append plainF

theorem Plain.sub {l : List (HloOp τ sig (Elt F))} (h : Plain l) : ∀ op ∈ l, op.bufs ⊆ Pipeline.ucRefs τ sig := fun op hop => Pipeline.sub_ucRefs op (h op hop).1
theorem Plain.fresh {l : List (HloOp τ sig (Elt F))} (h : Plain l) : ∀ op ∈ l, op.fresh = ∅ := fun op hop => (h op hop).2

/-- The program's arguments. -/
abbrev args : List (Ref sig .tc) := [main_arg0, main_arg1, main_arg2, main_arg3, main_arg4, main_arg5]

variable (V : Valuation τ sig (Elt F))

theorem keepA : ∀ r ∈ args, StableHlo.after opsA V (Proc.devRef .tc r) = V (Proc.devRef .tc r) := by
  simp only [args, List.forall_mem_cons, List.not_mem_nil, false_imp_iff, implies_true, and_true]
  refine ⟨?_, ?_, ?_, ?_, ?_, ?_⟩ <;> after_reads_simp
theorem keepB : ∀ r ∈ args, StableHlo.after opsB V (Proc.devRef .tc r) = V (Proc.devRef .tc r) := by
  simp only [args, List.forall_mem_cons, List.not_mem_nil, false_imp_iff, implies_true, and_true]
  refine ⟨?_, ?_, ?_, ?_, ?_, ?_⟩ <;> after_reads_simp
theorem keepC : ∀ r ∈ args, StableHlo.after opsC V (Proc.devRef .tc r) = V (Proc.devRef .tc r) := by
  simp only [args, List.forall_mem_cons, List.not_mem_nil, false_imp_iff, implies_true, and_true]
  refine ⟨?_, ?_, ?_, ?_, ?_, ?_⟩ <;> after_reads_simp
theorem keepD : ∀ r ∈ args, StableHlo.after opsD V (Proc.devRef .tc r) = V (Proc.devRef .tc r) := by
  simp only [args, List.forall_mem_cons, List.not_mem_nil, false_imp_iff, implies_true, and_true]
  refine ⟨?_, ?_, ?_, ?_, ?_, ?_⟩ <;> after_reads_simp
theorem keepE : ∀ r ∈ args, StableHlo.after opsE V (Proc.devRef .tc r) = V (Proc.devRef .tc r) := by
  simp only [args, List.forall_mem_cons, List.not_mem_nil, false_imp_iff, implies_true, and_true]
  refine ⟨?_, ?_, ?_, ?_, ?_, ?_⟩ <;> after_reads_simp
theorem keepF : ∀ r ∈ args, StableHlo.after opsF V (Proc.devRef .tc r) = V (Proc.devRef .tc r) := by
  simp only [args, List.forall_mem_cons, List.not_mem_nil, false_imp_iff, implies_true, and_true]
  refine ⟨?_, ?_, ?_, ?_, ?_, ?_⟩ <;> after_reads_simp

theorem keep : ∀ r ∈ args, StableHlo.after ops V (Proc.devRef .tc r) = V (Proc.devRef .tc r) := by
  intro r h
  unfold ops
  rw [after_append, after_append, after_append, after_append, after_append, keepF _ r h, keepE _ r h, keepD _ r h, keepC _ r h, keepB _ r h, keepA _ r h]

/-- What the line after the first SparseCore call keeps. -/
theorem keepG : ∀ r ∈ main_v25 :: main_v36 :: main_v38 :: args, StableHlo.after opsG V (Proc.devRef .tc r) = V (Proc.devRef .tc r) := by
  simp only [args, List.forall_mem_cons, List.not_mem_nil, false_imp_iff, implies_true, and_true]
  refine ⟨?_, ?_, ?_, ?_, ?_, ?_, ?_, ?_, ?_⟩ <;> after_reads_simp

/-- What the line before the second SparseCore call keeps. -/
theorem keepH : ∀ r ∈ main_v41 :: args, StableHlo.after opsH V (Proc.devRef .tc r) = V (Proc.devRef .tc r) := by
  simp only [args, List.forall_mem_cons, List.not_mem_nil, false_imp_iff, implies_true, and_true]
  refine ⟨?_, ?_, ?_, ?_, ?_, ?_, ?_⟩ <;> after_reads_simp

end Cert.Proof.Host

end
-- ==== Proof.Routing.lean ====
/-
  The routing, on natural numbers: tokens t < 2048 with groups g t < 8. Each group is padded to whole tiles of 128 rows, the
  padded groups follow one another, and a token's row is its group's start plus its rank in the group. No two tokens share a row,
  every row lies below 3072, and the tile of a token's row belongs to the token's group.
-/
module

public import Idealize.ShloMosaic.Lib.Routing.Count
public import Idealize.ShloMosaic.Lib.Routing.Ops

@[expose] public section

namespace Cert.Proof.Routing

variable (g : ℕ → ℕ)

/-- The size of group e. -/
def cnt (e : ℕ) : ℕ := Nat.count (fun t => g t = e) 2048

/-- The tokens of t's group before t. -/
def rank (t : ℕ) : ℕ := Nat.count (fun s => g s = g t) t

/-- The size of group e in whole tiles. -/
def pad (e : ℕ) : ℕ := (cnt g e + 127) / 128 * 128

/-- Where group e ends. -/
def pend (e : ℕ) : ℕ := ((List.range (e + 1)).map (pad g)).sum

/-- The row of token t. -/
def pos (t : ℕ) : ℕ := pend g (g t) - pad g (g t) + rank g t

/-- The expert of tile i. -/
def te (i : ℕ) : ℕ := min 7 (Nat.count (fun e => pend g e ≤ i * 128) 8)

theorem pend_succ (e : ℕ) : pend g (e + 1) = pend g e + pad g (e + 1) := by
  simp [pend, List.range_succ (n := e + 1)]

theorem pend_zero : pend g 0 = pad g 0 := by simp [pend]

theorem pend_mono {e e' : ℕ} (h : e ≤ e') : pend g e ≤ pend g e' := by
  induction e', h using Nat.le_induction with
  | base => rfl
  | succ n _ ih => rw [pend_succ]; omega

theorem dvd_pad (e : ℕ) : 128 ∣ pad g e := Dvd.intro_left _ rfl

theorem dvd_pend (e : ℕ) : 128 ∣ pend g e := by
  induction e with
  | zero => rw [pend_zero]; exact dvd_pad g 0
  | succ n ih => rw [pend_succ]; exact Nat.dvd_add ih (dvd_pad g _)

theorem pad_le_pend (e : ℕ) : pad g e ≤ pend g e := by
  cases e with
  | zero => rw [pend_zero]
  | succ n => rw [pend_succ]; omega

theorem pend_le_start {e e' : ℕ} (h : e < e') : pend g e ≤ pend g e' - pad g e' := by
  obtain ⟨n, rfl⟩ : ∃ n, e' = n + 1 := ⟨e' - 1, by omega⟩
  rw [pend_succ]
  have := pend_mono g (show e ≤ n by omega)
  omega

theorem cnt_le_pad (e : ℕ) : cnt g e ≤ pad g e := by unfold pad; omega

theorem pad_le (e : ℕ) : pad g e ≤ cnt g e + 127 := by unfold pad; omega

theorem count_le_sum (n : ℕ) : ∑ e ∈ Finset.range 8, Nat.count (fun t => g t = e) n ≤ n := by
  induction n with
  | zero => simp
  | succ n ih =>
    simp only [Nat.count_succ, Finset.sum_add_distrib, Finset.sum_ite_eq]
    split <;> omega

theorem pend_last : pend g 7 ≤ 3064 := by
  have h := count_le_sum g 2048
  have h0 := pad_le g 0
  have h1 := pad_le g 1
  have h2 := pad_le g 2
  have h3 := pad_le g 3
  have h4 := pad_le g 4
  have h5 := pad_le g 5
  have h6 := pad_le g 6
  have h7 := pad_le g 7
  have hp : pend g 7 = pad g 0 + pad g 1 + pad g 2 + pad g 3 + pad g 4 + pad g 5 + pad g 6 + pad g 7 := by
    simp only [pend_succ g 6, pend_succ g 5, pend_succ g 4, pend_succ g 3, pend_succ g 2, pend_succ g 1, pend_succ g 0, pend_zero]
  simp only [Finset.sum_range_succ, Finset.sum_range_zero] at h
  unfold cnt at *
  omega

theorem rank_lt {t : ℕ} (ht : t < 2048) : rank g t < cnt g (g t) := Nat.count_strict_mono (p := fun s => g s = g t) rfl ht

theorem pos_lt_pend {t : ℕ} (ht : t < 2048) : pos g t < pend g (g t) := by
  have h1 := rank_lt g ht
  have h2 := cnt_le_pad g (g t)
  have h3 := pad_le_pend g (g t)
  unfold pos
  omega

theorem pos_lt {t : ℕ} (ht : t < 2048) (hg : g t < 8) : pos g t < 3072 := by
  have h1 := pos_lt_pend g ht
  have h2 := pend_mono g (show g t ≤ 7 by omega)
  have h3 := pend_last g
  omega

theorem rank_inj {t t' : ℕ} (hg : g t = g t') (h : rank g t = rank g t') : t = t' := by
  unfold rank at h
  rw [hg] at h
  exact Nat.count_injective (p := fun s => g s = g t') hg rfl h

theorem pos_inj {t t' : ℕ} (ht : t < 2048) (ht' : t' < 2048) (h : pos g t = pos g t') : t = t' := by
  rcases lt_trichotomy (g t) (g t') with hg | hg | hg
  · have h1 := pos_lt_pend g ht
    have h2 := pend_le_start g hg
    have h3 : pend g (g t') - pad g (g t') ≤ pos g t' := by unfold pos; omega
    omega
  · refine rank_inj g hg ?_
    unfold pos at h
    rw [hg] at h
    omega
  · have h1 := pos_lt_pend g ht'
    have h2 := pend_le_start g hg
    have h3 : pend g (g t) - pad g (g t) ≤ pos g t := by unfold pos; omega
    omega

theorem count_lt_eq (n k : ℕ) (h : k ≤ n) : Nat.count (fun e => e < k) n = k := by
  rw [Nat.count_eq_card_filter_range, show (Finset.range n).filter (fun e => e < k) = Finset.range k by
    ext x; simp only [Finset.mem_filter, Finset.mem_range]; omega, Finset.card_range]

/-- The tile of a token's row belongs to the token's group. -/
theorem te_pos {t : ℕ} (ht : t < 2048) (hg : g t < 8) : te g (pos g t / 128) = g t := by
  have hc : Nat.count (fun e => pend g e ≤ pos g t / 128 * 128) 8 = Nat.count (fun e => e < g t) 8 := by
    congr 1
    funext e
    refine propext ⟨fun h => ?_, fun h => ?_⟩
    · by_contra hn
      have h1 := pend_mono g (show g t ≤ e by omega)
      have h2 := pos_lt_pend g ht
      omega
    · have h1 := pend_le_start g h
      have h3 : pend g (g t) - pad g (g t) ≤ pos g t := by unfold pos; omega
      obtain ⟨k, hk⟩ := dvd_pend g e
      omega
  unfold te
  rw [hc, count_lt_eq 8 _ (by omega)]
  omega

theorem te_lt (i : ℕ) : te g i < 8 := by unfold te; omega

theorem cnt_le (e : ℕ) : cnt g e ≤ 2048 := Nat.count_le _

theorem pad_lt (e : ℕ) : pad g e < 4096 := by
  have h1 := cnt_le g e
  have h2 := pad_le g e
  omega

theorem pend_lt {e : ℕ} (he : e < 8) : pend g e < 4096 := by
  have h2 := pend_mono g (show e ≤ 7 by omega)
  have h3 := pend_last g
  omega

end Cert.Proof.Routing
-- ==== Proof.HostValue.lean ====
/-
  The arrays the host's line leaves, at an index: the words of the routing's natural numbers.
-/
module

public import proofs.«01_k».proof.Proof.HostRead
public import proofs.«01_k».proof.Proof.Routing
public import Idealize.ShloMosaic.Lib.Routing.Words
public import Idealize.ShloMosaic.Lib.Routing.OpsOne
public import Idealize.ShloMosaic.Lib.Routing.OpsSet
public import Idealize.ShloMosaic.Lib.ReduceAll

@[expose] public section

noncomputable section

namespace Cert.Proof.Host

open Cert.KernelIdeal Cert.KernelIdeal.Gen Cert.Proof
open Idealize.ShloMosaic Idealize.ShloMosaic.TcCoe Idealize.SL Idealize.SL.Sem
open Idealize.ShloMosaic.ValueIdx (ix2 ix3 ix0)
open Idealize.ShloMosaic.Routing (shape0 shape1 shape2 shape3)
open Cert.Proof.Routing
open Idealize.ShloMosaic.WordCmp (cmpi_at andi_at select_at)
open Idealize.ShloMosaic.ValueIdx (select_zero select_one)

/-- The group of token t. -/
def gOf (G : S2048x2.Idx → BitVec 32) (t : ℕ) : ℕ := if h : t < 2048 then (G (ix2 ⟨t, h⟩ (0 : Fin 2))).toNat else 0

/-- The words of the groups. -/
def IsG (g : ℕ → ℕ) (x : S2048.Idx → BitVec 32) : Prop := ∀ t : Fin 2048, x (ValueIdx.ix1 t) = BitVec.ofNat 32 (g t)

theorem word_eq {a : ℕ} {v : BitVec 32} (h : v.toNat = a) : v = BitVec.ofNat 32 a := by
  subst h
  exact BitVec.eq_of_toNat_eq (by rw [BitVec.toNat_ofNat, Nat.mod_eq_of_lt v.isLt])

theorem a1_at (G : S2048x2.Idx → BitVec 32) : IsG (gOf G) (a1 G) := by
  intro t
  unfold a1
  refine (Idealize.ShloMosaic.Routing.cast21 _ _ t (0 : Fin 1) t (by simp)).trans ?_
  refine (Idealize.ShloMosaic.Routing.slice_col0 (b := 2) G _ t (by decide)).trans (word_eq ?_)
  unfold gOf
  rw [dif_pos t.isLt]
  rfl

theorem ofNat_inj {a b : ℕ} (ha : a < 2 ^ 31) (hb : b < 2 ^ 31) : BitVec.ofNat 32 a = BitVec.ofNat 32 b ↔ a = b := by
  refine ⟨fun h => ?_, fun h => h ▸ rfl⟩
  have := congrArg BitVec.toNat h
  simp only [BitVec.toNat_ofNat] at this
  omega

theorem cmpi_eq_one {a b : ℕ} (ha : a < 2 ^ 31) (hb : b < 2 ^ 31) : IntOp.cmpi .eq (BitVec.ofNat 32 a) (BitVec.ofNat 32 b) = 1#1 ↔ a = b := by
  have ofBool_eq_one (p : Bool) : (BitVec.ofBool p = 1#1) ↔ p = true := by cases p <;> decide
  show BitVec.ofBool _ = 1#1 ↔ _
  rw [ofBool_eq_one]
  simp only [beq_iff_eq]
  exact ofNat_inj ha hb

theorem cmpi_sle_one {a b : ℕ} (ha : a < 2 ^ 31) (hb : b < 2 ^ 31) : IntOp.cmpi .sle (BitVec.ofNat 32 a) (BitVec.ofNat 32 b) = 1#1 ↔ a ≤ b := by
  have ofBool_eq_one (p : Bool) : (BitVec.ofBool p = 1#1) ↔ p = true := by cases p <;> decide
  show BitVec.ofBool (BitVec.sle _ _) = 1#1 ↔ _
  rw [ofBool_eq_one, Idealize.ShloMosaic.Routing.sle_ofNat32 ha hb, decide_eq_true_iff]

theorem cmpi_slt_zero {a : ℕ} (ha : a < 2 ^ 31) : IntOp.cmpi .slt (BitVec.ofNat 32 a) 0#32 = 0#1 := by
  show BitVec.ofBool (BitVec.slt _ (BitVec.ofNat 32 0)) = 0#1
  rw [Idealize.ShloMosaic.Routing.slt_ofNat32 ha (by decide)]
  simp

section
variable {g : ℕ → ℕ} {x : S2048.Idx → BitVec 32} (hx : IsG g x) (hg : ∀ t, t < 2048 → g t < 8)
include hx hg

theorem hot_at (t : Fin 2048) (e : Fin 8) : hot x (ix2 t e) = 1#1 ↔ g t = e.val := by
  have h1 : broadcastInDim S2048x8 ![0, 1] bcast_S2048x1_S2048x8_0_1 (broadcastInDim S2048x1 ![0] bcast_S2048_S2048x1_0 x) (ix2 t e)
      = BitVec.ofNat 32 (g t) := (Idealize.ShloMosaic.Routing.bcRows _ _ x t e).trans (hx t)
  have h2 : broadcastInDim S2048x8 ![0, 1] bcast_S1x8_S2048x8_0_1 (iotaInDim S1x8 32 1) (ix2 t e) = BitVec.ofNat 32 e.val := by
    refine (broadcastInDim_apply _ bcast_S1x8_S2048x8_0_1 _ _ (ix2 (0 : Fin 1) e) fun a => ?_).trans rfl
    match a with
    | ⟨0, _⟩ => rfl
    | ⟨1, _⟩ => rfl
  unfold hot
  rw [cmpi_at, h1, h2]
  exact cmpi_eq_one (by have := hg t t.isLt; omega) (by have := e.isLt; omega)

theorem ext_at (t : Fin 2048) (e : Fin 8) : extui 32 (hot x) natLt_1_32 (ix2 t e) = BitVec.ofNat 32 (if g t = e.val then 1 else 0) := by
  have h := hot_at hx hg t e
  show BitVec.setWidth 32 (hot x (ix2 t e)) = _
  by_cases hge : g t = e.val
  · rw [if_pos hge, h.mpr hge]; rfl
  · rw [if_neg hge, show hot x (ix2 t e) = 0#1 from ?_]
    · rfl
    · have : ∀ b : BitVec 1, b ≠ 1#1 → b = 0#1 := by decide
      exact this _ fun h' => hge (h.mp h')

theorem a3_at (e : Fin 8) : a3 x (ValueIdx.ix1 e) = BitVec.ofNat 32 (cnt g e) := by
  refine word_eq ?_
  unfold a3
  refine (StableHlo.Predicate.toNat_reduce_count_rows (by decide) (hot x) natLt_1_32 reducesTo_S2048x8_S8_d0 h_S_ (ValueIdx.ix1 e)).trans ?_
  unfold cnt
  rw [← Idealize.ShloMosaic.Routing.card_filter_fin 2048 fun t => g t = e.val]
  refine congrArg Finset.card (Finset.filter_congr fun t _ => ?_)
  rw [← hot_at hx hg t e]
  have hi : (StableHlo.Predicate.ij t (ValueIdx.ix1 e 0) : S2048x8.Idx) = ix2 t e := by
    funext a
    match a with
    | ⟨0, _⟩ => rfl
    | ⟨1, _⟩ => rfl
  rw [hi]

theorem a5_at (t : Fin 2048) (e : Fin 8) : a5 x (ix2 t e) = BitVec.ofNat 32 (Nat.count (fun s => g s = e.val) t) := by
  unfold a5
  rw [Idealize.ShloMosaic.Routing.subi_ap, ext_at hx hg t e,
    Idealize.ShloMosaic.Routing.cumsum_rows (Rm1 := 2047) rfl (extui 32 (hot x) natLt_1_32) (fun s e => if g s = e then 1 else 0) (fun i c => ext_at hx hg i c) _
      ((Idealize.ShloMosaic.Routing.bc0 _ _ _).trans rfl) _ _ t e,
    Idealize.ShloMosaic.Routing.sum_map_ite (fun s => g s = e.val), Nat.count_succ, Idealize.ShloMosaic.Routing.ofNat32_sub (Nat.le_add_left _ _), Nat.add_sub_cancel]

end

/-! The entry of a row at the row's index. -/

theorem fix_at (g : ℕ → ℕ) (c : S2048x1.Idx → BitVec 32) (hc : ∀ t : Fin 2048, c (ix2 t (0 : Fin 1)) = BitVec.ofNat 32 (g t)) (hg : ∀ t, t < 2048 → g t < 8)
    (t : Fin 2048) : fix c (ix3 t (0 : Fin 1) (0 : Fin 1)) = BitVec.ofNat 32 (g t) := by
  unfold fix
  refine (shapeCast_apply _ shapeCasts_S2048x1_S2048x1x1 _ (ix2 t (0 : Fin 1)) ?_).trans ?_
  · rw [Shape.rowMajor_val_two, Shape.rowMajor_val_three]
    show t.val * 1 + 0 = (t.val * 1 + 0) * 1 + 0
    omega
  · rw [select_at, cmpi_at, Idealize.ShloMosaic.Routing.bc0, hc t, show constantI S_ 32 0#32 ix0 = 0#32 from rfl,
      cmpi_slt_zero (by have := hg t t.isLt; omega), select_zero]

theorem inR_at (g : ℕ → ℕ) (i : S2048x1x1.Idx → BitVec 32) (hi : ∀ t : Fin 2048, i (ix3 t (0 : Fin 1) (0 : Fin 1)) = BitVec.ofNat 32 (g t))
    (hg : ∀ t, t < 2048 → g t < 8) (j : S2048x1x1.Idx) : inR i j = 1#1 := by
  obtain ⟨t, rfl⟩ : ∃ t : Fin 2048, j = ix3 t (0 : Fin 1) (0 : Fin 1) := ⟨j 0, by
    funext a
    match a with
    | ⟨0, _⟩ => rfl
    | ⟨1, _⟩ => exact Subsingleton.elim (α := Fin 1) _ _
    | ⟨2, _⟩ => exact Subsingleton.elim (α := Fin 1) _ _⟩
  have h7 : broadcastInDim S2048x1x1 ![0, 1, 2] bcast_S1x1x1_S2048x1x1_0_1_2 (broadcastInDim S1x1x1 ![2] bcast_S1_S1x1x1_2 (constantI S1 32 7#32))
      (ix3 t (0 : Fin 1) (0 : Fin 1)) = BitVec.ofNat 32 7 := rfl
  unfold inR
  have hgt := hg t t.isLt
  rw [andi_at, cmpi_at, cmpi_at, h7, Idealize.ShloMosaic.Routing.bc0, hi t, (cmpi_sle_one (by omega) (by decide)).mpr (by omega),
    show IntOp.cmpi .sge (BitVec.ofNat 32 (g t)) (constantI S_ 32 0#32 ix0) = 1#1 from (cmpi_sle_one (a := 0) (by decide) (by omega)).mpr (by omega)]
  rfl

theorem gather_at (r : S2048x8.Idx → BitVec 32) (i : S2048x1x1.Idx → BitVec 32) (t : Fin 2048) (b : Fin 8)
    (hi : i (ix3 t (0 : Fin 1) (0 : Fin 1)) = BitVec.ofNat 32 b.val) :
    Host.gather gather_S2048x8_S2048x1x1_S2048x1_n_1_0_0_1_2_11 r i (ix2 t (0 : Fin 1)) = r (ix2 t b) := by
  unfold Host.gather
  congr 1
  funext a
  apply Fin.ext
  have hs (c) : gather_S2048x8_S2048x1x1_S2048x1_n_1_0_0_1_2_11.siIdx (ix2 t (0 : Fin 1)) c = ix3 t (0 : Fin 1) (0 : Fin 1) := by
    funext k
    match k with
    | ⟨0, _⟩ => rfl
    | ⟨1, _⟩ => exact Subsingleton.elim (α := Fin 1) _ _
    | ⟨2, _⟩ => exact Subsingleton.elim (α := Fin 1) _ _
  have hb := b.isLt
  match a with
  | ⟨0, _⟩ =>
    show GatherDims.start _ _ i 0 + GatherDims.batchCoord _ _ 0 + GatherDims.offCoord _ _ 0 = t.val
    rw [GatherDims.start, dif_neg (by decide), GatherDims.offCoord_eq_zero _ _ _ (by decide)]
    show 0 + t.val + 0 = t.val
    omega
  | ⟨1, _⟩ =>
    show GatherDims.start _ _ i 1 + GatherDims.batchCoord _ _ 1 + GatherDims.offCoord _ _ 1 = b.val
    rw [GatherDims.start, dif_pos (by decide), GatherDims.batchCoord_eq_zero _ _ _ (by decide), GatherDims.offCoord_eq_zero _ _ _ (by decide), hs, hi]
    show min (BitVec.ofNat 32 b.val).toInt.toNat (8 - 1) + 0 + 0 = b.val
    rw [BitVec.toInt_eq_toNat_cond, BitVec.toNat_ofNat]
    omega

theorem a8_at (g : ℕ → ℕ) (h : ℕ → ℕ → ℕ) (r : S2048x8.Idx → BitVec 32) (hr : ∀ (t : Fin 2048) (e : Fin 8), r (ix2 t e) = BitVec.ofNat 32 (h t e))
    (c : S2048x1.Idx → BitVec 32) (hc : ∀ t : Fin 2048, c (ix2 t (0 : Fin 1)) = BitVec.ofNat 32 (g t)) (hg : ∀ t, t < 2048 → g t < 8) (t : Fin 2048) :
    a8 r c (ValueIdx.ix1 t) = BitVec.ofNat 32 (h t (g t)) := by
  unfold a8
  refine (Idealize.ShloMosaic.Routing.cast21 _ _ t (0 : Fin 1) t (by simp)).trans ?_
  rw [select_at, Host.reduce_andi_one _ _ _ _ _ rfl (inR_at g (fix c) (fix_at g c hc hg) hg)]
  rw [select_one, gather_at r (fix c) t ⟨g t, hg t t.isLt⟩ (fix_at g c hc hg t)]
  exact hr t ⟨g t, hg t t.isLt⟩

/-! The groups in whole tiles. -/

section
variable {g : ℕ → ℕ} {x : S8.Idx → BitVec 32} (hx : ∀ e : Fin 8, x (ValueIdx.ix1 e) = BitVec.ofNat 32 (cnt g e))
include hx

theorem a15_at (e : Fin 8) : a15 x (ValueIdx.ix1 e) = BitVec.ofNat 32 (pad g e) := by
  have hc := cnt_le g e.val
  unfold a15
  rw [Idealize.ShloMosaic.Routing.muli_ap, Idealize.ShloMosaic.Routing.bc0,
    Idealize.ShloMosaic.Routing.pyDiv_ap (a := cnt g e + 127) (b := 128) bcast_S_S8 _ _ _ ?_ rfl (by omega) (by decide) (by decide)]
  · show BitVec.ofNat 32 _ * BitVec.ofNat 32 128 = _
    rw [← BitVec.ofNat_mul]
    rfl
  · rw [Idealize.ShloMosaic.Routing.subi_ap, Idealize.ShloMosaic.Routing.addi_ap, Idealize.ShloMosaic.Routing.bc0, Idealize.ShloMosaic.Routing.bc0, hx e]
    show BitVec.ofNat 32 _ + BitVec.ofNat 32 128 - BitVec.ofNat 32 1 = _
    rw [← BitVec.ofNat_add, Idealize.ShloMosaic.Routing.ofNat32_sub (by omega)]
    rfl

theorem a16_at (e : Fin 8) : a16 x (ValueIdx.ix1 e) = BitVec.ofNat 32 (pend g e) := by
  unfold a16
  exact Idealize.ShloMosaic.Routing.cumsum1 (Nm1 := 7) rfl (a15 x) (pad g) (a15_at hx) _ ((Idealize.ShloMosaic.Routing.bc0 _ _ _).trans rfl) _ _ e

theorem start_at (e : Fin 8) : subi (a16 x) (a15 x) (ValueIdx.ix1 e) = BitVec.ofNat 32 (pend g e - pad g e) := by
  rw [Idealize.ShloMosaic.Routing.subi_ap, a16_at hx, a15_at hx, Idealize.ShloMosaic.Routing.ofNat32_sub (pad_le_pend g e)]

end

theorem a25_at {g r : ℕ → ℕ} {f : ℕ → ℕ} {x : S2048.Idx → BitVec 32} (hx : IsG g x) (hg : ∀ t, t < 2048 → g t < 8) {s : S8.Idx → BitVec 32}
    (hs : ∀ e : Fin 8, s (ValueIdx.ix1 e) = BitVec.ofNat 32 (f e)) {q : S2048.Idx → BitVec 32} (hq : IsG r q) (t : Fin 2048) :
    a25 x s q (ValueIdx.ix1 t) = BitVec.ofNat 32 (f (g t) + r t) := by
  unfold a25
  rw [Idealize.ShloMosaic.Routing.addi_ap, hq t,
    Idealize.ShloMosaic.Routing.gather_take1 _ rfl rfl rfl rfl s _ t ⟨g t, hg t t.isLt⟩ ?_ (by decide), hs ⟨g t, hg t t.isLt⟩, ← BitVec.ofNat_add]
  refine (Idealize.ShloMosaic.Routing.bcCol _ _ t).trans ?_
  rw [select_at, cmpi_at, Idealize.ShloMosaic.Routing.bc0, hx t, show constantI S_ 32 0#32 ix0 = 0#32 from rfl,
    cmpi_slt_zero (by have := hg t t.isLt; omega), select_zero]

/-! The expert of a tile. -/

theorem sle_at (f : ℕ → ℕ) (x : S8.Idx → BitVec 32) (hx : ∀ e : Fin 8, x (ValueIdx.ix1 e) = BitVec.ofNat 32 (f e)) (hf : ∀ e, e < 8 → f e < 4096)
    (i : Fin 24) (e : Fin 8) : sle x (ix2 i e) = 1#1 ↔ f e ≤ i * 128 := by
  have h1 : broadcastInDim S24x8 ![0, 1] bcast_S1x8_S24x8_0_1 (broadcastInDim S1x8 ![1] bcast_S8_S1x8_1 x) (ix2 i e) = BitVec.ofNat 32 (f e) :=
    (Idealize.ShloMosaic.Routing.bcCols _ _ x i e).trans (hx e)
  have h2 : broadcastInDim S24x8 ![0, 1] bcast_S24x1_S24x8_0_1 (broadcastInDim S24x1 ![0] bcast_S24_S24x1_0
      (muli (iotaInDim S24 32 0) (broadcastInDim S24 ![] bcast_S_S24 (constantI S_ 32 128#32)))) (ix2 i e) = BitVec.ofNat 32 (i * 128) := by
    refine (Idealize.ShloMosaic.Routing.bcRows _ _ _ i e).trans ?_
    rw [Idealize.ShloMosaic.Routing.muli_ap, Idealize.ShloMosaic.Routing.bc0]
    show BitVec.ofNat 32 i.val * BitVec.ofNat 32 128 = _
    rw [← BitVec.ofNat_mul]
  unfold sle
  rw [cmpi_at, h1, h2]
  exact cmpi_sle_one (by have := hf e e.isLt; omega) (by have := i.isLt; omega)

theorem clip_word {n : ℕ} (h : n < 2 ^ 31) : IntOp.minsi (BitVec.ofNat 32 7) (IntOp.maxsi (BitVec.ofNat 32 0) (BitVec.ofNat 32 n)) = BitVec.ofNat 32 (min 7 n) := by
  rw [Idealize.ShloMosaic.Routing.maxsi_zero_left h]
  unfold IntOp.minsi
  rw [Idealize.ShloMosaic.Routing.slt_ofNat32 (by decide) h]
  by_cases hn : 7 < n
  · rw [if_pos (by simpa using hn), Nat.min_eq_left (by omega)]
  · rw [if_neg (by simpa using hn), Nat.min_eq_right (by omega)]

theorem a36_at (f : ℕ → ℕ) (x : S8.Idx → BitVec 32) (hx : ∀ e : Fin 8, x (ValueIdx.ix1 e) = BitVec.ofNat 32 (f e)) (hf : ∀ e, e < 8 → f e < 4096)
    (i : Fin 24) : a36 x (ValueIdx.ix1 i) = BitVec.ofNat 32 (min 7 (Nat.count (fun e => f e ≤ i * 128) 8)) := by
  have hc : Host.reduce IntOp.addi (extui 32 (sle x) natLt_1_32) (constantI S_ 32 0#32) reducesTo_S24x8_S24_d1 h_S_ (ValueIdx.ix1 i)
      = BitVec.ofNat 32 (Nat.count (fun e => f e ≤ i * 128) 8) :=
    Idealize.ShloMosaic.Routing.reduce_count (by decide) (sle x) natLt_1_32 reducesTo_S24x8_S24_d1 h_S_ i (fun e => f e ≤ i * 128) (sle_at f x hx hf i)
  unfold a36
  rw [minsi_apply, maxsi_apply, Idealize.ShloMosaic.Routing.bc0, Idealize.ShloMosaic.Routing.bc0, hc]
  have := Nat.count_le (fun e => f e ≤ i.val * 128) (n := 8)
  exact clip_word (by omega)

/-! The routing table's rows and experts. -/

section
variable {G : S2048x2.Idx → BitVec 32} (hG : ∀ t : Fin 2048, (G (ix2 t (0 : Fin 2))).toNat < 8)
include hG

theorem gOf_lt (t : ℕ) (ht : t < 2048) : gOf G t < 8 := by
  unfold gOf
  rw [dif_pos ht]
  exact hG ⟨t, ht⟩

theorem rows_at (t : Fin 2048) : rows G (ValueIdx.ix1 t) = BitVec.ofNat 32 (pos (gOf G) t) := by
  have hg := gOf_lt hG
  have h1 := a1_at G
  have h3 := a3_at h1 hg
  have h8 : IsG (rank (gOf G)) (a8 (a5 (a1 G)) (broadcastInDim S2048x1 ![0] bcast_S2048_S2048x1_0 (a1 G))) := fun t =>
    a8_at (gOf G) (fun t e => Nat.count (fun s => gOf G s = e) t) _ (a5_at h1 hg) _
      (fun t => (Idealize.ShloMosaic.Routing.bcCol _ _ t).trans (h1 t)) hg t
  exact a25_at (f := fun e => pend (gOf G) e - pad (gOf G) e) h1 hg (start_at h3) h8 t

theorem experts_at (i : Fin 24) : experts G (ValueIdx.ix1 i) = BitVec.ofNat 32 (te (gOf G) i) := by
  have hg := gOf_lt hG
  have h1 := a1_at G
  have h3 := a3_at h1 hg
  exact a36_at (pend (gOf G)) (ends G) (a16_at h3) (fun e he => pend_lt (gOf G) he) i

end

end Cert.Proof.Host
-- ==== Proof.MlpBody.lean ====
/-
  One tile of the two-layer network: the kernel's body, from its six staging buffers, leaves in the last what `k1_pay1`
  makes of the other five.
-/
module

public import proofs.«01_k».proof.Proof.Common
public import proofs.«01_k».proof.Proof.Gen.KernelIdeal.Launch
public import Idealize.ShloMosaic.Lib.VecWindow

@[expose] public section

noncomputable section

namespace Cert.Proof.Mlp

open Cert.KernelIdeal Cert.KernelIdeal.Gen Cert.Proof

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

abbrev Bf (c : Dev nD) {sp : Space} {S : Shape} {e : EltTy} (M : Memref sig .tc sp S e) : Type := Buf (Elt F) (M.view.loc (c.tc : Thread nD τ))
abbrev pt (c : Dev nD) {sp : Space} {S : Shape} {e : EltTy} (M : Memref sig .tc sp S e) (f : Bf (F := F) c M) : sProp 𝕄 :=
  M.view.loc (c.tc : Thread nD τ) ↦{fullShare} f

variable [FloatOps F]

/-- What the body leaves in the last buffer, with the run that leaves it there. -/
def bodyRun (c : Dev nD) (i : grid1.Coords) (Mt : Memref sig .tc .smem S24 .i32) (ht : Mt.IsWhole)
    (M0 : Memref sig .tc .vmem S128x1024 .f32) (h0 : M0.IsWhole) (M1 : Memref sig .tc .vmem S1x1024x2048 .f32) (h1 : M1.IsWhole)
    (M2 : Memref sig .tc .vmem S1x1x2048 .f32) (h2 : M2.IsWhole) (M3 : Memref sig .tc .vmem S1x2048x1024 .f32) (h3 : M3.IsWhole)
    (M4 : Memref sig .tc .vmem S1x1x1024 .f32) (h4 : M4.IsWhole) (M5 : Memref sig .tc .vmem S128x1024 .f32) (h5 : M5.IsWhole)
    (f0 : Bf (F := F) c M0) (f1 : Bf (F := F) c M1) (f2 : Bf (F := F) c M2) (f3 : Bf (F := F) c M3) (f4 : Bf (F := F) c M4) :
    { W : Bf (F := F) c M5 // ∀ (f5 : Bf (F := F) c M5) (Q : PUnit → sProp 𝕄),
        iprop(pt c M0 f0 ∗ pt c M1 f1 ∗ pt c M2 f2 ∗ pt c M3 f3 ∗ pt c M4 f4 ∗ pt c M5 f5
          ∗ (iprop(pt c M0 f0 ∗ pt c M1 f1 ∗ pt c M2 f2 ∗ pt c M3 f3 ∗ pt c M4 f4 ∗ pt c M5 W) -∗ Q ⟨⟩))
          ⊢ wp frame (wpE (defs₀ (F := F)) Variants.none c.tc none) Set.univ (cc1__mlp_tile_kernel i Mt ht M0 h0 M1 h1 M2 h2 M3 h3 M4 h4 M5 h5) Q } := by
  refine ⟨?_, fun f5 Q => ?run⟩
  case run =>
    rw [cc1__mlp_tile_kernel_eq_skeleton]; unfold cc1__mlp_tile_kernel_skel
    iintro ⟨H0, H1, H2, H3, H4, H5, Hk⟩
    sl_exec!
    sl_step
    iapply Hk
    isplitl [H0]; · iexact H0
    isplitl [H1]; · iexact H1
    isplitl [H2]; · iexact H2
    isplitl [H3]; · iexact H3
    isplitl [H4]; · iexact H4
    iexact H5

theorem bodyRun_read (c : Dev nD) (i : grid1.Coords) (Mt : Memref sig .tc .smem S24 .i32) (ht : Mt.IsWhole)
    (M0 : Memref sig .tc .vmem S128x1024 .f32) (h0 : M0.IsWhole) (M1 : Memref sig .tc .vmem S1x1024x2048 .f32) (h1 : M1.IsWhole)
    (M2 : Memref sig .tc .vmem S1x1x2048 .f32) (h2 : M2.IsWhole) (M3 : Memref sig .tc .vmem S1x2048x1024 .f32) (h3 : M3.IsWhole)
    (M4 : Memref sig .tc .vmem S1x1x1024 .f32) (h4 : M4.IsWhole) (M5 : Memref sig .tc .vmem S128x1024 .f32) (h5 : M5.IsWhole)
    (f0 : Bf (F := F) c M0) (f1 : Bf (F := F) c M1) (f2 : Bf (F := F) c M2) (f3 : Bf (F := F) c M3) (f4 : Bf (F := F) c M4) :
    M5.view.read (Elt F) (bodyRun c i Mt ht M0 h0 M1 h1 M2 h2 M3 h3 M4 h4 M5 h5 f0 f1 f2 f3 f4).1
      = k1_pay1 (M0.view.read (Elt F) f0) (M1.view.read (Elt F) f1) (M2.view.read (Elt F) f2) (M3.view.read (Elt F) f3) (M4.view.read (Elt F) f4) := by
  unfold bodyRun
  dsimp only
  unfold bodyRun.sl.H5_1
  rw [View.read_writes_full, View.readAt_full, View.readAt_full, View.readAt_full, View.readAt_full, View.readAt_full]

/-- The body, over six whole buffers: the sixth is left holding what `k1_pay1` makes of the other five. -/
theorem body_owns (c : Dev nD) (i : grid1.Coords) (Mt : Memref sig .tc .smem S24 .i32) (ht : Mt.IsWhole)
    (M0 : Memref sig .tc .vmem S128x1024 .f32) (h0 : M0.IsWhole) (M1 : Memref sig .tc .vmem S1x1024x2048 .f32) (h1 : M1.IsWhole)
    (M2 : Memref sig .tc .vmem S1x1x2048 .f32) (h2 : M2.IsWhole) (M3 : Memref sig .tc .vmem S1x2048x1024 .f32) (h3 : M3.IsWhole)
    (M4 : Memref sig .tc .vmem S1x1x1024 .f32) (h4 : M4.IsWhole) (M5 : Memref sig .tc .vmem S128x1024 .f32) (h5 : M5.IsWhole)
    (X0 : Vec F S128x1024 .f32) (X1 : Vec F S1x1024x2048 .f32) (X2 : Vec F S1x1x2048 .f32) (X3 : Vec F S1x2048x1024 .f32)
    (X4 : Vec F S1x1x1024 .f32) (X5 : Vec F S128x1024 .f32) (Q : PUnit → sProp 𝕄) :
    iprop(owns c.tc M0 fullShare X0 ∗ owns c.tc M1 fullShare X1 ∗ owns c.tc M2 fullShare X2 ∗ owns c.tc M3 fullShare X3
        ∗ owns c.tc M4 fullShare X4 ∗ owns c.tc M5 fullShare X5
        ∗ (iprop(owns c.tc M0 fullShare X0 ∗ owns c.tc M1 fullShare X1 ∗ owns c.tc M2 fullShare X2 ∗ owns c.tc M3 fullShare X3
            ∗ owns c.tc M4 fullShare X4 ∗ owns c.tc M5 fullShare (k1_pay1 X0 X1 X2 X3 X4)) -∗ Q ⟨⟩))
      ⊢ wp frame (wpE (defs₀ (F := F)) Variants.none c.tc none) Set.univ (cc1__mlp_tile_kernel i Mt ht M0 h0 M1 h1 M2 h2 M3 h3 M4 h4 M5 h5) Q := by
  unfold owns
  rw [Memref.IsWhole.set_eq_univ h0, Memref.IsWhole.set_eq_univ h1, Memref.IsWhole.set_eq_univ h2, Memref.IsWhole.set_eq_univ h3, Memref.IsWhole.set_eq_univ h4, Memref.IsWhole.set_eq_univ h5]
  iintro ⟨⟨%f0, %e0, H0⟩, ⟨%f1, %e1, H1⟩, ⟨%f2, %e2, H2⟩, ⟨%f3, %e3, H3⟩, ⟨%f4, %e4, H4⟩, ⟨%f5, %e5, H5⟩, Hk⟩
  iapply ((bodyRun c i Mt ht M0 h0 M1 h1 M2 h2 M3 h3 M4 h4 M5 h5 f0 f1 f2 f3 f4).2 f5 Q)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  iapply Hk
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  iexists (bodyRun c i Mt ht M0 h0 M1 h1 M2 h2 M3 h3 M4 h4 M5 h5 f0 f1 f2 f3 f4).1
  isplitr
  · ipureintro
    rw [bodyRun_read, e0, e1, e2, e3, e4]
  iexact H5

end Cert.Proof.Mlp

end
-- ==== Proof.MlpRegion.lean ====
/-
  The two-layer network over its 24 tiles, as a step of the main thread: entered with the arrays and the list of experts held,
  left with the result array filled tile by tile, the thread's dues and its record of waits as they were.
-/
module

public import proofs.«01_k».proof.Proof.MlpBody
public import Idealize.ShloMosaic.Lib.Pipeline.RegionArraysTS
public import Idealize.ShloMosaic.Lib.Pipeline.FrameBody
public import Idealize.ShloMosaic.Lib.Pipeline.Value

@[expose] public section

noncomputable section

namespace Cert.Proof.Mlp

open Cert.KernelIdeal Cert.KernelIdeal.Gen Cert.Proof

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg)

variable {F : FTy → Type} [FloatOps F]

local notation "𝕄" => MM F

variable (V : Valuation τ sig (Elt F)) (a : (p : Fin 1) → (pcfgs (F := F) p).Adm)

/-- The block of window `w`'s array at point `t`. -/
abbrev inBlk (w : Fin 6) (t : Fin grid1.N) : ((cfg1 (a 0)).win w).block.Idx → Elt F ((cfg1 (a 0)).win w).elt :=
  (((cfg1 (a 0)).win w).blk t).view.read (Elt F) (V (Proc.devRef .tc (Pipeline.arrRef spec1 w)))

/-- The tile the body makes at point `t`. -/
def tileVal (t : Fin grid1.N) : Vec F S128x1024 .f32 := k1_pay1 (inBlk V a 0 t) (inBlk V a 1 t) (inBlk V a 2 t) (inBlk V a 3 t) (inBlk V a 4 t)

/-- What the thread owes between the two SparseCore calls. -/
abbrev due (c : Dev nD) : CellTallies nD τ sig (HIx 2) := (K (F := F)).Otc c 1

/-- What the main thread has recorded between the two calls. -/
abbrev recd (c : Dev nD) : Set (SemLoc sig × HIx 2) := {p | (K (F := F)).lev (T c, p.1) p.2 ≤ 8 * 1}

def dat (c : Dev nD) : Dat τ (Elt F) (HIx 2) ℕ UU ℕ (cfg1 (a 0)) c where
  A w := V (Proc.devRef .tc (Pipeline.arrRef spec1 w))
  after w t := match w with
    | ⟨0, _⟩ => inBlk V a 0 t
    | ⟨1, _⟩ => inBlk V a 1 t
    | ⟨2, _⟩ => inBlk V a 2 t
    | ⟨3, _⟩ => inBlk V a 3 t
    | ⟨4, _⟩ => inBlk V a 4 t
    | ⟨5, _⟩ => tileVal V a t
  Φ _ := iprop(Pipeline.prefHeld pre1 c (fun _ => fullShare) (a 0).1 ∗ Pipeline.scopedRest spec1 c)
  q _ := fullShare
  owed _ := due (F := F) c
  recorded _ := recd (F := F) c

def pdats : (p : Fin 1) → (c : Dev nD) → Dat τ (Elt F) (HIx 2) ℕ UU ℕ (Pipeline.pin (pcfgs (F := F)) a p) c
  | ⟨0, _⟩ => fun c => dat V a c

theorem before0 (c : Dev nD) (t : Fin grid1.N) (d) : (dat V a c).before 0 t d = inBlk V a 0 t :=
  (dat V a c).before_in_eq_fetched 0 rfl (fun _ => rfl) (fun _ _ _ => rfl) (fun _ => rfl) t d
theorem before1 (c : Dev nD) (t : Fin grid1.N) (d) : (dat V a c).before 1 t d = inBlk V a 1 t :=
  (dat V a c).before_in_eq_fetched 1 rfl (fun _ => rfl) (fun _ _ _ => rfl) (fun _ => rfl) t d
theorem before2 (c : Dev nD) (t : Fin grid1.N) (d) : (dat V a c).before 2 t d = inBlk V a 2 t :=
  (dat V a c).before_in_eq_fetched 2 rfl (fun _ => rfl) (fun _ _ _ => rfl) (fun _ => rfl) t d
theorem before3 (c : Dev nD) (t : Fin grid1.N) (d) : (dat V a c).before 3 t d = inBlk V a 3 t :=
  (dat V a c).before_in_eq_fetched 3 rfl (fun _ => rfl) (fun _ _ _ => rfl) (fun _ => rfl) t d
theorem before4 (c : Dev nD) (t : Fin grid1.N) (d) : (dat V a c).before 4 t d = inBlk V a 4 t :=
  (dat V a c).before_in_eq_fetched 4 rfl (fun _ => rfl) (fun _ _ _ => rfl) (fun _ => rfl) t d

theorem body_obligation (c : Dev nD) : BodyObligation (dat V a c) (defs₀ (F := F)) 𝒱₀ none Set.univ := fun t => by
  rw [bigSep_W1, bigSep_W1]
  rw [show (dat V a c).Φ t.succ = (dat V a c).Φ t.castSucc from rfl,
    show (dat V a c).owesAt none t.succ = (dat V a c).owesAt none t.castSucc from rfl]
  iintro ⟨HΦ, Howes, ⟨%d0, H0⟩, ⟨%d1, H1⟩, ⟨%d2, H2⟩, ⟨%d3, H3⟩, ⟨%d4, H4⟩, ⟨%d5, H5⟩⟩
  have run := body_owns (F := F) c (grid1.coords t) (Memref.whole main_v36) (Memref.isWhole_whole _)
    (spec1_0.stage ((cfg1 (a 0)).slots t 0)) (hstage1_0 (((cfg1 (a 0)).slots t 0).cast nbuf1_0)) (spec1_1.stage ((cfg1 (a 0)).slots t 1)) (hstage1_1 (((cfg1 (a 0)).slots t 1).cast nbuf1_1))
    (spec1_2.stage ((cfg1 (a 0)).slots t 2)) (hstage1_2 (((cfg1 (a 0)).slots t 2).cast nbuf1_2)) (spec1_3.stage ((cfg1 (a 0)).slots t 3)) (hstage1_3 (((cfg1 (a 0)).slots t 3).cast nbuf1_3))
    (spec1_4.stage ((cfg1 (a 0)).slots t 4)) (hstage1_4 (((cfg1 (a 0)).slots t 4).cast nbuf1_4)) (spec1_5.stage ((cfg1 (a 0)).slots t 5)) (hstage1_5 (((cfg1 (a 0)).slots t 5).cast nbuf1_5))
    (inBlk V a 0 t) (inBlk V a 1 t) (inBlk V a 2 t) (inBlk V a 3 t) (inBlk V a 4 t) ((dat V a c).before 5 t d5)
  iapply (run _)
  isplitl [H0]; · rw [← before0 V a c t d0]; iexact H0
  isplitl [H1]; · rw [← before1 V a c t d1]; iexact H1
  isplitl [H2]; · rw [← before2 V a c t d2]; iexact H2
  isplitl [H3]; · rw [← before3 V a c t d3]; iexact H3
  isplitl [H4]; · rw [← before4 V a c t d4]; iexact H4
  isplitl [H5]; · iexact H5
  iintro ⟨H0, H1, H2, H3, H4, H5⟩
  dsimp only [dat]
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  unfold tileVal
  iexact H5

/-! ## The region -/

theorem share_full (c : Dev nD) (w : Fin 6) : (dat V a c).share w = fullShare := (dat V a c).share_full (fun _ => rfl) w

/-- What the thread owes, with what it has recorded bounded. -/
abbrev owing (c : Dev nD) : sProp 𝕄 := iprop(∃ W, ⌜(K (F := F)).WBelow (T c) W (8 * 1)⌝ ∗ owes (T c) (due (F := F) c) W)

theorem owing_in (c : Dev nD) (t) : owing (F := F) c ⊢ (dat V a c).owesAt none t := by
  unfold Dat.owesAt Pipeline.owesWithin
  iintro ⟨%W, %hW, HO⟩
  iexists W
  isplitr
  · ipureintro
    exact fun p hp => Or.inl (hW p hp)
  iexact HO

theorem owing_out (c : Dev nD) (t) : (dat V a c).owesAt none t ⊢ owing (F := F) c := by
  unfold Dat.owesAt Pipeline.owesWithin
  iintro ⟨%W, %hW, HO⟩
  iexists W
  isplitr
  · ipureintro
    intro p hp
    rcases hW hp with h | h
    · exact h
    · obtain ⟨w, s, rfl⟩ := h
      exact Nat.zero_le _
  iexact HO

def reg {S : Finset (DevRef τ sig)} (hS : Pipeline.arrRefs spec1 ⊆ S) (hS' : Pipeline.tblRefs pre1 ⊆ S)
    (hT : ∀ k, (a 0).1 k = V (Proc.devRef .tc (pre1.ref k))) (lv : GSem nD τ sig → HIx 2 → ℕ) (hlv : (K (F := F)).Refines lv)
    (hO : ∀ (c : Dev nD) g, due (F := F) c g none = 0) :
    RegionSeg (pcfgs (F := F)) a (pdats V a) none (defs₀ (F := F)) 𝒱₀ (K (F := F)).L lv 0 where
  win := (launch1 (F := F)).win.to₀
  block_pos := (launch1 (F := F)).block_pos
  stage_whole := (launch1 (F := F)).stage_whole
  K := PEmpty
  osem k := k.elim
  ho := Pipeline.OwnSemFacts.none _
  hbody c := (body_obligation V a c).loose
  hwaits c := Pipeline.cellsWaits_intro (Pipeline.pin (pcfgs (F := F)) a) (pdats V a) none 0 c fun w s t => (K (F := F)).mayWait_none _ (hO c) lv hlv
  pre c := iprop(StableHlo.held (c.tc : Thread nD τ) S V ∗ owing (F := F) c)
  post c := iprop(StableHlo.held (c.tc : Thread nD τ) S (Pipeline.afterRegion (dat V a c) V) ∗ owing (F := F) c)
  X _ := BI.emp
  Y c := StableHlo.held (c.tc : Thread nD τ) (Pipeline.tblRefs pre1) V
  Z c := StableHlo.held (c.tc : Thread nD τ) ((S \ Pipeline.arrRefs spec1) \ Pipeline.tblRefs pre1) V
  hentry c := by
    rw [Pipeline.ownSems0_none,
      Pipeline.arrays_held (pcfgs (F := F)) a (pdats V a) 0 (launch1 (F := F)) c (share_full V a c) ((pdats V a 0 c).arrAt · 0) V (fun _ => rfl),
      Pipeline.prefHeld_held pre1 (launch1 (F := F)).pre.inj c (a 0).1 V hT,
      StableHlo.held_sub_split (c.tc : Thread nD τ) hS V,
      StableHlo.held_sub_split (c.tc : Thread nD τ) (Pipeline.tblRefs_sub_sdiff spec1 pre1 (launch1 (F := F)).pre.disj hS') V]
    iintro ⟨⟨⟨Ha, Ht, Hu⟩, HO⟩, -, -⟩
    imodintro
    isplitl [Ha]; · iexact Ha
    isplitl [Ht]; · iexact Ht
    isplitl [HO]; · iapply (owing_in V a c 0); iexact HO
    isplitr; · iempintro
    iexact Hu
  hin c := by
    show _ ⊢ iprop(Pipeline.prefHeld pre1 c (fun _ => fullShare) (a 0).1 ∗ Pipeline.scopedRest spec1 c)
    iintro ⟨-, H, Hr⟩
    isplitl [H]; · iexact H
    iexact Hr
  hout c := by
    rw [Pipeline.ownSems0_none]
    show iprop(Pipeline.prefHeld pre1 c (fun _ => fullShare) (a 0).1 ∗ Pipeline.scopedRest spec1 c) ⊢ _
    rw [Pipeline.prefHeld_held pre1 (launch1 (F := F)).pre.inj c (a 0).1 V hT]
    iintro ⟨H, Hr⟩
    isplitl [H]; · iexact H
    isplitr; · iempintro
    iexact Hr
  hexit c := by
    rw [Pipeline.arrays_held (pcfgs (F := F)) a (pdats V a) 0 (launch1 (F := F)) c (share_full V a c) ((pdats V a 0 c).arrAt · (Pipeline.pin (pcfgs (F := F)) a 0).N)
        (Pipeline.afterRegion (dat V a c) V) (fun w => (Pipeline.afterRegion_arr (dat V a c) V (launch1 (F := F)).win.arr_inj w).symm),
      StableHlo.held_sub_split (c.tc : Thread nD τ) hS (Pipeline.afterRegion (dat V a c) V),
      StableHlo.held_sub_split (c.tc : Thread nD τ) (Pipeline.tblRefs_sub_sdiff spec1 pre1 (launch1 (F := F)).pre.disj hS') (Pipeline.afterRegion (dat V a c) V),
      StableHlo.held_congr (c.tc : Thread nD τ) (S := (S \ Pipeline.arrRefs spec1) \ Pipeline.tblRefs pre1) (V := Pipeline.afterRegion (dat V a c) V) (V' := V)
        (fun b hb => Pipeline.afterRegion_off (dat V a c) V S b (Finset.mem_sdiff.mp hb).1),
      StableHlo.held_congr (c.tc : Thread nD τ) (S := Pipeline.tblRefs pre1) (V := Pipeline.afterRegion (dat V a c) V) (V' := V)
        (fun b hb => Pipeline.afterRegion_off (dat V a c) V S b (Pipeline.tblRefs_sub_sdiff spec1 pre1 (launch1 (F := F)).pre.disj hS' hb))]
    iintro ⟨Ha, HO, Ht, Hu⟩
    imodintro
    isplitl [Ha Ht Hu]
    · isplitl [Ha]; · iexact Ha
      isplitl [Ht]; · iexact Ht
      iexact Hu
    iapply (owing_out V a c _); iexact HO

end Cert.Proof.Mlp

end
-- ==== Proof.MlpValue.lean ====
/-
  What the two-layer network's tiles read and where they land: tile `t` reads rows `128 t` to `128 t + 127` of its input and
  the weights of the expert its list names, and the result array holds tile after tile.
-/
module

public import proofs.«01_k».proof.Proof.MlpRegion
public import Idealize.ShloMosaic.Lib.Pipeline.ValueKit.Geometry
public import Idealize.ShloMosaic.Lib.ValueIdxCore

@[expose] public section

noncomputable section

namespace Cert.Proof.Mlp

open Cert.KernelIdeal Cert.KernelIdeal.Gen Cert.Proof
open Idealize.ShloMosaic Idealize.ShloMosaic.TcCoe
open Idealize.ShloMosaic.ValueIdx (ix2 ix3)
open Idealize.SL

variable {F : FTy → Type} [FloatOps F]
variable (V : Valuation τ sig (Elt F)) (a : (p : Fin 1) → (pcfgs (F := F) p).Adm)

theorem coords_val : ∀ t : Fin grid1.N, (grid1.coords t 0).val = t.val := by decide +kernel

theorem t_lt (t : Fin grid1.N) : t.val < 24 := lt_of_lt_of_eq t.isLt N_1

theorem coords_toNat (t : Fin grid1.N) : (BitVec.ofNat 32 (grid1.coords t 0).val).toNat = t.val := by
  rw [coords_val, BitVec.toNat_ofNat]
  exact Nat.mod_eq_of_lt (by have := t_lt t; omega)

/-- The expert that tile `t` uses. -/
def teOf (t : Fin grid1.N) : ℕ := BitVec.toNat ((a 0).1 0 (ValueIdx.ix1 (⟨t.val, t_lt t⟩ : Fin 24)))

theorem idx24 (i j : S24.Idx) (h : (i 0).val = (j 0).val) : i = j := by
  funext k
  obtain rfl : k = 0 := Subsingleton.elim (α := Fin 1) _ _
  exact Fin.ext h

theorem at_eq (t : Fin grid1.N) (h1 : S1.numel = 1) (hb) :
    BitVec.toNat ((a 0).1.at 0 (Rect.unit (s := S24) ![(Scalar.indexCast (BitVec.ofNat 32 (grid1.coords t 0).val)).toNat] S1.size hb) h1) = teOf a t := by
  unfold teOf
  refine congrArg (fun i => BitVec.toNat ((a 0).1 0 i)) ?_
  refine idx24 _ _ ?_
  show ((Rect.unit (s := S24) _ S1.size hb).emb _ 0 : ℕ) = t.val
  refine (ValueKit.rect_emb_unit_val (s := S24) _ _ hb _ (0 : Fin 1)).trans ?_
  refine Eq.trans (congrArg (_ + ·) (Nat.lt_one_iff.mp (Fin.isLt (n := 1) _))) ?_
  exact coords_toNat t

theorem index0 (t : Fin grid1.N) : cc1_transform_0 (grid1.coords t) = ![t.val, 0] := by
  unfold cc1_transform_0
  simp only [coords_toNat]; rfl
theorem index1 (t : Fin grid1.N) : cc1_transform_1 Facts₀.k1_off1_inb Facts₀.numel1_S1 (a 0).1 (grid1.coords t) = ![teOf a t, 0, 0] := by
  unfold cc1_transform_1
  exact congrArg (fun n => ![n, 0, 0]) (at_eq a t _ _)
theorem index2 (t : Fin grid1.N) : cc1_transform_2 Facts₀.k1_off1_inb Facts₀.numel1_S1 (a 0).1 (grid1.coords t) = ![teOf a t, 0, 0] := by
  unfold cc1_transform_2
  exact congrArg (fun n => ![n, 0, 0]) (at_eq a t _ _)
theorem index3 (t : Fin grid1.N) : cc1_transform_3 Facts₀.k1_off1_inb Facts₀.numel1_S1 (a 0).1 (grid1.coords t) = ![teOf a t, 0, 0] := by
  unfold cc1_transform_3
  exact congrArg (fun n => ![n, 0, 0]) (at_eq a t _ _)
theorem index4 (t : Fin grid1.N) : cc1_transform_4 Facts₀.k1_off1_inb Facts₀.numel1_S1 (a 0).1 (grid1.coords t) = ![teOf a t, 0, 0] := by
  unfold cc1_transform_4
  exact congrArg (fun n => ![n, 0, 0]) (at_eq a t _ _)
theorem index5 (t : Fin grid1.N) : cc1_transform_5 (grid1.coords t) = ![t.val, 0] := by
  unfold cc1_transform_5
  simp only [coords_toNat]; rfl

theorem teOf_lt (t : Fin grid1.N) : teOf a t < 8 := by
  obtain ⟨h, _⟩ := (a 0).2.1 (grid1.coords t)
  have h0 := h 0
  rw [index1 a t] at h0
  have : (teOf a t + 1) * 1 ≤ 8 := h0
  omega

/-! ## The blocks read -/

theorem inBlk0 (t : Fin grid1.N) (r : Fin 128) (j : Fin 1024) :
    inBlk V a 0 t (ix2 r j) = V (Proc.devRef .tc main_v38) (ix2 (⟨128 * t.val + r.val, by have := t_lt t; omega⟩ : Fin 3072) j) := by
  show V (Proc.devRef .tc main_v38) ((((cfg1 (a 0)).win 0).blk t).view.emb (ix2 r j)) = _
  refine congrArg (V (Proc.devRef .tc main_v38)) ?_
  funext k; apply Fin.ext
  have e := congrFun (index0 t)
  fin_cases k
  · show cc1_transform_0 (grid1.coords t) 0 * 128 + 1 * r.val = 128 * t.val + r.val
    rw [e]; show t.val * 128 + 1 * r.val = _; omega
  · show cc1_transform_0 (grid1.coords t) 1 * 1024 + 1 * j.val = j.val
    rw [e]; show 0 * 1024 + 1 * j.val = _; omega

theorem inBlk1 (t : Fin grid1.N) (j : Fin 1024) (k : Fin 2048) :
    inBlk V a 1 t (ix3 (0 : Fin 1) j k) = V (Proc.devRef .tc main_arg2) (ix3 (⟨teOf a t, teOf_lt a t⟩ : Fin 8) j k) := by
  show V (Proc.devRef .tc main_arg2) ((((cfg1 (a 0)).win 1).blk t).view.emb (ix3 (0 : Fin 1) j k)) = _
  refine congrArg (V (Proc.devRef .tc main_arg2)) ?_
  funext x; apply Fin.ext
  have e := congrFun (index1 a t)
  fin_cases x
  · show cc1_transform_1 Facts₀.k1_off1_inb Facts₀.numel1_S1 (a 0).1 (grid1.coords t) 0 * 1 + 1 * 0 = teOf a t
    rw [e]; show teOf a t * 1 + 1 * 0 = _; omega
  · show cc1_transform_1 Facts₀.k1_off1_inb Facts₀.numel1_S1 (a 0).1 (grid1.coords t) 1 * 1024 + 1 * j.val = j.val
    rw [e]; show 0 * 1024 + 1 * j.val = _; omega
  · show cc1_transform_1 Facts₀.k1_off1_inb Facts₀.numel1_S1 (a 0).1 (grid1.coords t) 2 * 2048 + 1 * k.val = k.val
    rw [e]; show 0 * 2048 + 1 * k.val = _; omega

theorem inBlk2 (t : Fin grid1.N) (k : Fin 2048) :
    inBlk V a 2 t (ix3 (0 : Fin 1) (0 : Fin 1) k) = V (Proc.devRef .tc main_v39) (ix3 (⟨teOf a t, teOf_lt a t⟩ : Fin 8) (0 : Fin 1) k) := by
  show V (Proc.devRef .tc main_v39) ((((cfg1 (a 0)).win 2).blk t).view.emb (ix3 (0 : Fin 1) (0 : Fin 1) k)) = _
  refine congrArg (V (Proc.devRef .tc main_v39)) ?_
  funext x; apply Fin.ext
  have e := congrFun (index2 a t)
  fin_cases x
  · show cc1_transform_2 Facts₀.k1_off1_inb Facts₀.numel1_S1 (a 0).1 (grid1.coords t) 0 * 1 + 1 * 0 = teOf a t
    rw [e]; show teOf a t * 1 + 1 * 0 = _; omega
  · show cc1_transform_2 Facts₀.k1_off1_inb Facts₀.numel1_S1 (a 0).1 (grid1.coords t) 1 * 1 + 1 * 0 = 0
    rw [e]; rfl
  · show cc1_transform_2 Facts₀.k1_off1_inb Facts₀.numel1_S1 (a 0).1 (grid1.coords t) 2 * 2048 + 1 * k.val = k.val
    rw [e]; show 0 * 2048 + 1 * k.val = _; omega

theorem inBlk3 (t : Fin grid1.N) (j : Fin 2048) (k : Fin 1024) :
    inBlk V a 3 t (ix3 (0 : Fin 1) j k) = V (Proc.devRef .tc main_arg4) (ix3 (⟨teOf a t, teOf_lt a t⟩ : Fin 8) j k) := by
  show V (Proc.devRef .tc main_arg4) ((((cfg1 (a 0)).win 3).blk t).view.emb (ix3 (0 : Fin 1) j k)) = _
  refine congrArg (V (Proc.devRef .tc main_arg4)) ?_
  funext x; apply Fin.ext
  have e := congrFun (index3 a t)
  fin_cases x
  · show cc1_transform_3 Facts₀.k1_off1_inb Facts₀.numel1_S1 (a 0).1 (grid1.coords t) 0 * 1 + 1 * 0 = teOf a t
    rw [e]; show teOf a t * 1 + 1 * 0 = _; omega
  · show cc1_transform_3 Facts₀.k1_off1_inb Facts₀.numel1_S1 (a 0).1 (grid1.coords t) 1 * 2048 + 1 * j.val = j.val
    rw [e]; show 0 * 2048 + 1 * j.val = _; omega
  · show cc1_transform_3 Facts₀.k1_off1_inb Facts₀.numel1_S1 (a 0).1 (grid1.coords t) 2 * 1024 + 1 * k.val = k.val
    rw [e]; show 0 * 1024 + 1 * k.val = _; omega

theorem inBlk4 (t : Fin grid1.N) (k : Fin 1024) :
    inBlk V a 4 t (ix3 (0 : Fin 1) (0 : Fin 1) k) = V (Proc.devRef .tc main_v40) (ix3 (⟨teOf a t, teOf_lt a t⟩ : Fin 8) (0 : Fin 1) k) := by
  show V (Proc.devRef .tc main_v40) ((((cfg1 (a 0)).win 4).blk t).view.emb (ix3 (0 : Fin 1) (0 : Fin 1) k)) = _
  refine congrArg (V (Proc.devRef .tc main_v40)) ?_
  funext x; apply Fin.ext
  have e := congrFun (index4 a t)
  fin_cases x
  · show cc1_transform_4 Facts₀.k1_off1_inb Facts₀.numel1_S1 (a 0).1 (grid1.coords t) 0 * 1 + 1 * 0 = teOf a t
    rw [e]; show teOf a t * 1 + 1 * 0 = _; omega
  · show cc1_transform_4 Facts₀.k1_off1_inb Facts₀.numel1_S1 (a 0).1 (grid1.coords t) 1 * 1 + 1 * 0 = 0
    rw [e]; rfl
  · show cc1_transform_4 Facts₀.k1_off1_inb Facts₀.numel1_S1 (a 0).1 (grid1.coords t) 2 * 1024 + 1 * k.val = k.val
    rw [e]; show 0 * 1024 + 1 * k.val = _; omega

/-! ## The array written -/

/-- The result array, from its tiles. -/
def ysVal : S3072x1024.Idx → Elt F .f32 := fun y =>
  tileVal V a ⟨(y 0).val / 128, by rw [N_1]; exact Nat.div_lt_of_lt_mul (show (y 0).val < 128 * 24 from (y 0).isLt)⟩
    (ix2 (⟨(y 0).val % 128, Nat.mod_lt _ (by decide)⟩ : Fin 128) (y 1))

theorem flush5 (t : Fin grid1.N) : ((cfg1 (a 0)).win 5).flush t = true := by
  refine (Pipeline.Window.flush_out _ rfl t).mpr ?_
  rcases Nat.lt_or_ge (t.val + 1) grid1.N with h | h
  · refine Or.inr ⟨h, fun e => ?_⟩
    have e : cc1_transform_5 (grid1.coords ⟨t.val + 1, h⟩) = cc1_transform_5 (grid1.coords t) := e
    have := congrFun ((index5 ⟨t.val + 1, h⟩).symm.trans (e.trans (index5 t))) 0
    have : t.val + 1 = t.val := this
    omega
  · exact Or.inl (by have := t.isLt; omega)

theorem emb5 (t : Fin grid1.N) (y : S128x1024.Idx) :
    (((cfg1 (a 0)).win 5).blk t).view.emb y = ix2 (⟨128 * t.val + (y 0).val, by have := t_lt t; have : (y 0).val < 128 := (y 0).isLt; omega⟩ : Fin 3072) (y 1) := by
  funext k; apply Fin.ext
  have e := congrFun (index5 t)
  fin_cases k
  · show cc1_transform_5 (grid1.coords t) 0 * 128 + 1 * (y 0).val = 128 * t.val + (y 0).val
    rw [e]; show t.val * 128 + 1 * (y 0).val = _; omega
  · show cc1_transform_5 (grid1.coords t) 1 * 1024 + 1 * (y 1).val = (y 1).val
    rw [e]; show 0 * 1024 + 1 * (y 1).val = _; omega

theorem ysVal_tile (t : Fin grid1.N) (y : S128x1024.Idx) (h : 128 * t.val + (y 0).val < 3072) :
    tileVal V a t y = ysVal V a (ix2 (⟨128 * t.val + (y 0).val, h⟩ : Fin 3072) (y 1)) := by
  unfold ysVal
  have hy : (y 0).val < 128 := (y 0).isLt
  have h1 : (⟨(128 * t.val + (y 0).val) / 128, by have := t_lt t; have := N_1; omega⟩ : Fin grid1.N) = t := Fin.ext (by show (128 * t.val + (y 0).val) / 128 = t.val; omega)
  have h2 : (⟨(128 * t.val + (y 0).val) % 128, Nat.mod_lt _ (by decide)⟩ : Fin 128) = y 0 := Fin.ext (by show (128 * t.val + (y 0).val) % 128 = (y 0).val; omega)
  show _ = tileVal V a ⟨(128 * t.val + (y 0).val) / 128, _⟩ (ix2 (⟨(128 * t.val + (y 0).val) % 128, _⟩ : Fin 128) (y 1))
  rw [h1, h2]
  refine congrArg _ ?_
  funext k; fin_cases k <;> rfl

theorem idx_split (i : S3072x1024.Idx) (h : 128 * ((i 0).val / 128) + (i 0).val % 128 < 3072) :
    i = ix2 (⟨128 * ((i 0).val / 128) + (i 0).val % 128, h⟩ : Fin 3072) (i 1) := by
  funext k; apply Fin.ext
  fin_cases k
  · show (i 0).val = 128 * ((i 0).val / 128) + (i 0).val % 128; omega
  · rfl

theorem mem5 (t : Fin grid1.N) (y : S128x1024.Idx) :
    ix2 (⟨128 * t.val + (y 0).val, by have := t_lt t; have : (y 0).val < 128 := (y 0).isLt; omega⟩ : Fin 3072) (y 1) ∈ (((cfg1 (a 0)).win 5).blk t).view.set := by
  rw [← emb5 a t y]
  exact View.emb_mem_set _ y

theorem cover5 (i : S3072x1024.Idx) : ∃ t : Fin grid1.N, ((cfg1 (a 0)).win 5).flush t = true ∧ i ∈ (((cfg1 (a 0)).win 5).blk t).view.set := by
  have hi : (i 0).val < 128 * 24 := (i 0).isLt
  have hN : (i 0).val / 128 < grid1.N := by rw [N_1]; omega
  refine ⟨⟨(i 0).val / 128, hN⟩, flush5 a _, ?_⟩
  have := mem5 a ⟨(i 0).val / 128, hN⟩ (ix2 (⟨(i 0).val % 128, Nat.mod_lt _ (by decide)⟩ : Fin 128) (i 1))
  have e : ix2 (⟨128 * ((i 0).val / 128) + (i 0).val % 128, by omega⟩ : Fin 3072) (i 1) = i := (idx_split i (by omega)).symm
  exact (congrArg (fun z : S3072x1024.Idx => z ∈ (((cfg1 (a 0)).win 5).blk ⟨(i 0).val / 128, hN⟩).view.set) e).mp this

theorem arr5 (c : Dev nD) : (dat V a c).arrAt 5 (cfg1 (a 0)).N = ysVal V a :=
  Pipeline.Dat.arrAt_eq_of_emb (dat V a c) 5 (ysVal V a)
    (fun t _ y => (ysVal_tile V a t y _).trans (congrArg (ysVal V a) (emb5 a t y).symm)) (cover5 a)

end Cert.Proof.Mlp
-- ==== Proof.Steps.lean ====
/-
  Single steps of a SparseCore tile's program, each as one rule: a gather or a scatter through a list of rows followed by its
  wait; and what a copy through a view leaves in a buffer, element by element.
-/
module

public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.Tactic

@[expose] public section

noncomputable section

namespace Cert.Proof.Steps

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-! ## What has been waited for -/

/-- The waits made so far: those of `B`, and others at the index `ι`. -/
def Owed (ι : Ix) (O : CellTallies nD τ sig Ix) (B : Waits sig Ix) : sProp 𝕄 :=
  iprop(∃ W, ⌜∀ p ∈ W, p ∈ B ∨ p.2 = ι⌝ ∗ owes c O W)

theorem owed_start (ι : Ix) (O : CellTallies nD τ sig Ix) (B : Waits sig Ix) :
    (owes c O B : sProp 𝕄) ⊢ Owed c ι O B := by
  unfold Owed
  iintro H
  iexists B
  isplitr
  · ipureintro; exact fun p hp => .inl hp
  iexact H

theorem owed_insert {ι : Ix} {O : CellTallies nD τ sig Ix} {B W : Waits sig Ix} (hW : ∀ p ∈ W, p ∈ B ∨ p.2 = ι) (sm : SemLoc sig) :
    (owes c O (insert (sm, ι) W) : sProp 𝕄) ⊢ Owed c ι O B := by
  unfold Owed
  iintro H
  iexists (insert (sm, ι) W)
  isplitr
  · ipureintro
    intro p hp
    rcases Finset.mem_insert.mp hp with h | h
    · exact .inr (by rw [h])
    · exact hW p h
  iexact H

/-! ## The steps -/

/-- An indirect gather into part of a buffer and the wait for it: the part is written with the named rows; the source, the
    list of rows and the semaphore come back as they were. -/
theorem wp_gather_wait [Infinite Name] [EC.LandsIn (upEmb : UEmb _ 𝕄)] {s₁ : Shape} {e₁ : EltTy} {s₂ : Shape} {e₂ : EltTy} {sp₁ : Space}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {srcw : Memref sig c.2.kind sp₁ s₁ e₁} {dstw : Memref sig c.2.kind .vmem s₂ e₂} {hsw : srcw.view.WordExact} {hdw : dstw.view.WordExact}
    {k : PUnit → Prog (TpuEff nD τ sig (Elt F) Λ c.2) α}
    {q qo : PosShare TreeShare} {Ss : Finset (Idx (src.view.loc c))} {fs : Buf (Elt F) (src.view.loc c)}
    {Sd : Finset (Idx (dst.view.loc c))} {fd : Buf (Elt F) (dst.view.loc c)} {So : Finset (Idx (offs.view.loc c))} {fo : Buf (Elt F) (offs.view.loc c)}
    {O : CellTallies nD τ sig Ix} {B : Waits sig Ix}
    (hSs : src.view.set ⊆ Ss) (hSd : dst.view.set ⊆ Sd) (hSo : offs.view.set ⊆ So)
    (ι : Ix) (N : ℕ) (hN : ∑ j, (dst.slice (s.rowRect hg.axis' j) (s.stride_rowRect hg.axis' j)).view.dmaCredit = N)
    (hNw : dstw.view.dmaCredit = N)
    (hs : 0 < s.numel) (hin : ∀ x, (offs.view.read (Elt F) fo x).toNat < s₀.size hg.axis) :
    iprop((src.view.loc c ↦[Ss]{q} fs) ∗ (dst.view.loc c ↦[Sd]{fullShare} fd) ∗ (offs.view.loc c ↦[So]{qo} fo)
        ∗ semVal (c, SemLoc.dma sem) 0 ∗ Owed c ι O B ∗ MayWait c (.dma sem) ι O)
      ⊢ iprop((iprop((src.view.loc c ↦[Ss]{q} fs)
                  ∗ (dst.view.loc c ↦[Sd]{fullShare}
                        (dst.view.write (Elt F) fd (SparseCore.gatherPayload hg (src.view.read (Elt F) fs) (SparseCore.rows (offs.view.read (Elt F) fo) hn hin)) Finset.univ))
                  ∗ (offs.view.loc c ↦[So]{qo} fo) ∗ semVal (c, SemLoc.dma sem) 0 ∗ Owed c ι O B)
              -∗ wp frame (wpE defs 𝒱 c bd) Set.univ (k ⟨⟩) Q)
          -∗ wp frame (wpE defs 𝒱 c bd) Set.univ
              (SparseCore.enqueueIndirectGather hp src dst hg offs hn sem hsrc he hsp hr >>= fun _ =>
                SparseCore.waitIndirectGather sem srcw dstw hsw hdw >>= k) Q) := by
  iintro ⟨Hs, Hd, Ho, Hv, HO, Hmw⟩ Hk
  ihave HO' := (Entails.of_eq (show Owed c ι O B = iprop(∃ W, ⌜∀ p ∈ W, p ∈ B ∨ p.2 = ι⌝ ∗ owes c O W) from rfl)) $$ HO
  icases HO' with ⟨%W, %hW, HO⟩
  ihave Hs' := (pointsTo_split_subset hSs).1 $$ Hs
  icases Hs' with ⟨Hs, Hsr⟩
  ihave Hd' := (pointsTo_split_subset hSd).1 $$ Hd
  icases Hd' with ⟨Hd, Hdr⟩
  ihave Ho' := (pointsTo_split_subset hSo).1 $$ Ho
  icases Ho' with ⟨Ho, Hor⟩
  iapply (SparseCore.wp_indirectGatherLocal EC 𝒱 c bd ι N hN hs hin) $$ [Hs Hd Ho Hv]
  · isplitl [Hs]; · iexact Hs
    isplitl [Hd]; · iexact Hd
    isplitl [Ho] <;> iassumption
  iintro Hf
  rw [SparseCore.waitIndirectGather_bind]
  iapply (Transfers.wp_waitLocalO EC 𝒱 c bd ι hNw) $$ [Hf HO Hmw]
  · isplitl [Hf]; · iexact Hf
    isplitl [HO] <;> iassumption
  iintro ⟨⟨Hd, Hs, Ho⟩, Hv, HO⟩
  iapply Hk
  isplitl [Hs Hsr]
  · iapply (pointsTo_split_subset hSs).2
    isplitl [Hs] <;> iassumption
  isplitl [Hd Hdr]
  · iapply (pointsTo_split_subset hSd).2
    isplitl [Hd]; · iexact Hd
    rw [← SparseCore.pointsTo_rest_write c fd]; iexact Hdr
  isplitl [Ho Hor]
  · iapply (pointsTo_split_subset hSo).2
    isplitl [Ho] <;> iassumption
  isplitl [Hv]; · iexact Hv
  iapply (owed_insert c hW _) $$ HO

/-- An indirect scatter of part of a buffer to the rows a list names, and the wait for it: the named rows are written, the rest
    of the target stays; the source, the list and the semaphore come back as they were. -/
theorem wp_scatter_wait [Infinite Name] [EC.LandsIn (upEmb : UEmb _ 𝕄)] {s₁ : Shape} {e₁ : EltTy} {s₂ : Shape} {e₂ : EltTy} {sp₂ : Space}
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {srcw : Memref sig c.2.kind .vmem s₁ e₁} {dstw : Memref sig c.2.kind sp₂ s₂ e₂} {hsw : srcw.view.WordExact} {hdw : dstw.view.WordExact}
    {k : PUnit → Prog (TpuEff nD τ sig (Elt F) Λ c.2) α}
    {q qo : PosShare TreeShare} {Ss : Finset (Idx (src.view.loc c))} {fs : Buf (Elt F) (src.view.loc c)}
    {Sd : Finset (Idx (dst.view.loc c))} {fd : Buf (Elt F) (dst.view.loc c)} {So : Finset (Idx (offs.view.loc c))} {fo : Buf (Elt F) (offs.view.loc c)}
    {O : CellTallies nD τ sig Ix} {B : Waits sig Ix}
    (hSs : src.view.set ⊆ Ss) (hSo : offs.view.set ⊆ So)
    (ι : Ix) (N : ℕ) (hs : 0 < s.numel) (hin : ∀ x, (offs.view.read (Elt F) fo x).toNat < s₀.size hg.axis)
    (hinj : Function.Injective (SparseCore.rows (offs.view.read (Elt F) fo) hn hin))
    (hSd : SparseCore.namedRows c dst.view hg.axis (SparseCore.rows (offs.view.read (Elt F) fo) hn hin) ⊆ Sd)
    (hN : ∑ j, (dst.slice (s₀.rowRect hg.axis (SparseCore.rows (offs.view.read (Elt F) fo) hn hin j)) (s₀.stride_rowRect hg.axis _)).view.dmaCredit = N)
    (hNw : srcw.view.dmaCredit = N) :
    iprop((src.view.loc c ↦[Ss]{q} fs) ∗ (dst.view.loc c ↦[Sd]{fullShare} fd) ∗ (offs.view.loc c ↦[So]{qo} fo)
        ∗ semVal (c, SemLoc.dma sem) 0 ∗ Owed c ι O B ∗ MayWait c (.dma sem) ι O)
      ⊢ iprop((iprop((src.view.loc c ↦[Ss]{q} fs)
                  ∗ (dst.view.loc c ↦[Sd]{fullShare}
                        (SparseCore.scatterBuf c dst.view hg.axis (SparseCore.rows (offs.view.read (Elt F) fo) hn hin) (SparseCore.scatterRowPayload c src hg fs) fd))
                  ∗ (offs.view.loc c ↦[So]{qo} fo) ∗ semVal (c, SemLoc.dma sem) 0 ∗ Owed c ι O B)
              -∗ wp frame (wpE defs 𝒱 c bd) Set.univ (k ⟨⟩) Q)
          -∗ wp frame (wpE defs 𝒱 c bd) Set.univ
              (SparseCore.enqueueIndirectScatter hp src dst hg offs hn sem he hsp hr >>= fun _ =>
                SparseCore.waitIndirectScatter sem srcw dstw hsw hdw >>= k) Q) := by
  iintro ⟨Hs, Hd, Ho, Hv, HO, Hmw⟩ Hk
  ihave HO' := (Entails.of_eq (show Owed c ι O B = iprop(∃ W, ⌜∀ p ∈ W, p ∈ B ∨ p.2 = ι⌝ ∗ owes c O W) from rfl)) $$ HO
  icases HO' with ⟨%W, %hW, HO⟩
  ihave Hs' := (pointsTo_split_subset hSs).1 $$ Hs
  icases Hs' with ⟨Hs, Hsr⟩
  ihave Hd' := (pointsTo_split_subset hSd).1 $$ Hd
  icases Hd' with ⟨Hd, Hdr⟩
  ihave Ho' := (pointsTo_split_subset hSo).1 $$ Ho
  icases Ho' with ⟨Ho, Hor⟩
  iapply (SparseCore.wp_indirectScatterLocal EC 𝒱 c bd ι N hs hin hinj hN) $$ [Hs Hd Ho Hv]
  · isplitl [Hs]; · iexact Hs
    isplitl [Hd]; · iexact Hd
    isplitl [Ho] <;> iassumption
  iintro Hf
  rw [SparseCore.waitIndirectScatter_bind]
  iapply (Transfers.wp_waitLocalO EC 𝒱 c bd ι hNw) $$ [Hf HO Hmw]
  · isplitl [Hf]; · iexact Hf
    isplitl [HO] <;> iassumption
  iintro ⟨⟨Hd, Hs, Ho⟩, Hv, HO⟩
  iapply Hk
  isplitl [Hs Hsr]
  · iapply (pointsTo_split_subset hSs).2
    isplitl [Hs] <;> iassumption
  isplitl [Hd Hdr]
  · iapply (pointsTo_split_subset hSd).2
    isplitl [Hd]; · iexact Hd
    rw [← SparseCore.pointsTo_rest_scatterBuf c]; iexact Hdr
  isplitl [Ho Hor]
  · iapply (pointsTo_split_subset hSo).2
    isplitl [Ho] <;> iassumption
  isplitl [Hv]; · iexact Hv
  iapply (owed_insert c hW _) $$ HO

/-- A started copy alone: what it will deliver may be restated. -/
theorem wp_lift_dma [Infinite Name] [EC.LandsIn (upEmb : UEmb _ 𝕄)] {sp' : Space}
    {src : Memref sig c.2.kind sp s e} {dst : Memref sig c.2.kind sp' s e} {sm : SemLoc sig}
    {hsrc : src.view.WordExact} {hdst : dst.view.WordExact} {hsem : DmaTarget.Typed (nD := nD) sp sm (.here dst)}
    {Q : PUnit → sProp 𝕄} {q : PosShare TreeShare} {fs : Buf (Elt F) (src.view.loc c)}
    {fd : Buf (Elt F) (dst.view.loc c)} {R : sProp 𝕄}
    (ι : Ix) (N : ℕ) (hN : dst.view.amount sm = N) (hN0 : 0 < N)
    (hR : iprop((dst.view.loc c ↦[dst.view.set]{fullShare} (dst.view.write (Elt F) fd (ReadAs.same.apply (src.view.read (Elt F) fs)) Finset.univ))
        ∗ (src.view.loc c ↦[src.view.set]{q} fs)) ⊢ R) :
    iprop((src.view.loc c ↦[src.view.set]{q} fs) ∗ (dst.view.loc c ↦[dst.view.set]{fullShare} fd) ∗ semVal (c, sm) 0)
      ⊢ iprop((Transfers.Flight EC c sm ι N R -∗ Q ⟨⟩)
          -∗ wp frame (wpE defs 𝒱 c bd) Set.univ (Prog.lift (.enqueueDma src (.here dst) sm hsrc hdst hsem)) Q) := by
  iintro H Hk
  iapply (Transfers.wp_dmaLocal EC 𝒱 c bd ι N hN hN0 (Finset.Subset.refl _)) $$ H
  iintro Hf
  ihave Hf' := (Transfers.Flight_mono EC c hR) $$ Hf
  rw [wp_ret]; imodintro; iapply Hk; iexact Hf'

/-- A wait alone: what the copy delivers, and the semaphore back at zero. -/
theorem wp_lift_wait [EC.LandsIn (upEmb : UEmb _ 𝕄)] {s' : Shape} {e' : EltTy} {sp' : Space} {κ' : Kind} {sem : DmaSem sig}
    {srcw : Memref sig c.2.kind sp' s' e'} {dstw : Memref sig κ' sp s e} {hsrc : srcw.view.WordExact} {hdst : dstw.view.WordExact}
    {Q : PUnit → sProp 𝕄} (ι : Ix) {N : ℕ} (hN : dstw.view.dmaCredit = N) {R : sProp 𝕄}
    {O : CellTallies nD τ sig Ix} {B : Waits sig Ix} :
    iprop(Transfers.Flight EC c (.dma sem) ι N R ∗ Owed c ι O B ∗ MayWait c (.dma sem) ι O)
      ⊢ iprop((iprop(R ∗ semVal (c, .dma sem) 0 ∗ Owed c ι O B) -∗ Q ⟨⟩)
          -∗ wp frame (wpE defs 𝒱 c bd) Set.univ (Prog.lift (.waitDma2 sem srcw dstw hsrc hdst)) Q) := by
  iintro ⟨Hf, HO, Hmw⟩ Hk
  ihave HO' := (Entails.of_eq (show Owed c ι O B = iprop(∃ W, ⌜∀ p ∈ W, p ∈ B ∨ p.2 = ι⌝ ∗ owes c O W) from rfl)) $$ HO
  icases HO' with ⟨%W, %hW, HO⟩
  iapply (Transfers.wp_waitLocalO EC 𝒱 c bd ι hN) $$ [Hf HO Hmw]
  · isplitl [Hf]; · iexact Hf
    isplitl [HO] <;> iassumption
  iintro ⟨HR, Hv, HO⟩
  rw [wp_ret]; imodintro; iapply Hk
  isplitl [HR]; · iexact HR
  isplitl [Hv]; · iexact Hv
  iapply (owed_insert c hW _) $$ HO

/-- A side condition that holds is passed. -/
theorem wp_lift_assume {P : Prop} {d : Decidable P} {Q : PLift P → sProp 𝕄} (h : P) :
    Q ⟨h⟩ ⊢ wp frame (wpE defs 𝒱 c bd) Set.univ (Prog.lift (TpuEff.assume P d)) Q := by
  iintro H
  iapply (wp_assume 𝒱 c bd Set.univ (k := Prog.ret) h)
  rw [wp_ret]; imodintro; iexact H

end Cert.Proof.Steps

end
-- ==== Proof.GatherBody.lean ====
/-
  One tile's run of the gather: it brings the two blocks of positions that are its own into its index buffer, gathers the rows
  they name, eight columns of 128 lanes at a time, into the two slots of its stage, and copies each slot to its block of the
  result, the copies of one block overlapping the work on the other. The run is stated with the values: from any contents of
  the table and of the positions, every word of the positions a row of the table, each block of the result ends holding the
  rows its positions name.
-/
module

public import proofs.«01_k».proof.Proof.Common
public import proofs.«01_k».proof.Proof.Steps

@[expose] public section

noncomputable section

namespace Cert.Proof.Gather

open Cert.KernelIdeal Cert.KernelIdeal.Gen Cert.Proof

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MM F
local notation "yV" => (Memref.whole Cert.KernelIdeal.main_v41_scv : Memref Cert.KernelIdeal.sig Kind.scVector Space.hbm Cert.KernelIdeal.S3072x1024 EltTy.f32)
local notation "pV" => (Memref.whole Cert.KernelIdeal.main_v42_scv : Memref Cert.KernelIdeal.sig Kind.scVector Space.hbm Cert.KernelIdeal.S64x32 EltTy.i32)
local notation "oV" => (Memref.whole Cert.KernelIdeal.main_v43_scv : Memref Cert.KernelIdeal.sig Kind.scVector Space.hbm Cert.KernelIdeal.S2048x1024 EltTy.f32)
local notation "lV" => (Memref.whole Cert.KernelIdeal.cc2_scoped0 : Memref Cert.KernelIdeal.sig Kind.scVector Space.vmem Cert.KernelIdeal.S2x1x32 EltTy.i32)
local notation "tV" => (Memref.whole Cert.KernelIdeal.cc2_scoped2 : Memref Cert.KernelIdeal.sig Kind.scVector Space.vmem Cert.KernelIdeal.S2x32x1024 EltTy.f32)

abbrev yLoc (d : Dev nD) : Loc nD τ sig := (SparseCore.T d).loc main_v41
abbrev pLoc (d : Dev nD) : Loc nD τ sig := (SparseCore.T d).loc main_v42
abbrev oLoc (d : Dev nD) : Loc nD τ sig := (SparseCore.T d).loc main_v43

/-! ## The views the transfers go through -/

/-- Slot `off 0` of the index buffer and of the stage; block `off 0` of the positions and of the result. -/
abbrev lSlot (off : Fin 3 → ℕ) (h : ∀ a, off a + S1x1x32.size a ≤ S2x1x32.size a) : Memref sig .scVector .vmem S1x32 .i32 :=
  ((lV).slice (Rect.unit (s := S2x1x32) off S1x1x32.size h) (fun _ => rfl)).squeeze S1x32 squeezes_S1x1x32_S1x32
abbrev tSlot (off : Fin 3 → ℕ) (h : ∀ a, off a + S1x32x1024.size a ≤ S2x32x1024.size a) : Memref sig .scVector .vmem S32x1024 .f32 :=
  ((tV).slice (Rect.unit (s := S2x32x1024) off S1x32x1024.size h) (fun _ => rfl)).squeeze S32x1024 squeezes_S1x32x1024_S32x1024
abbrev pBlk (off : Fin 2 → ℕ) (h : ∀ a, off a + S1x32.size a ≤ S64x32.size a) : Memref sig .scVector .hbm S1x32 .i32 :=
  (pV).slice (Rect.unit (s := S64x32) off S1x32.size h) (fun _ => rfl)
abbrev oBlk (off : Fin 2 → ℕ) (h : ∀ a, off a + S32x1024.size a ≤ S2048x1024.size a) : Memref sig .scVector .hbm S32x1024 .f32 :=
  (oV).slice (Rect.unit (s := S2048x1024) off S32x1024.size h) (fun _ => rfl)

theorem lSlot_emb (off h) (x : S1x32.Idx) : (((lSlot off h).view.emb x) 0).val = off 0 ∧ (((lSlot off h).view.emb x) 2).val = off 2 + (x 1).val := by
  have e : (Shape.reshapeEquiv (s := S1x1x32) (s' := S1x32) squeezes_S1x1x32_S1x32.numel_eq) x = Fin.cons ⟨0, Nat.one_pos⟩ x :=
    Shape.reshapeEquiv_cons_one _ x
  refine ⟨?_, ?_⟩
  · show off 0 + 1 * ((Shape.reshapeEquiv squeezes_S1x1x32_S1x32.numel_eq) x 0).val = _
    rw [e]; rfl
  · show off 2 + 1 * ((Shape.reshapeEquiv squeezes_S1x1x32_S1x32.numel_eq) x 2).val = _
    rw [e, Nat.one_mul]; rfl

theorem tSlot_emb (off h) (x : S32x1024.Idx) : (((tSlot off h).view.emb x) 0).val = off 0
    ∧ (((tSlot off h).view.emb x) 1).val = off 1 + (x 0).val ∧ (((tSlot off h).view.emb x) 2).val = off 2 + (x 1).val := by
  have e : (Shape.reshapeEquiv (s := S1x32x1024) (s' := S32x1024) squeezes_S1x32x1024_S32x1024.numel_eq) x = Fin.cons ⟨0, Nat.one_pos⟩ x :=
    Shape.reshapeEquiv_cons_one _ x
  refine ⟨?_, ?_, ?_⟩
  · show off 0 + 1 * ((Shape.reshapeEquiv squeezes_S1x32x1024_S32x1024.numel_eq) x 0).val = _
    rw [e]; rfl
  · show off 1 + 1 * ((Shape.reshapeEquiv squeezes_S1x32x1024_S32x1024.numel_eq) x 1).val = _
    rw [e, Nat.one_mul]; rfl
  · show off 2 + 1 * ((Shape.reshapeEquiv squeezes_S1x32x1024_S32x1024.numel_eq) x 2).val = _
    rw [e, Nat.one_mul]; rfl

theorem pBlk_emb (off h) (x : S1x32.Idx) : (((pBlk off h).view.emb x) 0).val = off 0 + (x 0).val ∧ (((pBlk off h).view.emb x) 1).val = off 1 + (x 1).val := by
  refine ⟨?_, ?_⟩
  · show off 0 + 1 * (x 0).val = _; rw [Nat.one_mul]
  · show off 1 + 1 * (x 1).val = _; rw [Nat.one_mul]

theorem oBlk_emb (off h) (x : S32x1024.Idx) : (((oBlk off h).view.emb x) 0).val = off 0 + (x 0).val ∧ (((oBlk off h).view.emb x) 1).val = off 1 + (x 1).val := by
  refine ⟨?_, ?_⟩
  · show off 0 + 1 * (x 0).val = _; rw [Nat.one_mul]
  · show off 1 + 1 * (x 1).val = _; rw [Nat.one_mul]

/-! ## What the buffers hold -/

section Values

variable (yf : S3072x1024.Idx → Elt F .f32) (pf : S64x32.Idx → BitVec 32)

/-- The rows the positions name: row `r`, lane `c`. -/
def rowOf (r c : ℕ) : Elt F .f32 := yf (ixY (pf (ixP (r / 32) r)).toNat c)

/-- The index buffer of a tile once its two blocks are in. -/
def lVal (L : grid2.Coords) : S2x1x32.Idx → BitVec 32 := fun y => pf (ixP (bn L + (y 0).val) (y 2).val)
/-- The stage of a tile once its two blocks are gathered; and once the first `n` columns of 128 lanes are, `f` elsewhere. -/
def tVal (L : grid2.Coords) : S2x32x1024.Idx → Elt F .f32 := fun y => rowOf yf pf (32 * (bn L + (y 0).val) + (y 1).val) (y 2).val
def tPart (L : grid2.Coords) (n : ℕ) (f : S2x32x1024.Idx → Elt F .f32) : S2x32x1024.Idx → Elt F .f32 :=
  fun y => if (y 2).val < 128 * n then tVal yf pf L y else f y
/-- The result. -/
def oVal : S2048x1024.Idx → Elt F .f32 := fun y => rowOf yf pf (y 0).val (y 1).val

theorem tPart_zero (L f) : tPart yf pf L 0 f = f := by
  funext y; simp [tPart]
theorem tPart_eight (L f) : tPart yf pf L 8 f = tVal yf pf L := by
  funext y
  have h : (y 2).val < 1024 := (y 2).isLt
  simp [tPart, h]

/-- A block of positions copied into its slot. -/
theorem lSlot_write (L : grid2.Coords) (o : Fin 3 → ℕ) (ho) (p : Fin 2 → ℕ) (hp) (k : ℕ) (e0 : o 0 = k) (e2 : o 2 = 0) (p0 : p 0 = bn L + k) (p1 : p 1 = 0)
    (f : S2x1x32.Idx → BitVec 32) :
    ∀ y ∈ (lSlot o ho).view.set,
      (lSlot o ho).view.write (Elt F) f (ReadAs.same.apply ((pBlk p hp).view.read (Elt F) pf)) Finset.univ y = lVal pf L y := by
  intro y hy
  obtain ⟨x, -, rfl⟩ := Finset.mem_map.mp hy
  rw [View.write_emb_of_mem _ _ (Finset.mem_univ x)]
  show pf ((pBlk p hp).view.emb x) = pf _
  congr 1
  have hx : (x 0).val < 1 := (x 0).isLt
  obtain ⟨a0, a2⟩ := lSlot_emb o ho x
  obtain ⟨b0, b1⟩ := pBlk_emb p hp x
  exact (ixP_eq _ _ _ (by rw [a0, b0]; omega) (by rw [a2, b1]; omega)).symm

/-- A slot of the stage copied into its block of the result. -/
theorem oBlk_write (L : grid2.Coords) (o : Fin 3 → ℕ) (ho) (p : Fin 2 → ℕ) (hp) (k : ℕ) (e0 : o 0 = k) (e1 : o 1 = 0) (e2 : o 2 = 0)
    (p0 : p 0 = 32 * (bn L + k)) (p1 : p 1 = 0) (f : S2048x1024.Idx → Elt F .f32) :
    ∀ y ∈ (oBlk p hp).view.set,
      (oBlk p hp).view.write (Elt F) f (ReadAs.same.apply ((tSlot o ho).view.read (Elt F) (tVal yf pf L))) Finset.univ y = oVal yf pf y := by
  intro y hy
  obtain ⟨x, -, rfl⟩ := Finset.mem_map.mp hy
  rw [View.write_emb_of_mem _ _ (Finset.mem_univ x)]
  show tVal yf pf L ((tSlot o ho).view.emb x) = _
  obtain ⟨a0, a1, a2⟩ := tSlot_emb o ho x
  obtain ⟨b0, b1⟩ := oBlk_emb p hp x
  unfold tVal oVal
  rw [a0, a1, a2, b0, b1, e0, e1, e2, p0, p1]
  simp only [Nat.zero_add]

end Values

/-! ## One column of 128 lanes gathered -/

/-- Columns `n` of the table and of a slot of the stage; a slot of the index buffer as the flat list of 32 positions. -/
abbrev yCol (c : Fin 2 → ℕ) (h : ∀ a, c a + S3072x128.size a ≤ S3072x1024.size a) : Memref sig .scVector .hbm S3072x128 .f32 :=
  (yV).slice (Rect.unit (s := S3072x1024) c S3072x128.size h) (fun _ => rfl)
abbrev tCol (off : Fin 3 → ℕ) (h : ∀ a, off a + S1x32x1024.size a ≤ S2x32x1024.size a) (c : Fin 2 → ℕ) (hc : ∀ a, c a + S32x128.size a ≤ S32x1024.size a) :
    Memref sig .scVector .vmem S32x128 .f32 :=
  (tSlot off h).slice (Rect.unit (s := S32x1024) c S32x128.size hc) (fun _ => rfl)
abbrev lFlat (off : Fin 3 → ℕ) (h : ∀ a, off a + S1x1x32.size a ≤ S2x1x32.size a) : Memref sig .scVector .vmem S32 .i32 :=
  ((lSlot off h).slice (Rect.unit (s := S1x32) ![0, 0] S1x32.size inb_S1x32_S1x32_0_0) (fun _ => rfl)).squeeze S32 squeezes_S1x32_S32

theorem yCol_emb (c h) (x : S3072x128.Idx) : (((yCol c h).view.emb x) 0).val = c 0 + (x 0).val ∧ (((yCol c h).view.emb x) 1).val = c 1 + (x 1).val := by
  refine ⟨?_, ?_⟩
  · show c 0 + 1 * (x 0).val = _; rw [Nat.one_mul]
  · show c 1 + 1 * (x 1).val = _; rw [Nat.one_mul]

/-- The place of lane `x` of a column within its slot. -/
def inSlot (c : Fin 2 → ℕ) (hc : ∀ a, c a + S32x128.size a ≤ S32x1024.size a) (x : S32x128.Idx) : S32x1024.Idx :=
  (Rect.unit (s := S32x1024) c S32x128.size hc).emb x

theorem inSlot_val (c hc) (x : S32x128.Idx) : ((inSlot c hc x) 0).val = c 0 + (x 0).val ∧ ((inSlot c hc x) 1).val = c 1 + (x 1).val := by
  refine ⟨?_, ?_⟩
  · show c 0 + 1 * (x 0).val = _; rw [Nat.one_mul]
  · show c 1 + 1 * (x 1).val = _; rw [Nat.one_mul]

theorem tCol_emb (off h c hc) (x : S32x128.Idx) : (tCol off h c hc).view.emb x = (tSlot off h).view.emb (inSlot c hc x) := rfl

theorem tCol_subset (off h c hc) : (tCol off h c hc).view.set ⊆ (tSlot off h).view.set := by
  intro y hy
  obtain ⟨x, -, rfl⟩ := Finset.mem_map.mp hy
  rw [tCol_emb]; exact View.emb_mem_set _ _

theorem lFlat_emb (off h) (x : S32.Idx) : (((lFlat off h).view.emb x) 0).val = off 0 ∧ (((lFlat off h).view.emb x) 2).val = off 2 + (x 0).val := by
  have e : (Shape.reshapeEquiv (s := S1x32) (s' := S32) squeezes_S1x32_S32.numel_eq) x = Fin.cons ⟨0, Nat.one_pos⟩ x :=
    Shape.reshapeEquiv_cons_one _ x
  let z : S1x32.Idx := (Rect.unit (s := S1x32) ![0, 0] S1x32.size inb_S1x32_S1x32_0_0).emb ((Shape.reshapeEquiv (s := S1x32) (s' := S32) squeezes_S1x32_S32.numel_eq) x)
  have hz : (z 1).val = (x 0).val := by
    show 0 + 1 * ((Shape.reshapeEquiv squeezes_S1x32_S32.numel_eq) x 1).val = _
    rw [e, Nat.one_mul, Nat.zero_add]; rfl
  have hE : (lFlat off h).view.emb x = (lSlot off h).view.emb z := rfl
  obtain ⟨a0, a2⟩ := lSlot_emb off h z
  rw [hE]; exact ⟨a0, by rw [a2, hz]⟩

theorem lFlat_subset (off h) : (lFlat off h).view.set ⊆ (lSlot off h).view.set := by
  intro y hy
  obtain ⟨x, -, rfl⟩ := Finset.mem_map.mp hy
  exact View.emb_mem_set (lSlot off h).view _

section Column

variable (yf : S3072x1024.Idx → Elt F .f32) (pf : S64x32.Idx → BitVec 32)

/-- Entry `x` of the flat list is the position of row `x` of the slot's block. -/
theorem lFlat_read (L : grid2.Coords) (o : Fin 3 → ℕ) (ho) (e2 : o 2 = 0) (x : S32.Idx) :
    (lFlat o ho).view.read (Elt F) (lVal pf L) x = pf (ixP (bn L + o 0) (x 0).val) := by
  show lVal pf L ((lFlat o ho).view.emb x) = _
  obtain ⟨a0, a2⟩ := lFlat_emb o ho x
  unfold lVal; rw [a0, a2, e2, Nat.zero_add]

/-- The column the gather brings in, in its place: one more column of the slot is done. -/
theorem tCol_write (L : grid2.Coords) (o : Fin 3 → ℕ) (ho) (e1 : o 1 = 0) (e2 : o 2 = 0) (l : Fin 3 → ℕ) (hl) (l2 : l 2 = 0) (el : l 0 = o 0)
    (n : ℕ) (c : Fin 2 → ℕ) (hc) (c0 : c 0 = 0) (c1 : c 1 = 128 * n) (hc')
    (hin : ∀ x, ((lFlat l hl).view.read (Elt F) (lVal pf L) x).toNat < S3072x128.size gathers_S3072x128_S32x128.axis)
    (hn : S32.numel = S32x128.size gathers_S3072x128_S32x128.axis') (f : S2x32x1024.Idx → Elt F .f32) :
    ∀ y ∈ (tSlot o ho).view.set,
      (tCol o ho c hc).view.write (Elt F) (tPart yf pf L n f)
        (SparseCore.gatherPayload gathers_S3072x128_S32x128 ((yCol c hc').view.read (Elt F) yf) (SparseCore.rows ((lFlat l hl).view.read (Elt F) (lVal pf L)) hn hin))
        Finset.univ y = tPart yf pf L (n + 1) f y := by
  intro y hy
  obtain ⟨z, -, rfl⟩ := Finset.mem_map.mp hy
  obtain ⟨a0, a1, a2⟩ := tSlot_emb o ho z
  have hz0 : (z 0).val < 32 := (z 0).isLt
  have hz1 : (z 1).val < 1024 := (z 1).isLt
  by_cases hcol : 128 * n ≤ (z 1).val ∧ (z 1).val < 128 * (n + 1)
  · let x : S32x128.Idx := fun | 0 => ⟨(z 0).val, hz0⟩ | 1 => ⟨(z 1).val - 128 * n, show _ < 128 by omega⟩
    have hx : inSlot c hc x = z := by
      obtain ⟨b0, b1⟩ := inSlot_val c hc x
      funext a
      match a with
      | 0 => exact Fin.ext (by rw [b0, c0, Nat.zero_add])
      | 1 => exact Fin.ext (by rw [b1, c1]; show 128 * n + ((z 1).val - 128 * n) = _; omega)
    conv_lhs => rw [← hx, ← tCol_emb]
    rw [View.write_emb_of_mem _ _ (Finset.mem_univ x)]
    show yf ((yCol c hc').view.emb (gathers_S3072x128_S32x128.idx (SparseCore.rows ((lFlat l hl).view.read (Elt F) (lVal pf L)) hn hin) x)) = _
    have hlt : (((tSlot o ho).view.emb z) 2).val < 128 * (n + 1) := by rw [a2, e2]; omega
    rw [tPart, if_pos hlt]
    unfold tVal rowOf
    congr 1
    obtain ⟨b0, b1⟩ := yCol_emb c hc' (gathers_S3072x128_S32x128.idx (SparseCore.rows ((lFlat l hl).view.read (Elt F) (lVal pf L)) hn hin) x)
    have g0 : ((gathers_S3072x128_S32x128.idx (SparseCore.rows ((lFlat l hl).view.read (Elt F) (lVal pf L)) hn hin) x) 0).val
        = (pf (ixP (bn L + l 0) (z 0).val)).toNat := by
      have := gathers_S3072x128_S32x128.idx_axis (SparseCore.rows ((lFlat l hl).view.read (Elt F) (lVal pf L)) hn hin) x
      refine (congrArg Fin.val this).trans ?_
      show ((lFlat l hl).view.read (Elt F) (lVal pf L) _).toNat = _
      rw [lFlat_read pf L l hl l2]
      congr 3
      have h := Shape.rowMajor_val_one (S32.rowMajor.symm (Fin.cast hn.symm (x gathers_S3072x128_S32x128.axis')))
      rw [Equiv.apply_symm_apply] at h
      exact h.symm
    have g1 : ((gathers_S3072x128_S32x128.idx (SparseCore.rows ((lFlat l hl).view.read (Elt F) (lVal pf L)) hn hin) x) 1).val = (z 1).val - 128 * n :=
      gathers_S3072x128_S32x128.idx_of_ne (SparseCore.rows ((lFlat l hl).view.read (Elt F) (lVal pf L)) hn hin) x 1 (by decide)
    refine (ixY_eq _ _ _ ?_ ?_).symm
    · rw [b0, g0, c0, Nat.zero_add, a0, a1, e1, Nat.zero_add, el]
      congr 2
      have := bn_le L
      exact ixP_congr (by omega) (by omega)
    · rw [b1, g1, c1, a2, e2]; omega
  · rw [View.write_of_not_mem]
    · unfold tPart
      rw [a2, e2, Nat.zero_add]
      by_cases hlt : (z 1).val < 128 * n
      · rw [if_pos hlt, if_pos (by omega)]
      · rw [if_neg hlt, if_neg (by omega)]
    · rw [View.setOn_univ]
      intro hm
      obtain ⟨x, -, hx⟩ := Finset.mem_map.mp hm
      rw [tCol_emb] at hx
      have hx' := (tSlot o ho).view.emb.injective hx
      obtain ⟨b0, b1⟩ := inSlot_val c hc x
      rw [hx', c1] at b1
      have : (x 1).val < 128 := (x 1).isLt
      omega

end Column

/-! ## What a tile holds -/

abbrev lOff (k : Fin 2) : Fin 3 → ℕ := ![k.val, 0, 0]
theorem lOff_inb (k : Fin 2) : ∀ a, lOff k a + S1x1x32.size a ≤ S2x1x32.size a := by revert k; decide
theorem tOff_inb (k : Fin 2) : ∀ a, lOff k a + S1x32x1024.size a ≤ S2x32x1024.size a := by revert k; decide
abbrev pOff (L : grid2.Coords) (k : Fin 2) : Fin 2 → ℕ := ![bn L + k.val, 0]
abbrev oOff (L : grid2.Coords) (k : Fin 2) : Fin 2 → ℕ := ![32 * (bn L + k.val), 0]
theorem pOff_inb (L : grid2.Coords) (k : Fin 2) : ∀ a, pOff L k a + S1x32.size a ≤ S64x32.size a := by
  have := bn_le L; have := k.isLt
  intro a; match a with
  | 0 => show bn L + k.val + 1 ≤ 64; omega
  | 1 => show 0 + 32 ≤ 32; omega
theorem oOff_inb (L : grid2.Coords) (k : Fin 2) : ∀ a, oOff L k a + S32x1024.size a ≤ S2048x1024.size a := by
  have := bn_le L; have := k.isLt
  intro a; match a with
  | 0 => show 32 * (bn L + k.val) + 32 ≤ 2048; omega
  | 1 => show 0 + 1024 ≤ 1024; omega

section Tile

variable (d : Dev nD) (L : grid2.Coords)

/-- Slot `k` of the index buffer; slot `k` of the stage; the tile's block `k` of the positions, of the result; its share of the table. -/
def lPt (k : Fin 2) (f : S2x1x32.Idx → BitVec 32) : sProp 𝕄 :=
  iprop((lV).view.loc (VT d L) ↦[(lSlot (lOff k) (lOff_inb k)).view.set]{fullShare} (f : Buf (Elt F) ((lV).view.loc (VT d L))))
def tPt (k : Fin 2) (f : S2x32x1024.Idx → Elt F .f32) : sProp 𝕄 :=
  iprop((tV).view.loc (VT d L) ↦[(tSlot (lOff k) (tOff_inb k)).view.set]{fullShare} (f : Buf (Elt F) ((tV).view.loc (VT d L))))
def pPt (k : Fin 2) (f : S64x32.Idx → BitVec 32) : sProp 𝕄 :=
  iprop(pLoc d ↦[(pBlk (pOff L k) (pOff_inb L k)).view.set]{fullShare} (f : Buf (Elt F) (pLoc d)))
def oPt (k : Fin 2) (f : S2048x1024.Idx → Elt F .f32) : sProp 𝕄 :=
  iprop(oLoc d ↦[(oBlk (oOff L k) (oOff_inb L k)).view.set]{fullShare} (f : Buf (Elt F) (oLoc d)))
def yPt (q : PosShare TreeShare) (f : S3072x1024.Idx → Elt F .f32) : sProp 𝕄 :=
  iprop(yLoc d ↦[Finset.univ]{q} (f : Buf (Elt F) (yLoc d)))

/-- Semaphore number `k` of the call. -/
def csem (k : ℕ) (hk : k < 5 := by decide) : DmaSem sig := ⟨17 + k, by show 17 + k < 22; omega⟩
def sem0 (k : ℕ) (hk : k < 5 := by decide) : sProp 𝕄 := semVal (VT d L, .dma (csem k hk)) 0

/-- The credit of a block of positions, and of a block of rows. -/
abbrev NP : ℕ := (lSlot (lOff 0) (lOff_inb 0)).view.dmaCredit
abbrev NR : ℕ := (oBlk ![0, 0] (by decide)).view.dmaCredit

variable [FloatOps F] (yf : S3072x1024.Idx → Elt F .f32) (pf : S64x32.Idx → BitVec 32)

local notation "DD" => defs₀ (F := F)
local notation "WP" => wp frame (wpE (Val := Elt F) DD 𝒱₀ (VT d L) none) Set.univ

/-! ## Single steps -/

/-- What a started copy of positions brings, and what a started copy of gathered rows leaves. -/
abbrev inD (k : Fin 2) : sProp 𝕄 := iprop(lPt d L k (lVal pf L) ∗ pPt d L k pf)
abbrev outD (k : Fin 2) : sProp 𝕄 := iprop(oPt d L k (oVal yf pf) ∗ tPt d L k (tVal yf pf L))

abbrev FlightIn (k : Fin 2) (s : ℕ) (hs : s < 5 := by decide) : sProp 𝕄 := Transfers.Flight EC (VT d L) (.dma (csem s hs)) none NP (inD d L pf k)
abbrev FlightOut (k : Fin 2) (s : ℕ) (hs : s < 5 := by decide) : sProp 𝕄 := Transfers.Flight EC (VT d L) (.dma (csem s hs)) none NR (outD d L yf pf k)

/-- Starting the copy of block `k` of positions. -/
theorem start_in (k : Fin 2) (s : ℕ) (hs : s < 5) {o : Fin 3 → ℕ} {ho} {p : Fin 2 → ℕ} {hp} {sem : DmaSem sig} (f : S2x1x32.Idx → BitVec 32)
    (eo : o = lOff k) (ep : p = pOff L k) (es : sem = csem s hs) {h1} {h2} {h3} {Q : PUnit → sProp 𝕄} :
    iprop(pPt d L k pf ∗ lPt d L k f ∗ sem0 d L s hs)
      ⊢ iprop((FlightIn d L pf k s hs -∗ Q ⟨⟩)
          -∗ WP (Prog.lift (.enqueueDma (pBlk p hp) (.here (lSlot o ho)) (.dma sem) h1 h2 h3)) Q) := by
  subst eo ep es
  refine Steps.wp_lift_dma EC 𝒱₀ (VT d L) none (src := pBlk (pOff L k) hp) (dst := lSlot (lOff k) ho) (q := fullShare) (fs := pf) (fd := f) none NP rfl (by decide) ?_
  refine sep_mono ?_ (.rfl)
  exact Eq.le (pointsTo_congr (ℓ := (lV).view.loc (VT d L)) (lSlot_write pf L (lOff k) ho (pOff L k) hp k.val rfl rfl rfl rfl f))

/-- Waiting for it. -/
theorem wait_in (k : Fin 2) (s : ℕ) (hs : s < 5) {o : Fin 3 → ℕ} {ho} {p : Fin 2 → ℕ} {hp} {sem : DmaSem sig}
    (es : sem = csem s hs) {h1} {h2} {O : CellTallies nD τ sig (HIx 2)} {B : Waits sig (HIx 2)} {Q : PUnit → sProp 𝕄} :
    iprop(FlightIn d L pf k s hs ∗ Steps.Owed (VT d L) none O B ∗ Transfers.MayWaits (VT d L) none O)
      ⊢ iprop((iprop(inD d L pf k ∗ sem0 d L s hs ∗ Steps.Owed (VT d L) none O B) -∗ Q ⟨⟩)
          -∗ WP (Prog.lift (.waitDma2 sem (pBlk p hp) (lSlot o ho) h1 h2)) Q) := by
  subst es
  iintro ⟨Hf, HO, Hmw⟩ Hk
  iapply (Steps.wp_lift_wait EC 𝒱₀ (VT d L) none (srcw := pBlk p hp) (dstw := lSlot o ho) (hsrc := h1) (hdst := h2) none (N := NP) rfl) $$ [Hf HO Hmw]
  · isplitl [Hf]; · iexact Hf
    isplitl [HO]; · iexact HO
    iapply (Transfers.MayWaits.elim _) $$ Hmw
  iexact Hk

/-- Starting the copy of a gathered block to the result. -/
theorem start_out (k : Fin 2) (s : ℕ) (hs : s < 5) {o : Fin 3 → ℕ} {ho} {p : Fin 2 → ℕ} {hp} {sem : DmaSem sig} (f : S2048x1024.Idx → Elt F .f32)
    (eo : o = lOff k) (ep : p = oOff L k) (es : sem = csem s hs) {h1} {h2} {h3} {Q : PUnit → sProp 𝕄} :
    iprop(tPt d L k (tVal yf pf L) ∗ oPt d L k f ∗ sem0 d L s hs)
      ⊢ iprop((FlightOut d L yf pf k s hs -∗ Q ⟨⟩)
          -∗ WP (Prog.lift (.enqueueDma (tSlot o ho) (.here (oBlk p hp)) (.dma sem) h1 h2 h3)) Q) := by
  subst eo ep es
  refine Steps.wp_lift_dma EC 𝒱₀ (VT d L) none (src := tSlot (lOff k) ho) (dst := oBlk (oOff L k) hp) (q := fullShare) (fs := tVal yf pf L) (fd := f) none NR rfl (by decide) ?_
  refine sep_mono ?_ (.rfl)
  exact Eq.le (pointsTo_congr (ℓ := oLoc d) (oBlk_write yf pf L (lOff k) ho (oOff L k) hp k.val rfl rfl rfl rfl rfl f))

/-- Waiting for it. -/
theorem wait_out (k : Fin 2) (s : ℕ) (hs : s < 5) {o : Fin 3 → ℕ} {ho} {p : Fin 2 → ℕ} {hp} {sem : DmaSem sig}
    (es : sem = csem s hs) {h1} {h2} {O : CellTallies nD τ sig (HIx 2)} {B : Waits sig (HIx 2)} {Q : PUnit → sProp 𝕄} :
    iprop(FlightOut d L yf pf k s hs ∗ Steps.Owed (VT d L) none O B ∗ Transfers.MayWaits (VT d L) none O)
      ⊢ iprop((iprop(outD d L yf pf k ∗ sem0 d L s hs ∗ Steps.Owed (VT d L) none O B) -∗ Q ⟨⟩)
          -∗ WP (Prog.lift (.waitDma2 sem (tSlot o ho) (oBlk p hp) h1 h2)) Q) := by
  subst es
  iintro ⟨Hf, HO, Hmw⟩ Hk
  iapply (Steps.wp_lift_wait EC 𝒱₀ (VT d L) none (srcw := tSlot o ho) (dstw := oBlk p hp) (hsrc := h1) (hdst := h2) none (N := NR) rfl) $$ [Hf HO Hmw]
  · isplitl [Hf]; · iexact Hf
    isplitl [HO]; · iexact HO
    iapply (Transfers.MayWaits.elim _) $$ Hmw
  iexact Hk

/-! ## The columns of one block -/

theorem trips2 : k2_t2_loop.trips = 8 := by decide

theorem pf_lt (hp : ∀ x, (pf x).toNat < 3072) (o : Fin 3 → ℕ) (ho) (e2 : o 2 = 0) :
    ∀ x, ((lFlat o ho).view.read (Elt F) (lVal pf L) x).toNat < S3072x128.size gathers_S3072x128_S32x128.axis := by
  intro x
  rw [lFlat_read pf L o ho e2]
  exact hp _

/-- One column: gathered and waited for; what the slot then holds, as the transfer leaves it. -/
theorem one_col_raw (hp : ∀ x, (pf x).toNat < 3072) (k : Fin 2) (q : PosShare TreeShare) (f : S2x32x1024.Idx → Elt F .f32)
    {ho hl} {c c' : Fin 2 → ℕ} {hc hc'} {h1 h2 h3 h4 h5 h6 h7}
    {O : CellTallies nD τ sig (HIx 2)} {B : Waits sig (HIx 2)} {Q : PUnit → sProp 𝕄} :
    iprop(yPt d q yf ∗ tPt d L k f ∗ lPt d L k (lVal pf L) ∗ sem0 d L 4 ∗ Steps.Owed (VT d L) none O B ∗ MayWait (VT d L) (.dma (csem 4 (by decide))) none O)
      ⊢ iprop((iprop(yPt d q yf
              ∗ tPt d L k ((tCol (lOff k) ho c hc).view.write (Elt F) f
                  (SparseCore.gatherPayload gathers_S3072x128_S32x128 ((yCol c' hc').view.read (Elt F) yf)
                    (SparseCore.rows ((lFlat (lOff k) hl).view.read (Elt F) (lVal pf L)) h2 (pf_lt L pf hp _ hl rfl))) Finset.univ)
              ∗ lPt d L k (lVal pf L) ∗ sem0 d L 4
              ∗ Steps.Owed (VT d L) none O B) -∗ Q ⟨⟩)
          -∗ WP (SparseCore.enqueueIndirectGather h1 (yCol c' hc') (tCol (lOff k) ho c hc) gathers_S3072x128_S32x128 (lFlat (lOff k) hl) h2 (csem 4 (by decide)) h3 h4 h5
              >>= fun _ => SparseCore.waitIndirectGather (csem 4 (by decide)) (yCol c' hc') (tCol (lOff k) ho c hc) h6 h7 >>= fun _ => Prog.ret ⟨⟩) Q) := by
  refine BIBase.Entails.trans (Steps.wp_gather_wait (defs := DD) EC 𝒱₀ (VT d L) none (src := yCol c' hc') (dst := tCol (lOff k) ho c hc) (hg := gathers_S3072x128_S32x128)
      (offs := lFlat (lOff k) hl) (hn := h2) (sem := csem 4 (by decide)) (hp := h1) (hsrc := h3) (he := h4) (hsp := h5) (hr := by decide) (q := q) (qo := fullShare)
      (srcw := yCol c' hc') (dstw := tCol (lOff k) ho c hc) (hsw := h6) (hdw := h7)
      (k := fun _ => Prog.ret ⟨⟩) (Q := Q)
      (Ss := Finset.univ) (fs := yf) (Sd := (tSlot (lOff k) ho).view.set) (fd := f) (So := (lSlot (lOff k) hl).view.set) (fo := lVal pf L)
      (O := O) (B := B)
      (Finset.subset_univ _) (tCol_subset _ _ _ _) (lFlat_subset _ _) none (tCol (lOff k) ho c hc).view.dmaCredit
      (SparseCore.sum_rowCredit_eq_dmaCredit (tCol (lOff k) ho c hc) _ (fun _ => rfl)) rfl (by decide) (pf_lt L pf hp _ hl rfl)) ?_
  iintro H Hk
  iapply H
  iintro H'
  rw [wp_ret]; imodintro
  iapply Hk
  iexact H'

/-- One column: one more of the slot's columns is done. -/
theorem one_col (hp : ∀ x, (pf x).toNat < 3072) (k : Fin 2) (q : PosShare TreeShare) (f : S2x32x1024.Idx → Elt F .f32) (n : ℕ)
    {o : Fin 3 → ℕ} {ho} {l : Fin 3 → ℕ} {hl} {c c' : Fin 2 → ℕ} {hc hc'} {sem : DmaSem sig}
    (eo : o = lOff k) (el : l = lOff k) (ec : c = ![0, 128 * n]) (ec' : c' = ![0, 128 * n]) (es : sem = csem 4) {h1 h2 h3 h4 h5 h6 h7}
    {O : CellTallies nD τ sig (HIx 2)} {B : Waits sig (HIx 2)} {Q : PUnit → sProp 𝕄} :
    iprop(yPt d q yf ∗ tPt d L k (tPart yf pf L n f) ∗ lPt d L k (lVal pf L) ∗ sem0 d L 4 ∗ Steps.Owed (VT d L) none O B ∗ Transfers.MayWaits (VT d L) none O)
      ⊢ iprop((iprop(yPt d q yf ∗ tPt d L k (tPart yf pf L (n + 1) f) ∗ lPt d L k (lVal pf L) ∗ sem0 d L 4
              ∗ Steps.Owed (VT d L) none O B) -∗ Q ⟨⟩)
          -∗ WP (SparseCore.enqueueIndirectGather h1 (yCol c' hc') (tCol o ho c hc) gathers_S3072x128_S32x128 (lFlat l hl) h2 sem h3 h4 h5
              >>= fun _ => SparseCore.waitIndirectGather sem (yCol c' hc') (tCol o ho c hc) h6 h7 >>= fun _ => Prog.ret ⟨⟩) Q) := by
  subst eo el ec ec' es
  iintro ⟨Hy, Ht, Hl, Hv, HO, Hmw⟩ Hk
  iapply (one_col_raw d L yf pf hp k q (tPart yf pf L n f) (ho := ho) (hl := hl) (hc := hc) (hc' := hc') (O := O) (B := B)) $$ [Hy Ht Hl Hv HO Hmw]
  · isplitl [Hy]; · iexact Hy
    isplitl [Ht]; · iexact Ht
    isplitl [Hl]; · iexact Hl
    isplitl [Hv]; · iexact Hv
    isplitl [HO]; · iexact HO
    iapply (Transfers.MayWaits.elim _) $$ Hmw
  iintro ⟨Hy, Ht, Hl, Hv, HO⟩
  iapply Hk
  isplitl [Hy]; · iexact Hy
  isplitl [Ht]
  · unfold tPt
    iapply (Entails.of_eq (pointsTo_congr (ℓ := (tV).view.loc (VT d L))
      (tCol_write yf pf L (lOff k) ho rfl rfl (lOff k) hl rfl rfl n ![0, 128 * n] hc rfl rfl hc' (pf_lt L pf hp _ hl rfl) h2 f))) $$ Ht
  isplitl [Hl]; · iexact Hl
  isplitl [Hv]; · iexact Hv
  iexact HO

/-- What a tile holds before column `n`. -/
def colInv (k : Fin 2) (q : PosShare TreeShare) (f : S2x32x1024.Idx → Elt F .f32) (O : CellTallies nD τ sig (HIx 2)) (B : Waits sig (HIx 2)) (n : ℕ) (_ : Unit) : sProp 𝕄 :=
  iprop(yPt d q yf ∗ tPt d L k (tPart yf pf L n f) ∗ lPt d L k (lVal pf L) ∗ sem0 d L 4 ∗ Steps.Owed (VT d L) none O B
    ∗ Transfers.MayWaits (VT d L) none O)

/-- The eight columns of a block. -/
theorem columns (hp : ∀ x, (pf x).toNat < 3072) (k : Fin 2) (q : PosShare TreeShare) (f : S2x32x1024.Idx → Elt F .f32)
    (body : Fin k2_t2_loop.trips → Unit → Prog (TpuEff nD τ sig (Elt F) Λ₀ (VT d L).2) Unit)
    (o : Fin 3 → ℕ) (ho) (l : Fin 3 → ℕ) (hl) (sem : DmaSem sig) (eo : o = lOff k) (el : l = lOff k) (es : sem = csem 4) {h1 h2}
    (hbody : ∀ n u, @Eq (Prog (TpuEff nD τ sig (Elt F) Λ₀ (VT d L).2) Unit) (body n u) (SparseCore.enqueueIndirectGather h1 (yCol (k2_off13 n) (k2_off13_inb n)) (tCol o ho (k2_off11 n) (k2_off11_inb n)) gathers_S3072x128_S32x128
        (lFlat l hl) h2 sem (View.wordExact_bits rfl) rfl (Or.inl rfl)
      >>= fun _ => SparseCore.waitIndirectGather sem (yCol (k2_off13 n) (k2_off13_inb n)) (tCol o ho (k2_off11 n) (k2_off11_inb n)) (View.wordExact_bits rfl) (View.wordExact_bits rfl) >>= fun _ => Prog.ret ⟨⟩))
    {O : CellTallies nD τ sig (HIx 2)} {B : Waits sig (HIx 2)} {Q : Unit → sProp 𝕄} :
    iprop(yPt d q yf ∗ tPt d L k f ∗ lPt d L k (lVal pf L) ∗ sem0 d L 4 ∗ Steps.Owed (VT d L) none O B ∗ Transfers.MayWaits (VT d L) none O)
      ⊢ iprop((iprop(yPt d q yf ∗ tPt d L k (tVal yf pf L) ∗ lPt d L k (lVal pf L) ∗ sem0 d L 4
              ∗ Steps.Owed (VT d L) none O B) -∗ Q ⟨⟩)
          -∗ WP (Scf.Loop.for k2_t2_loop k2_t2_ok ⟨⟩ body) Q) := by
  have hstep : ∀ (n : Fin k2_t2_loop.trips) (u : Unit), colInv d L yf pf k q f O B n.val u ⊢ WP (body n u) (colInv d L yf pf k q f O B (n.val + 1)) := by
    intro n u
    rw [hbody n u]
    unfold colInv
    iintro ⟨Hy, Ht, Hl, Hv, HO, #Hmw⟩
    iapply (one_col d L yf pf hp k q f n.val (hc := k2_off11_inb n) (hc' := k2_off13_inb n) eo el (k2_off11_eq n) (k2_off13_eq n) es (O := O) (B := B)) $$ [Hy Ht Hl Hv HO]
    · isplitl [Hy]; · iexact Hy
      isplitl [Ht]; · iexact Ht
      isplitl [Hl]; · iexact Hl
      isplitl [Hv]; · iexact Hv
      isplitl [HO]; · iexact HO
      iexact Hmw
    iintro ⟨Hy, Ht, Hl, Hv, HO⟩
    isplitl [Hy]; · iexact Hy
    isplitl [Ht]; · iexact Ht
    isplitl [Hl]; · iexact Hl
    isplitl [Hv]; · iexact Hv
    isplitl [HO]; · iexact HO
    iexact Hmw
  iintro ⟨Hy, Ht, Hl, Hv, HO, #Hmw⟩ Hk
  iapply (Scf.wp_for frame (wpE (Val := Elt F) DD 𝒱₀ (VT d L) none) Set.univ k2_t2_loop.lb k2_t2_loop.ub k2_t2_loop.st k2_t2_ok ⟨⟩ body (colInv d L yf pf k q f O B) hstep)
  unfold colInv
  isplitl [Hy Ht Hl Hv HO]
  · rw [tPart_zero]
    isplitl [Hy]; · iexact Hy
    isplitl [Ht]; · iexact Ht
    isplitl [Hl]; · iexact Hl
    isplitl [Hv]; · iexact Hv
    isplitl [HO]; · iexact HO
    iexact Hmw
  · iintro %u ⟨Hy, Ht, Hl, Hv, HO, -⟩
    iapply Hk
    isplitl [Hy]; · iexact Hy
    isplitl [Ht]
    · have e : tPart yf pf L (Scf.trips k2_t2_loop.lb k2_t2_loop.ub k2_t2_loop.st) f = tVal yf pf L := by
        rw [show Scf.trips k2_t2_loop.lb k2_t2_loop.ub k2_t2_loop.st = 8 from trips2, tPart_eight]
      rw [e]; iexact Ht
    isplitl [Hl]; · iexact Hl
    isplitl [Hv]; · iexact Hv
    iexact HO

/-! ## The two trips -/

abbrev t0 : Fin k2_t1_loop.trips := ⟨0, by decide⟩
abbrev t1 : Fin k2_t1_loop.trips := ⟨1, by decide⟩

/-- The number of a tile's first block, as the program computes it. -/
abbrev base (L : grid2.Coords) : BitVec 32 :=
  Scalar.muli (Scalar.addi (Scalar.addi 0#32 (Scalar.muli (BitVec.ofNat 32 (L 1).val) 1#32)) (Scalar.muli (BitVec.ofNat 32 (L 0).val) 16#32)) 2#32

theorem chk1_0 : ∀ L : grid2.Coords, k2_chk1 L t0 1#32 0#32 0#32 0#32 0#32 := by decide +kernel
theorem chk1_1 : ∀ L : grid2.Coords, k2_chk1 L t1 2#32 1#32 1#32 0#32 1#32 := by decide +kernel
theorem cond1_0 : ∀ L : grid2.Coords, k2_cond1 L t0 0#32 = 1#1 := by decide +kernel
theorem cond1_1 : ∀ L : grid2.Coords, ¬ k2_cond1 L t1 1#32 = 1#1 := by decide +kernel
theorem cond2_0 : ∀ L : grid2.Coords, k2_cond2 L t0 0#32 = 1#1 := by decide +kernel
theorem cond2_1 : ∀ L : grid2.Coords, k2_cond2 L t1 1#32 = 1#1 := by decide +kernel
theorem cond5_0 : ∀ L : grid2.Coords, k2_cond5 L t0 0#32 = 1#1 := by decide +kernel
theorem cond5_1 : ∀ L : grid2.Coords, k2_cond5 L t1 1#32 = 1#1 := by decide +kernel
theorem cond7_0 : ∀ L : grid2.Coords, ¬ k2_cond7 L t0 0#32 = 1#1 := by decide +kernel
theorem cond7_1 : ∀ L : grid2.Coords, k2_cond7 L t1 1#32 = 1#1 := by decide +kernel
theorem off5_0 : ∀ L : grid2.Coords, k2_off5 L 0#32 = ![2 * (L 1).val + 32 * (L 0).val + 1, 0] := by decide +kernel
theorem off15_0 : ∀ L : grid2.Coords, k2_off15 L 0#32 = ![32 * (2 * (L 1).val + 32 * (L 0).val + 0), 0] := by decide +kernel
theorem off15_1 : ∀ L : grid2.Coords, k2_off15 L 1#32 = ![32 * (2 * (L 1).val + 32 * (L 0).val + 1), 0] := by decide +kernel

/-- What a tile holds before its first trip, between the two, and after the second. -/
def trip0 (q : PosShare TreeShare) (l1 : S2x1x32.Idx → BitVec 32) (f0 f1 : S2x32x1024.Idx → Elt F .f32) (g0 g1 : S2048x1024.Idx → Elt F .f32) (O : CellTallies nD τ sig (HIx 2)) (B : Waits sig (HIx 2)) : sProp 𝕄 :=
  iprop(yPt d q yf ∗ FlightIn d L pf 0 0 ∗ (lPt d L 1 l1 ∗ pPt d L 1 pf ∗ sem0 d L 1) ∗ (tPt d L 0 f0 ∗ oPt d L 0 g0 ∗ sem0 d L 2)
    ∗ (tPt d L 1 f1 ∗ oPt d L 1 g1 ∗ sem0 d L 3) ∗ sem0 d L 4 ∗ Steps.Owed (VT d L) none O B ∗ Transfers.MayWaits (VT d L) none O)
def trip1 (q : PosShare TreeShare) (f1 : S2x32x1024.Idx → Elt F .f32) (g1 : S2048x1024.Idx → Elt F .f32) (O : CellTallies nD τ sig (HIx 2)) (B : Waits sig (HIx 2)) : sProp 𝕄 :=
  iprop(yPt d q yf ∗ (lPt d L 0 (lVal pf L) ∗ pPt d L 0 pf ∗ sem0 d L 0) ∗ FlightIn d L pf 1 1 ∗ FlightOut d L yf pf 0 2
    ∗ (tPt d L 1 f1 ∗ oPt d L 1 g1 ∗ sem0 d L 3) ∗ sem0 d L 4 ∗ Steps.Owed (VT d L) none O B ∗ Transfers.MayWaits (VT d L) none O)
def trip2 (q : PosShare TreeShare) (O : CellTallies nD τ sig (HIx 2)) (B : Waits sig (HIx 2)) : sProp 𝕄 :=
  iprop(yPt d q yf ∗ (lPt d L 0 (lVal pf L) ∗ pPt d L 0 pf ∗ sem0 d L 0) ∗ (lPt d L 1 (lVal pf L) ∗ pPt d L 1 pf ∗ sem0 d L 1)
    ∗ (tPt d L 0 (tVal yf pf L) ∗ oPt d L 0 (oVal yf pf) ∗ sem0 d L 2) ∗ FlightOut d L yf pf 1 3 ∗ sem0 d L 4 ∗ Steps.Owed (VT d L) none O B
    ∗ Transfers.MayWaits (VT d L) none O)

local notation "TRIP" => k2_t1_body (F := F) L yV (Memref.isWhole_whole _) pV (Memref.isWhole_whole _) oV (Memref.isWhole_whole _)
  lV (Memref.isWhole_whole _) cc2_scoped1 tV (Memref.isWhole_whole _) cc2_scoped3 cc2_scoped4 (base L)

/-- The first trip: the second block of positions is asked for, the first waited for, gathered, and sent. -/
theorem first_trip (hp : ∀ x, (pf x).toNat < 3072) (q : PosShare TreeShare) (l1 f0 f1 g0 g1) (O : CellTallies nD τ sig (HIx 2)) (B : Waits sig (HIx 2)) :
    trip0 d L yf pf q l1 f0 f1 g0 g1 O B
      ⊢ WP (TRIP t0 (1#32, 0#32, 0#32, 0#32, 0#32)) (fun acc => iprop(⌜acc = (2#32, 1#32, 1#32, 0#32, 1#32)⌝ ∗ trip1 d L yf pf q f1 g1 O B)) := by
  unfold trip0
  iintro ⟨Hy, Hfi, ⟨Hl1, Hp1, Hs1⟩, ⟨Ht0, Ho0, Hs2⟩, H1, Hs4, HO, #Hmw⟩
  simp only [k2_t1_body, k2_part1_eq_skeleton, k2_part1_skel, wp_bind]
  iapply (Steps.wp_lift_assume 𝒱₀ (VT d L) none (show k2_chk3 0#32 by decide))
  iapply (Steps.wp_lift_assume 𝒱₀ (VT d L) none (show k2_chk2 0#32 by decide))
  iapply (Steps.wp_lift_assume 𝒱₀ (VT d L) none (chk1_0 L))
  rw [dif_pos (cond1_0 L)]
  simp only [wp_bind]
  iapply (start_in d L pf 1 1 (by decide) l1 (by decide) (off5_0 L) (by rfl)) $$ [Hp1 Hl1 Hs1]
  · isplitl [Hp1]; · iexact Hp1
    isplitl [Hl1]; · iexact Hl1
    iexact Hs1
  iintro Hfi1
  simp only [wp_pure, k2_part2_eq_skeleton, k2_part2_skel, wp_bind]
  imodintro
  rw [dif_pos (cond2_0 L)]
  simp only [wp_bind]
  iapply (wait_in d L pf 0 0 (by decide) (by rfl) (O := O) (B := B)) $$ [Hfi HO]
  · isplitl [Hfi]; · iexact Hfi
    isplitl [HO]; · iexact HO
    iexact Hmw
  iintro ⟨⟨Hl0, Hp0⟩, Hs0, HO⟩
  simp only [wp_pure, wp_bind, ite_self, pure_bind]
  try imodintro
  iapply (columns d L yf pf hp 0 q f0 _ (k2_off10 0#32) (k2_off10_inb _ (by decide)) (k2_off12 0#32) (k2_off12_inb _ (by decide)) _ (by decide) (by decide) (by rfl)
    (fun _ _ => rfl) (O := O)) $$ [Hy Ht0 Hl0 Hs4 HO]
  · isplitl [Hy]; · iexact Hy
    isplitl [Ht0]; · iexact Ht0
    isplitl [Hl0]; · iexact Hl0
    isplitl [Hs4]; · iexact Hs4
    isplitl [HO]; · iexact HO
    iexact Hmw
  iintro ⟨Hy, Ht0, Hl0, Hs4, HO⟩
  rw [dif_pos (cond5_0 L)]
  simp only [wp_pure, wp_bind, ite_self, pure_bind]
  try imodintro
  iapply (start_out d L yf pf 0 2 (by decide) g0 (by decide) (off15_0 L) (by rfl)) $$ [Ht0 Ho0 Hs2]
  · isplitl [Ht0]; · iexact Ht0
    isplitl [Ho0]; · iexact Ho0
    iexact Hs2
  iintro Hfo
  try simp only [wp_pure, wp_bind, ite_self, pure_bind]
  try imodintro
  rw [dif_neg (cond7_0 L)]
  simp only [wp_pure, wp_bind, ite_self, pure_bind]
  try imodintro
  isplitr
  · ipureintro
    revert L
    decide +kernel
  unfold trip1
  isplitl [Hy]; · iexact Hy
  isplitl [Hl0 Hp0 Hs0]
  · isplitl [Hl0]; · iexact Hl0
    isplitl [Hp0]; · iexact Hp0
    iexact Hs0
  isplitl [Hfi1]; · iexact Hfi1
  isplitl [Hfo]; · iexact Hfo
  isplitl [H1]; · iexact H1
  isplitl [Hs4]; · iexact Hs4
  isplitl [HO]; · iexact HO
  iexact Hmw

/-- The second trip: the second block of positions is waited for, gathered, and sent, and the first block's sending waited for. -/
theorem second_trip (hp : ∀ x, (pf x).toNat < 3072) (q : PosShare TreeShare) (f1 g1) (O : CellTallies nD τ sig (HIx 2)) (B : Waits sig (HIx 2)) :
    trip1 d L yf pf q f1 g1 O B
      ⊢ WP (TRIP t1 (2#32, 1#32, 1#32, 0#32, 1#32)) (fun acc => iprop(⌜acc = (2#32, 2#32, 2#32, 1#32, 0#32)⌝ ∗ trip2 d L yf pf q O B)) := by
  unfold trip1
  iintro ⟨Hy, H0, Hfi, Hfo, ⟨Ht1, Ho1, Hs3⟩, Hs4, HO, #Hmw⟩
  simp only [k2_t1_body, k2_part1_eq_skeleton, k2_part1_skel, wp_bind]
  iapply (Steps.wp_lift_assume 𝒱₀ (VT d L) none (show k2_chk3 1#32 by decide))
  iapply (Steps.wp_lift_assume 𝒱₀ (VT d L) none (show k2_chk2 1#32 by decide))
  iapply (Steps.wp_lift_assume 𝒱₀ (VT d L) none (chk1_1 L))
  rw [dif_neg (cond1_1 L)]
  simp only [wp_pure, wp_bind, pure_bind, k2_part2_eq_skeleton, k2_part2_skel]
  try imodintro
  rw [dif_pos (cond2_1 L)]
  simp only [wp_bind]
  iapply (wait_in d L pf 1 1 (by decide) (by rfl) (O := O) (B := B)) $$ [Hfi HO]
  · isplitl [Hfi]; · iexact Hfi
    isplitl [HO]; · iexact HO
    iexact Hmw
  iintro ⟨⟨Hl1, Hp1⟩, Hs1, HO⟩
  simp only [wp_pure, wp_bind, ite_self, pure_bind]
  try imodintro
  iapply (columns d L yf pf hp 1 q f1 _ (k2_off10 1#32) (k2_off10_inb _ (by decide)) (k2_off12 1#32) (k2_off12_inb _ (by decide)) _ (by decide) (by decide) (by rfl)
    (fun _ _ => rfl) (O := O)) $$ [Hy Ht1 Hl1 Hs4 HO]
  · isplitl [Hy]; · iexact Hy
    isplitl [Ht1]; · iexact Ht1
    isplitl [Hl1]; · iexact Hl1
    isplitl [Hs4]; · iexact Hs4
    isplitl [HO]; · iexact HO
    iexact Hmw
  iintro ⟨Hy, Ht1, Hl1, Hs4, HO⟩
  rw [dif_pos (cond5_1 L)]
  simp only [wp_pure, wp_bind, ite_self, pure_bind]
  try imodintro
  iapply (start_out d L yf pf 1 3 (by decide) g1 (by decide) (off15_1 L) (by rfl)) $$ [Ht1 Ho1 Hs3]
  · isplitl [Ht1]; · iexact Ht1
    isplitl [Ho1]; · iexact Ho1
    iexact Hs3
  iintro Hfo1
  try simp only [wp_pure, wp_bind, ite_self, pure_bind]
  try imodintro
  rw [dif_pos (cond7_1 L)]
  simp only [wp_bind]
  iapply (wait_out d L yf pf 0 2 (by decide) (by rfl) (O := O) (B := B)) $$ [Hfo HO]
  · isplitl [Hfo]; · iexact Hfo
    isplitl [HO]; · iexact HO
    iexact Hmw
  iintro ⟨⟨Ho0, Ht0⟩, Hs2, HO⟩
  try simp only [wp_pure, wp_bind, ite_self, pure_bind]
  try imodintro
  isplitr
  · ipureintro
    revert L
    decide +kernel
  unfold trip2
  isplitl [Hy]; · iexact Hy
  isplitl [H0]; · iexact H0
  isplitl [Hl1 Hp1 Hs1]
  · isplitl [Hl1]; · iexact Hl1
    isplitl [Hp1]; · iexact Hp1
    iexact Hs1
  isplitl [Ht0 Ho0 Hs2]
  · isplitl [Ht0]; · iexact Ht0
    isplitl [Ho0]; · iexact Ho0
    iexact Hs2
  isplitl [Hfo1]; · iexact Hfo1
  isplitl [Hs4]; · iexact Hs4
  isplitl [HO]; · iexact HO
  iexact Hmw

/-! ## The whole run of a tile -/

/-- Slot and block `k`, with their semaphores. -/
def slotIn (k : Fin 2) (s : ℕ) (hs : s < 5) (l : S2x1x32.Idx → BitVec 32) : sProp 𝕄 := iprop(lPt d L k l ∗ pPt d L k pf ∗ sem0 d L s hs)
def slotOut (k : Fin 2) (s : ℕ) (hs : s < 5) (f : S2x32x1024.Idx → Elt F .f32) (g : S2048x1024.Idx → Elt F .f32) : sProp 𝕄 := iprop(tPt d L k f ∗ oPt d L k g ∗ sem0 d L s hs)

/-- What the loop holds before trip `n`. -/
def tripInv (q : PosShare TreeShare) (l1 : S2x1x32.Idx → BitVec 32) (f0 f1 : S2x32x1024.Idx → Elt F .f32) (g0 g1 : S2048x1024.Idx → Elt F .f32) (O : CellTallies nD τ sig (HIx 2)) (B : Waits sig (HIx 2)) (n : ℕ) (acc : BitVec 32 × BitVec 32 × BitVec 32 × BitVec 32 × BitVec 32) : sProp 𝕄 :=
  match n with
  | 0 => iprop(⌜acc = (1#32, 0#32, 0#32, 0#32, 0#32)⌝ ∗ trip0 d L yf pf q l1 f0 f1 g0 g1 O B)
  | 1 => iprop(⌜acc = (2#32, 1#32, 1#32, 0#32, 1#32)⌝ ∗ trip1 d L yf pf q f1 g1 O B)
  | _ => iprop(⌜acc = (2#32, 2#32, 2#32, 1#32, 0#32)⌝ ∗ trip2 d L yf pf q O B)

theorem trips1 : k2_t1_loop.trips = 2 := by decide

theorem trip_step (hp : ∀ x, (pf x).toNat < 3072) (q : PosShare TreeShare) (l1 f0 f1 g0 g1) (O : CellTallies nD τ sig (HIx 2)) (B : Waits sig (HIx 2)) (n : Fin k2_t1_loop.trips) (acc) :
    tripInv d L yf pf q l1 f0 f1 g0 g1 O B n.val acc ⊢ WP (TRIP n acc) (tripInv d L yf pf q l1 f0 f1 g0 g1 O B (n.val + 1)) := by
  have hn : n.val < 2 := trips1 ▸ n.isLt
  obtain h | h : n = t0 ∨ n = t1 := by
    rcases Nat.lt_or_ge n.val 1 with h | h
    · exact .inl (Fin.ext (show n.val = 0 by omega))
    · exact .inr (Fin.ext (show n.val = 1 by omega))
  · subst h
    show iprop(⌜acc = _⌝ ∗ trip0 d L yf pf q l1 f0 f1 g0 g1 O B) ⊢ _
    iintro ⟨%h, H⟩
    subst h
    iapply (first_trip d L yf pf hp q l1 f0 f1 g0 g1 O B) $$ H
  · subst h
    show iprop(⌜acc = _⌝ ∗ trip1 d L yf pf q f1 g1 O B) ⊢ _
    iintro ⟨%h, H⟩
    subst h
    iapply (second_trip d L yf pf hp q f1 g1 O B) $$ H

theorem off21_0 : ∀ L : grid2.Coords, k2_chk5 L 0#32 := by decide +kernel
theorem chk4_1 : k2_chk4 1#32 := by decide +kernel

/-- A tile's run: both its blocks of the result end at the rows their positions name. -/
theorem tile_run (hp : ∀ x, (pf x).toNat < 3072) (q : PosShare TreeShare) (l0 l1 : S2x1x32.Idx → BitVec 32) (f0 f1 : S2x32x1024.Idx → Elt F .f32) (g0 g1 : S2048x1024.Idx → Elt F .f32)
    (O : CellTallies nD τ sig (HIx 2)) (B : Waits sig (HIx 2)) :
    iprop(yPt d q yf ∗ slotIn d L pf 0 0 (by decide) l0 ∗ slotIn d L pf 1 1 (by decide) l1 ∗ slotOut d L 0 2 (by decide) f0 g0 ∗ slotOut d L 1 3 (by decide) f1 g1
        ∗ sem0 d L 4 ∗ Steps.Owed (VT d L) none O B ∗ Transfers.MayWaits (VT d L) none O)
      ⊢ WP (cc2_k (F := F) L yV (Memref.isWhole_whole _) pV (Memref.isWhole_whole _) oV (Memref.isWhole_whole _)
          lV (Memref.isWhole_whole _) cc2_scoped1 tV (Memref.isWhole_whole _) cc2_scoped3 cc2_scoped4)
        (fun _ => iprop(yPt d q yf ∗ slotIn d L pf 0 0 (by decide) (lVal pf L) ∗ slotIn d L pf 1 1 (by decide) (lVal pf L)
          ∗ slotOut d L 0 2 (by decide) (tVal yf pf L) (oVal yf pf) ∗ slotOut d L 1 3 (by decide) (tVal yf pf L) (oVal yf pf)
          ∗ sem0 d L 4 ∗ Steps.Owed (VT d L) none O B)) := by
  unfold slotIn slotOut
  iintro ⟨Hy, ⟨Hl0, Hp0, Hs0⟩, H1, H2, H3, Hs4, HO, #Hmw⟩
  rw [cc2_k_eq_skeleton]
  simp only [cc2_k_skel, k2_part3_eq_skeleton, k2_part3_skel, wp_bind]
  iapply (start_in d L pf 0 0 (by decide) l0 (by decide) (k2_off2_eq L) (by rfl)) $$ [Hp0 Hl0 Hs0]
  · isplitl [Hp0]; · iexact Hp0
    isplitl [Hl0]; · iexact Hl0
    iexact Hs0
  iintro Hfi
  simp only [wp_pure, k2_part4_eq_skeleton, k2_part4_skel, wp_bind]
  try imodintro
  iapply (Scf.wp_for frame (wpE (Val := Elt F) DD 𝒱₀ (VT d L) none) Set.univ k2_t1_loop.lb k2_t1_loop.ub k2_t1_loop.st k2_t1_ok _ _
    (tripInv d L yf pf q l1 f0 f1 g0 g1 O B) (trip_step d L yf pf hp q l1 f0 f1 g0 g1 O B))
  isplitl [Hy Hfi H1 H2 H3 Hs4 HO]
  · rw [show tripInv d L yf pf q l1 f0 f1 g0 g1 O B 0 = fun acc => iprop(⌜acc = (1#32, 0#32, 0#32, 0#32, 0#32)⌝ ∗ trip0 d L yf pf q l1 f0 f1 g0 g1 O B) from rfl]
    unfold trip0
    isplitr; · ipureintro; rfl
    isplitl [Hy]; · iexact Hy
    isplitl [Hfi]; · iexact Hfi
    isplitl [H1]; · iexact H1
    isplitl [H2]; · iexact H2
    isplitl [H3]; · iexact H3
    isplitl [Hs4]; · iexact Hs4
    isplitl [HO]; · iexact HO
    iexact Hmw
  iintro %acc HI
  rw [show Scf.trips k2_t1_loop.lb k2_t1_loop.ub k2_t1_loop.st = 2 from trips1,
    show tripInv d L yf pf q l1 f0 f1 g0 g1 O B 2 = fun acc => iprop(⌜acc = (2#32, 2#32, 2#32, 1#32, 0#32)⌝ ∗ trip2 d L yf pf q O B) from rfl]
  unfold trip2
  icases HI with ⟨%hacc, Hy, H0, H1, ⟨Ht0, Ho0, Hs2⟩, Hfo, Hs4, HO, -⟩
  subst hacc
  iapply (Steps.wp_lift_assume 𝒱₀ (VT d L) none (off21_0 L))
  iapply (Steps.wp_lift_assume 𝒱₀ (VT d L) none chk4_1)
  simp only [wp_pure]
  try imodintro
  iapply (wait_out d L yf pf 1 3 (by decide) (by rfl) (O := O) (B := B)) $$ [Hfo HO]
  · isplitl [Hfo]; · iexact Hfo
    isplitl [HO]; · iexact HO
    iexact Hmw
  iintro ⟨⟨Ho1, Ht1⟩, Hs3, HO⟩
  try simp only [wp_pure]
  try imodintro
  isplitl [Hy]; · iexact Hy
  isplitl [H0]; · iexact H0
  isplitl [H1]; · iexact H1
  isplitl [Ht0 Ho0 Hs2]
  · isplitl [Ht0]; · iexact Ht0
    isplitl [Ho0]; · iexact Ho0
    iexact Hs2
  isplitl [Ht1 Ho1 Hs3]
  · isplitl [Ht1]; · iexact Ht1
    isplitl [Ho1]; · iexact Ho1
    iexact Hs3
  isplitl [Hs4]; · iexact Hs4
  iexact HO

end Tile

end Cert.Proof.Gather

end
-- ==== Proof.GatherSplit.lean ====
/-
  The arrays of the gather cut among the thirty-two tiles and put together again: a read share of the rows each, two blocks of
  positions, two blocks of the result; and a tile's own two buffers cut into their two slots each.
-/
module

public import proofs.«01_k».proof.Proof.GatherBody

@[expose] public section

noncomputable section

namespace Cert.Proof.Gather

open Cert.KernelIdeal Cert.KernelIdeal.Gen Cert.Proof

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F
local notation "lV" => (Memref.whole Cert.KernelIdeal.cc2_scoped0 : Memref Cert.KernelIdeal.sig Kind.scVector Space.vmem Cert.KernelIdeal.S2x1x32 EltTy.i32)
local notation "tV" => (Memref.whole Cert.KernelIdeal.cc2_scoped2 : Memref Cert.KernelIdeal.sig Kind.scVector Space.vmem Cert.KernelIdeal.S2x32x1024 EltTy.f32)

/-- The tile at a pair of grid coordinates. -/
def coordsV (c : Fin (grid2.bound 0)) (s : Fin (grid2.bound 1)) : grid2.Coords :=
  fun | 0 => c | 1 => s | ⟨_ + 2, h⟩ => absurd h (Nat.not_lt.2 (Nat.le_add_left _ _))

abbrev Tile : Type := Fin 2 × Fin 16
abbrev tileL (p : Tile) : grid2.Coords := coordsV p.1 p.2

theorem bn_tile (p : Tile) : bn (tileL p) = 2 * p.2.val + 32 * p.1.val := rfl

/-! ## Which entries a slot or a block is -/

theorem mem_pBlk (L : grid2.Coords) (k : Fin 2) (y : S64x32.Idx) :
    y ∈ (pBlk (pOff L k) (pOff_inb L k)).view.set ↔ (y 0).val = bn L + k.val := by
  rw [show (pBlk (pOff L k) (pOff_inb L k)).view.set = (Rect.unit (s := S64x32) (pOff L k) S1x32.size (pOff_inb L k)).set from by
    show ((View.whole (main_v42_scv : Ref sig .scVector)).slice _).set = _
    rw [View.set_slice]; exact Finset.map_refl]
  rw [Rect.mem_set_unit]
  have h1 : (y 1).val < 32 := (y 1).isLt
  constructor
  · intro h
    have h0 : bn L + k.val ≤ (y 0).val ∧ (y 0).val < bn L + k.val + 1 := h 0
    omega
  · intro h a
    match a with
    | 0 => exact (show bn L + k.val ≤ (y 0).val ∧ (y 0).val < bn L + k.val + 1 by omega)
    | 1 => exact (show 0 ≤ (y 1).val ∧ (y 1).val < 0 + 32 by omega)

theorem mem_oBlk (L : grid2.Coords) (k : Fin 2) (y : S2048x1024.Idx) :
    y ∈ (oBlk (oOff L k) (oOff_inb L k)).view.set ↔ (y 0).val / 32 = bn L + k.val := by
  rw [show (oBlk (oOff L k) (oOff_inb L k)).view.set = (Rect.unit (s := S2048x1024) (oOff L k) S32x1024.size (oOff_inb L k)).set from by
    show ((View.whole (main_v43_scv : Ref sig .scVector)).slice _).set = _
    rw [View.set_slice]; exact Finset.map_refl]
  rw [Rect.mem_set_unit]
  have h1 : (y 1).val < 1024 := (y 1).isLt
  constructor
  · intro h
    have h0 : 32 * (bn L + k.val) ≤ (y 0).val ∧ (y 0).val < 32 * (bn L + k.val) + 32 := h 0
    omega
  · intro h a
    match a with
    | 0 => exact (show 32 * (bn L + k.val) ≤ (y 0).val ∧ (y 0).val < 32 * (bn L + k.val) + 32 by omega)
    | 1 => exact (show 0 ≤ (y 1).val ∧ (y 1).val < 0 + 1024 by omega)

theorem mem_lSlot (k : Fin 2) (y : S2x1x32.Idx) : y ∈ (lSlot (lOff k) (lOff_inb k)).view.set ↔ (y 0).val = k.val := by
  rw [show (lSlot (lOff k) (lOff_inb k)).view.set = (Rect.unit (s := S2x1x32) (lOff k) S1x1x32.size (lOff_inb k)).set from by
    show (((View.whole (cc2_scoped0 : Ref sig .scVector)).slice _).reshape _ _).set = _
    rw [View.set_reshape, View.set_slice]; exact Finset.map_refl]
  rw [Rect.mem_set_unit]
  have h1 : (y 1).val < 1 := (y 1).isLt
  have h2 : (y 2).val < 32 := (y 2).isLt
  constructor
  · intro h
    have h0 : k.val ≤ (y 0).val ∧ (y 0).val < k.val + 1 := h 0
    omega
  · intro h a
    match a with
    | 0 => exact (show k.val ≤ (y 0).val ∧ (y 0).val < k.val + 1 by omega)
    | 1 => exact (show 0 ≤ (y 1).val ∧ (y 1).val < 0 + 1 by omega)
    | 2 => exact (show 0 ≤ (y 2).val ∧ (y 2).val < 0 + 32 by omega)

theorem mem_tSlot (k : Fin 2) (y : S2x32x1024.Idx) : y ∈ (tSlot (lOff k) (tOff_inb k)).view.set ↔ (y 0).val = k.val := by
  rw [show (tSlot (lOff k) (tOff_inb k)).view.set = (Rect.unit (s := S2x32x1024) (lOff k) S1x32x1024.size (tOff_inb k)).set from by
    show (((View.whole (cc2_scoped2 : Ref sig .scVector)).slice _).reshape _ _).set = _
    rw [View.set_reshape, View.set_slice]; exact Finset.map_refl]
  rw [Rect.mem_set_unit]
  have h1 : (y 1).val < 32 := (y 1).isLt
  have h2 : (y 2).val < 1024 := (y 2).isLt
  constructor
  · intro h
    have h0 : k.val ≤ (y 0).val ∧ (y 0).val < k.val + 1 := h 0
    omega
  · intro h a
    match a with
    | 0 => exact (show k.val ≤ (y 0).val ∧ (y 0).val < k.val + 1 by omega)
    | 1 => exact (show 0 ≤ (y 1).val ∧ (y 1).val < 0 + 32 by omega)
    | 2 => exact (show 0 ≤ (y 2).val ∧ (y 2).val < 0 + 1024 by omega)

/-! ## The cuts -/

/-- A tile's read share of the rows. -/
def yq (p : Tile) : PosShare TreeShare := pieceOf fullShare 32 (by decide) ((finProdFinEquiv : Fin 2 × Fin 16 ≃ Fin 32) p)

theorem yPts_tiles (d : Dev nD) (f : S3072x1024.Idx → Elt F .f32) :
    (yPt d fullShare f : sProp 𝕄) = bigSep Finset.univ fun p : Tile => yPt d (yq p) f := by
  unfold yPt
  rw [pointsTo_piecesOf (ℓ := yLoc d) Finset.univ f (o := 32) (by decide) fullShare]
  exact bigSep_univ_equiv (finProdFinEquiv : Fin 2 × Fin 16 ≃ Fin 32) (fun j : Fin 32 => (yLoc d ↦{pieceOf fullShare 32 (by decide) j} (f : Buf (Elt F) (yLoc d)) : sProp 𝕄))

theorem blocks_ne {p p' : Tile × Fin 2} (h : p ≠ p') : bn (tileL p.1) + p.2.val ≠ bn (tileL p'.1) + p'.2.val := by
  intro e
  rw [bn_tile, bn_tile] at e
  have h1 := p.1.2.isLt; have h2 := p'.1.2.isLt
  have h3 := p.2.isLt; have h4 := p'.2.isLt
  exact h (Prod.ext (Prod.ext (Fin.ext (by omega)) (Fin.ext (by omega))) (Fin.ext (by omega)))

theorem block_of {r : ℕ} (h : r < 64) : ∃ p : Tile × Fin 2, r = bn (tileL p.1) + p.2.val :=
  ⟨((⟨r / 32, by omega⟩, ⟨r % 32 / 2, by omega⟩), ⟨r % 2, by omega⟩), by
    rw [bn_tile]; show r = 2 * (r % 32 / 2) + 32 * (r / 32) + r % 2; omega⟩

theorem pPts_tiles (d : Dev nD) (f : S64x32.Idx → BitVec 32) :
    (pLoc d ↦{fullShare} (f : Buf (Elt F) (pLoc d)) : sProp 𝕄)
      = bigSep Finset.univ fun p : Tile => iprop(pPt d (tileL p) 0 f ∗ pPt d (tileL p) 1 f) := by
  rw [show (pLoc d ↦{fullShare} (f : Buf (Elt F) (pLoc d)) : sProp 𝕄) = bigSep Finset.univ fun p : Tile × Fin 2 => pPt d (tileL p.1) p.2 f from by
    unfold pPt
    rw [← pointsTo_biUnion (ℓ := pLoc d) Finset.univ (fun p : Tile × Fin 2 => (pBlk (pOff (tileL p.1) p.2) (pOff_inb (tileL p.1) p.2)).view.set)
      (fun p _ p' _ h => Finset.disjoint_left.mpr fun y hy hy' => blocks_ne h (((mem_pBlk _ _ y).mp hy).symm.trans ((mem_pBlk _ _ y).mp hy')))]
    rw [show (Finset.univ.biUnion fun p : Tile × Fin 2 => (pBlk (pOff (tileL p.1) p.2) (pOff_inb (tileL p.1) p.2)).view.set) = (Finset.univ : Finset S64x32.Idx) from
      Finset.eq_univ_of_forall fun y => by
        obtain ⟨p, hp⟩ := block_of (show (y 0).val < 64 from (y 0).isLt)
        exact Finset.mem_biUnion.mpr ⟨p, Finset.mem_univ _, (mem_pBlk _ _ y).mpr hp⟩]]
  rw [BI.bigSep_univ_prod]
  exact bigSep_congr fun p _ => bigSep_fin_two _

theorem oPts_tiles (d : Dev nD) (f : S2048x1024.Idx → Elt F .f32) :
    (oLoc d ↦{fullShare} (f : Buf (Elt F) (oLoc d)) : sProp 𝕄)
      = bigSep Finset.univ fun p : Tile => iprop(oPt d (tileL p) 0 f ∗ oPt d (tileL p) 1 f) := by
  rw [show (oLoc d ↦{fullShare} (f : Buf (Elt F) (oLoc d)) : sProp 𝕄) = bigSep Finset.univ fun p : Tile × Fin 2 => oPt d (tileL p.1) p.2 f from by
    unfold oPt
    rw [← pointsTo_biUnion (ℓ := oLoc d) Finset.univ (fun p : Tile × Fin 2 => (oBlk (oOff (tileL p.1) p.2) (oOff_inb (tileL p.1) p.2)).view.set)
      (fun p _ p' _ h => Finset.disjoint_left.mpr fun y hy hy' => blocks_ne h (((mem_oBlk _ _ y).mp hy).symm.trans ((mem_oBlk _ _ y).mp hy')))]
    rw [show (Finset.univ.biUnion fun p : Tile × Fin 2 => (oBlk (oOff (tileL p.1) p.2) (oOff_inb (tileL p.1) p.2)).view.set) = (Finset.univ : Finset S2048x1024.Idx) from
      Finset.eq_univ_of_forall fun y => by
        have hy : (y 0).val < 2048 := (y 0).isLt
        obtain ⟨p, hp⟩ := block_of (show (y 0).val / 32 < 64 by omega)
        exact Finset.mem_biUnion.mpr ⟨p, Finset.mem_univ _, (mem_oBlk _ _ y).mpr hp⟩]]
  rw [BI.bigSep_univ_prod]
  exact bigSep_congr fun p _ => bigSep_fin_two _

/-- What a tile is dealt, its blocks of the result at `g`. -/
def tileRes (d : Dev nD) (yf : S3072x1024.Idx → Elt F .f32) (pf : S64x32.Idx → BitVec 32) (g : S2048x1024.Idx → Elt F .f32) (p : Tile) : sProp 𝕄 :=
  iprop(yPt d (yq p) yf ∗ (pPt d (tileL p) 0 pf ∗ pPt d (tileL p) 1 pf) ∗ oPt d (tileL p) 0 g ∗ oPt d (tileL p) 1 g)

/-- All tiles' pieces are the three arrays. -/
theorem tileRes_all (d : Dev nD) (yf : S3072x1024.Idx → Elt F .f32) (pf : S64x32.Idx → BitVec 32) (g : S2048x1024.Idx → Elt F .f32) :
    (bigSep Finset.univ fun c : Fin 2 => bigSep Finset.univ fun i : Fin 16 => tileRes d yf pf g (c, i))
      = (iprop((yLoc d ↦{fullShare} (yf : Buf (Elt F) (yLoc d))) ∗ (pLoc d ↦{fullShare} (pf : Buf (Elt F) (pLoc d)))
          ∗ (oLoc d ↦{fullShare} (g : Buf (Elt F) (oLoc d)))) : sProp 𝕄) := by
  rw [← BI.bigSep_univ_prod (Φ := fun p : Tile => tileRes d yf pf g p)]
  unfold tileRes
  rw [bigSep_sep', bigSep_sep', pPts_tiles, oPts_tiles, ← yPts_tiles]
  rfl

/-! ## A tile's own buffers -/

theorem two_slots (n : ℕ) (h : n < 2) : n = (0 : Fin 2).val ∨ n = (1 : Fin 2).val := by
  show n = 0 ∨ n = 1; omega

theorem l_split (d : Dev nD) (L : grid2.Coords) (f : S2x1x32.Idx → BitVec 32) :
    ((VT d L).loc cc2_scoped0 ↦{fullShare} (f : Buf (Elt F) ((VT d L).loc cc2_scoped0)) : sProp 𝕄) = iprop(lPt d L 0 f ∗ lPt d L 1 f) := by
  refine Eq.trans ?_ (bigSep_fin_two (fun k : Fin 2 => lPt (F := F) d L k f))
  unfold lPt
  rw [← pointsTo_biUnion (ℓ := (lV).view.loc (VT d L)) Finset.univ (fun k : Fin 2 => (lSlot (lOff k) (lOff_inb k)).view.set)
      (fun k _ k' _ h => Finset.disjoint_left.mpr fun y hy hy' => h (Fin.ext (((mem_lSlot k y).mp hy).symm.trans ((mem_lSlot k' y).mp hy'))))]
  rw [show (Finset.univ.biUnion fun k : Fin 2 => (lSlot (lOff k) (lOff_inb k)).view.set) = (Finset.univ : Finset S2x1x32.Idx) from
      Finset.eq_univ_of_forall fun y => by
        rcases two_slots (y 0).val (y 0).isLt with h | h
        · exact Finset.mem_biUnion.mpr ⟨0, Finset.mem_univ _, (mem_lSlot 0 y).mpr h⟩
        · exact Finset.mem_biUnion.mpr ⟨1, Finset.mem_univ _, (mem_lSlot 1 y).mpr h⟩]

theorem t_split (d : Dev nD) (L : grid2.Coords) (f : S2x32x1024.Idx → Elt F .f32) :
    ((VT d L).loc cc2_scoped2 ↦{fullShare} (f : Buf (Elt F) ((VT d L).loc cc2_scoped2)) : sProp 𝕄) = iprop(tPt d L 0 f ∗ tPt d L 1 f) := by
  refine Eq.trans ?_ (bigSep_fin_two (fun k : Fin 2 => tPt (F := F) d L k f))
  unfold tPt
  rw [← pointsTo_biUnion (ℓ := (tV).view.loc (VT d L)) Finset.univ (fun k : Fin 2 => (tSlot (lOff k) (tOff_inb k)).view.set)
      (fun k _ k' _ h => Finset.disjoint_left.mpr fun y hy hy' => h (Fin.ext (((mem_tSlot k y).mp hy).symm.trans ((mem_tSlot k' y).mp hy'))))]
  rw [show (Finset.univ.biUnion fun k : Fin 2 => (tSlot (lOff k) (tOff_inb k)).view.set) = (Finset.univ : Finset S2x32x1024.Idx) from
      Finset.eq_univ_of_forall fun y => by
        rcases two_slots (y 0).val (y 0).isLt with h | h
        · exact Finset.mem_biUnion.mpr ⟨0, Finset.mem_univ _, (mem_tSlot 0 y).mpr h⟩
        · exact Finset.mem_biUnion.mpr ⟨1, Finset.mem_univ _, (mem_tSlot 1 y).mpr h⟩]

end Cert.Proof.Gather

end
-- ==== Proof.GatherTile.lean ====
/-
  A tile's run of the gather between what it is dealt and what it hands back, from its own buffers and semaphores.
-/
module

public import proofs.«01_k».proof.Proof.GatherSplit

@[expose] public section

noncomputable section

namespace Cert.Proof.Gather

open Cert.KernelIdeal Cert.KernelIdeal.Gen Cert.Proof

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F
local notation "yV" => (Memref.whole Cert.KernelIdeal.main_v41_scv : Memref Cert.KernelIdeal.sig Kind.scVector Space.hbm Cert.KernelIdeal.S3072x1024 EltTy.f32)
local notation "pV" => (Memref.whole Cert.KernelIdeal.main_v42_scv : Memref Cert.KernelIdeal.sig Kind.scVector Space.hbm Cert.KernelIdeal.S64x32 EltTy.i32)
local notation "oV" => (Memref.whole Cert.KernelIdeal.main_v43_scv : Memref Cert.KernelIdeal.sig Kind.scVector Space.hbm Cert.KernelIdeal.S2048x1024 EltTy.f32)
local notation "lV" => (Memref.whole Cert.KernelIdeal.cc2_scoped0 : Memref Cert.KernelIdeal.sig Kind.scVector Space.vmem Cert.KernelIdeal.S2x1x32 EltTy.i32)
local notation "tV" => (Memref.whole Cert.KernelIdeal.cc2_scoped2 : Memref Cert.KernelIdeal.sig Kind.scVector Space.vmem Cert.KernelIdeal.S2x32x1024 EltTy.f32)

variable [FloatOps F]

/-! ## A tile's own cells and buffers -/

section Tile

variable (d : Dev nD) (L : grid2.Coords)

abbrev dcell (d : Dev nD) (c : Fin τ.nSC) (i : Fin τ.nSub) (k : Fin 5) : GSem nD τ sig := (V d c i, .dma (csem k.val k.isLt))

omit [FloatOps F] in
theorem dcell_mem (c : Fin τ.nSC) (i : Fin τ.nSub) (k : Fin 5) : dcell d c i k ∈ ownCells (V d c i) :=
  mem_ownCells.mpr ⟨rfl, (show ∀ s : DmaSem sig, (SemLoc.dma s : SemLoc sig).isScoped .scVector = true by decide) _⟩

omit [FloatOps F] in
theorem ownSems0_V :
    (ownSems0 (VT d L) : sProp 𝕄)
      = iprop((sem0 d L 0 ∗ sem0 d L 1 ∗ sem0 d L 2 ∗ sem0 d L 3 ∗ sem0 d L 4)
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [csem, SemLoc.dma.injEq, Fin.mk.injEq] at this; exact Fin.ext (Nat.add_left_cancel this))]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

omit [FloatOps F] in
theorem ownBufs_V :
    (ownBufs (VT d L) : sProp 𝕄)
      = iprop((∃ f, (VT d L).loc cc2_scoped0 ↦{fullShare} f) ∗ (∃ f, (VT d L).loc cc2_scoped2 ↦{fullShare} f)
          ∗ bigSep (((ownRefs (τ := τ) (.scVector (cV L) (jV L))).erase ((Proc.scVector (cV L) (jV L)).devRef cc2_scoped0)).erase
              ((Proc.scVector (cV L) (jV L)).devRef cc2_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scoped0) rfl)).trans ?_
  rw [SparseCore.bigSep_erase' (Finset.mem_erase.mpr ⟨fun e => absurd (Proc.devRef_injective _ e) (show (cc2_scoped2 : Ref sig .scVector) ≠ cc2_scoped0 by decide),
    SparseCore.Cfg.mem_ownRefs_of_owner (p := Proc.scVector (cV L) (jV L)) (b := (Proc.scVector (cV L) (jV L)).devRef cc2_scoped2) rfl⟩)]

end Tile

/-! ## A tile's run between what it is dealt and what it hands back -/

theorem tile_body (d : Dev nD) (p : Tile) (yf : S3072x1024.Idx → Elt F .f32) {pf : S64x32.Idx → BitVec 32} (hp : ∀ x, (pf x).toNat < 3072) (g : S2048x1024.Idx → Elt F .f32)
    (hF : (K (F := F)).Facts) (O : CellTallies nD τ sig (HIx 2)) (W : Waits sig (HIx 2)) (hO : ∀ g, O g none = 0) :
    iprop(levAts (K (F := F)).L (K (F := F)).lev ∗ emp ∗ tileRes d yf pf g p
        ∗ scopedBufs (VT d (tileL p)) ∗ scopedSems0 (VT d (tileL p)) ∗ owes (VT d (tileL p)) O W)
      ⊢ wp frame (wpE (defs₀ (F := F)) 𝒱₀ (VT d (tileL p)) none) Set.univ
          (cc2_k (tileL p) yV (Memref.isWhole_whole _) pV (Memref.isWhole_whole _) oV (Memref.isWhole_whole _)
            lV (Memref.isWhole_whole _) cc2_scoped1 tV (Memref.isWhole_whole _) cc2_scoped3 cc2_scoped4)
          fun _ => iprop(tileRes d yf pf (oVal yf pf) p ∗ scopedBufs (VT d (tileL p)) ∗ scopedSems0 (VT d (tileL p))
            ∗ ∃ W', ⌜∀ p ∈ W', p ∈ W ∨ p.2 = none ∨ p.2 = some (1 : Fin 2)⌝ ∗ owes (VT d (tileL p)) O W') := by
  rw [(K (F := F)).scopedBufs_V hF d (cV (tileL p)) (jV (tileL p)), SparseCore.Cfg.scopedSems0_V (Val := Elt F) d (cV (tileL p)) (jV (tileL p)), ownSems0_V, ownBufs_V]
  unfold tileRes
  iintro ⟨#Hlv, -, ⟨Hy, ⟨Hp0, Hp1⟩, Ho0, Ho1⟩, ⟨⟨%l, Hl⟩, ⟨%t, Ht⟩, Hbufs⟩, ⟨⟨Hs0, Hs1, Hs2, Hs3, Hs4⟩, Hsems⟩, HO⟩
  ihave Hmw := (show levAts (K (F := F)).L (K (F := F)).lev ⊢ Transfers.MayWaits (VT d (tileL p)) (none : HIx 2) O from
    (K (F := F)).mayWaits_none (thr := VT d (tileL p)) hO) $$ Hlv
  ihave Hl' := (Entails.of_eq (l_split (F := F) d (tileL p) l)) $$ Hl
  icases Hl' with ⟨Hl0, Hl1⟩
  ihave Ht' := (Entails.of_eq (t_split (F := F) d (tileL p) t)) $$ Ht
  icases Ht' with ⟨Ht0, Ht1⟩
  iapply (wp_wand_r Idealize.ShloMosaic.frame (wpE (defs₀ (F := F)) 𝒱₀ (VT d (tileL p)) none) Set.univ)
  isplitl [Hy Hp0 Hp1 Ho0 Ho1 Hl0 Hl1 Ht0 Ht1 Hs0 Hs1 Hs2 Hs3 Hs4 HO Hmw]
  · iapply (tile_run d (tileL p) yf pf hp (yq p) l l t t g g O W)
    unfold slotIn slotOut
    isplitl [Hy]; · iexact Hy
    isplitl [Hl0 Hp0 Hs0]
    · isplitl [Hl0]; · iexact Hl0
      isplitl [Hp0]; · iexact Hp0
      iexact Hs0
    isplitl [Hl1 Hp1 Hs1]
    · isplitl [Hl1]; · iexact Hl1
      isplitl [Hp1]; · iexact Hp1
      iexact Hs1
    isplitl [Ht0 Ho0 Hs2]
    · isplitl [Ht0]; · iexact Ht0
      isplitl [Ho0]; · iexact Ho0
      iexact Hs2
    isplitl [Ht1 Ho1 Hs3]
    · isplitl [Ht1]; · iexact Ht1
      isplitl [Ho1]; · iexact Ho1
      iexact Hs3
    isplitl [Hs4]; · iexact Hs4
    isplitl [HO]; · iapply (Steps.owed_start (VT d (tileL p)) none O W) $$ HO
    iexact Hmw
  iintro %_
  unfold slotIn slotOut Steps.Owed
  iintro ⟨Hy, ⟨Hl0, Hp0, Hs0⟩, ⟨Hl1, Hp1, Hs1⟩, ⟨Ht0, Ho0, Hs2⟩, ⟨Ht1, Ho1, Hs3⟩, Hs4, ⟨%W', %hW, HO⟩⟩
  isplitl [Hy Hp0 Hp1 Ho0 Ho1]
  · isplitl [Hy]; · iexact Hy
    isplitl [Hp0 Hp1]
    · isplitl [Hp0]; · iexact Hp0
      iexact Hp1
    isplitl [Ho0]; · iexact Ho0
    iexact Ho1
  isplitl [Hl0 Hl1 Ht0 Ht1 Hbufs]
  · isplitl [Hl0 Hl1]
    · iexists _; iapply (Entails.of_eq (l_split (F := F) d (tileL p) _).symm)
      isplitl [Hl0]; · iexact Hl0
      iexact Hl1
    isplitl [Ht0 Ht1]
    · iexists _; iapply (Entails.of_eq (t_split (F := F) d (tileL p) _).symm)
      isplitl [Ht0]; · iexact Ht0
      iexact Ht1
    iexact Hbufs
  isplitl [Hs0 Hs1 Hs2 Hs3 Hs4 Hsems]
  · isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    iexact Hsems
  iexists W'; isplitr
  · ipureintro; intro p hp
    rcases hW p hp with h | h
    · exact .inl h
    · exact .inr (.inl h)
  · iexact HO

theorem defs₀_vector (c : Fin τ.nSC) (s : Fin τ.nSub) :
    defs₀ (F := F) (.scVector c s) 2 ()
      = SparseCore.onTile hcore2 hsub2 (fun c s => cc2_k (coordsV c s)
          yV (Memref.isWhole_whole _) pV (Memref.isWhole_whole _) oV (Memref.isWhole_whole _)
          lV (Memref.isWhole_whole _) cc2_scoped1 tV (Memref.isWhole_whole _) cc2_scoped3 cc2_scoped4) ⟨⟩ c s := rfl

end Cert.Proof.Gather

end
-- ==== Proof.ScatterBody.lean ====
/-
  One tile's run of the scatter: it brings its two blocks of rows and the positions of those rows into its own buffers, and
  writes each row to the place its position names, eight columns of 128 lanes at a time, the copies of the second block
  overlapping the work on the first. The run is stated with the values: from any contents of the rows and of the positions,
  the positions distinct rows of the target, every place the tile's positions name ends holding its row.
-/
module

public import proofs.«01_k».proof.Proof.Common
public import proofs.«01_k».proof.Proof.Steps

@[expose] public section

noncomputable section

namespace Cert.Proof.Scatter

open Cert.KernelIdeal Cert.KernelIdeal.Gen Cert.Proof

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MM F
local notation "xV" => (Memref.whole Cert.KernelIdeal.main_arg0_scv : Memref Cert.KernelIdeal.sig Kind.scVector Space.hbm Cert.KernelIdeal.S2048x1024 EltTy.f32)
local notation "pV" => (Memref.whole Cert.KernelIdeal.main_v37_scv : Memref Cert.KernelIdeal.sig Kind.scVector Space.hbm Cert.KernelIdeal.S64x32 EltTy.i32)
local notation "zV" => (Memref.whole Cert.KernelIdeal.main_v38_scv : Memref Cert.KernelIdeal.sig Kind.scVector Space.hbm Cert.KernelIdeal.S3072x1024 EltTy.f32)
local notation "tV" => (Memref.whole Cert.KernelIdeal.cc0_scoped0 : Memref Cert.KernelIdeal.sig Kind.scVector Space.vmem Cert.KernelIdeal.S2x32x1024 EltTy.f32)
local notation "lV" => (Memref.whole Cert.KernelIdeal.cc0_scoped2 : Memref Cert.KernelIdeal.sig Kind.scVector Space.vmem Cert.KernelIdeal.S2x1x32 EltTy.i32)

abbrev xLoc (d : Dev nD) : Loc nD τ sig := (SparseCore.T d).loc main_arg0
abbrev pLoc (d : Dev nD) : Loc nD τ sig := (SparseCore.T d).loc main_v37
abbrev zLoc (d : Dev nD) : Loc nD τ sig := (SparseCore.T d).loc main_v38

/-! ## The views the transfers go through -/

/-- Slot `off 0` of the index buffer and of the stage; block `off 0` of the positions and of the rows. -/
abbrev lSlot (off : Fin 3 → ℕ) (h : ∀ a, off a + S1x1x32.size a ≤ S2x1x32.size a) : Memref sig .scVector .vmem S1x32 .i32 :=
  ((lV).slice (Rect.unit (s := S2x1x32) off S1x1x32.size h) (fun _ => rfl)).squeeze S1x32 squeezes_S1x1x32_S1x32
abbrev tSlot (off : Fin 3 → ℕ) (h : ∀ a, off a + S1x32x1024.size a ≤ S2x32x1024.size a) : Memref sig .scVector .vmem S32x1024 .f32 :=
  ((tV).slice (Rect.unit (s := S2x32x1024) off S1x32x1024.size h) (fun _ => rfl)).squeeze S32x1024 squeezes_S1x32x1024_S32x1024
abbrev pBlk (off : Fin 2 → ℕ) (h : ∀ a, off a + S1x32.size a ≤ S64x32.size a) : Memref sig .scVector .hbm S1x32 .i32 :=
  (pV).slice (Rect.unit (s := S64x32) off S1x32.size h) (fun _ => rfl)
abbrev xBlk (off : Fin 2 → ℕ) (h : ∀ a, off a + S32x1024.size a ≤ S2048x1024.size a) : Memref sig .scVector .hbm S32x1024 .f32 :=
  (xV).slice (Rect.unit (s := S2048x1024) off S32x1024.size h) (fun _ => rfl)

theorem lSlot_emb (off h) (x : S1x32.Idx) : (((lSlot off h).view.emb x) 0).val = off 0 ∧ (((lSlot off h).view.emb x) 2).val = off 2 + (x 1).val := by
  have e : (Shape.reshapeEquiv (s := S1x1x32) (s' := S1x32) squeezes_S1x1x32_S1x32.numel_eq) x = Fin.cons ⟨0, Nat.one_pos⟩ x :=
    Shape.reshapeEquiv_cons_one _ x
  refine ⟨?_, ?_⟩
  · show off 0 + 1 * ((Shape.reshapeEquiv squeezes_S1x1x32_S1x32.numel_eq) x 0).val = _
    rw [e]; rfl
  · show off 2 + 1 * ((Shape.reshapeEquiv squeezes_S1x1x32_S1x32.numel_eq) x 2).val = _
    rw [e, Nat.one_mul]; rfl

theorem tSlot_emb (off h) (x : S32x1024.Idx) : (((tSlot off h).view.emb x) 0).val = off 0
    ∧ (((tSlot off h).view.emb x) 1).val = off 1 + (x 0).val ∧ (((tSlot off h).view.emb x) 2).val = off 2 + (x 1).val := by
  have e : (Shape.reshapeEquiv (s := S1x32x1024) (s' := S32x1024) squeezes_S1x32x1024_S32x1024.numel_eq) x = Fin.cons ⟨0, Nat.one_pos⟩ x :=
    Shape.reshapeEquiv_cons_one _ x
  refine ⟨?_, ?_, ?_⟩
  · show off 0 + 1 * ((Shape.reshapeEquiv squeezes_S1x32x1024_S32x1024.numel_eq) x 0).val = _
    rw [e]; rfl
  · show off 1 + 1 * ((Shape.reshapeEquiv squeezes_S1x32x1024_S32x1024.numel_eq) x 1).val = _
    rw [e, Nat.one_mul]; rfl
  · show off 2 + 1 * ((Shape.reshapeEquiv squeezes_S1x32x1024_S32x1024.numel_eq) x 2).val = _
    rw [e, Nat.one_mul]; rfl

theorem pBlk_emb (off h) (x : S1x32.Idx) : (((pBlk off h).view.emb x) 0).val = off 0 + (x 0).val ∧ (((pBlk off h).view.emb x) 1).val = off 1 + (x 1).val := by
  refine ⟨?_, ?_⟩
  · show off 0 + 1 * (x 0).val = _; rw [Nat.one_mul]
  · show off 1 + 1 * (x 1).val = _; rw [Nat.one_mul]

theorem xBlk_emb (off h) (x : S32x1024.Idx) : (((xBlk off h).view.emb x) 0).val = off 0 + (x 0).val ∧ (((xBlk off h).view.emb x) 1).val = off 1 + (x 1).val := by
  refine ⟨?_, ?_⟩
  · show off 0 + 1 * (x 0).val = _; rw [Nat.one_mul]
  · show off 1 + 1 * (x 1).val = _; rw [Nat.one_mul]

/-! ## What the buffers hold -/

/-- Entry `(r, l)` of the array of 2048 rows, at any pair of numbers. -/
def ixX (r l : ℕ) : S2048x1024.Idx := fun
  | 0 => ⟨r % 2048, Nat.mod_lt _ (by decide)⟩
  | 1 => ⟨l % 1024, Nat.mod_lt _ (by decide)⟩

theorem ixX_eq (x : S2048x1024.Idx) (r l : ℕ) (h0 : r = (x 0).val) (h1 : l = (x 1).val) : ixX r l = x := by
  subst h0 h1; funext a
  match a with
  | 0 => exact Fin.ext (Nat.mod_eq_of_lt (x 0).isLt)
  | 1 => exact Fin.ext (Nat.mod_eq_of_lt (x 1).isLt)

/-- The position of row `t`. -/
def posOf (pf : S64x32.Idx → BitVec 32) (t : ℕ) : ℕ := (pf (ixP (t / 32) t)).toNat

/-- The positions are rows of the target, and no two of them the same. -/
def PosOK (pf : S64x32.Idx → BitVec 32) : Prop :=
  (∀ x, (pf x).toNat < 3072) ∧ ∀ t t', t < 2048 → t' < 2048 → posOf pf t = posOf pf t' → t = t'

/-- The target once every row is in its place: `f` where no position names. -/
def zVal (xf : S2048x1024.Idx → Elt F .f32) (pf : S64x32.Idx → BitVec 32) (f : S3072x1024.Idx → Elt F .f32) : S3072x1024.Idx → Elt F .f32 :=
  open scoped Classical in fun y => if h : ∃ t, t < 2048 ∧ posOf pf t = (y 0).val then xf (ixX h.choose (y 1).val) else f y

theorem zVal_of_pos {xf : S2048x1024.Idx → Elt F .f32} {pf : S64x32.Idx → BitVec 32} (hp : PosOK pf) (f : S3072x1024.Idx → Elt F .f32)
    {t : ℕ} (ht : t < 2048) {y : S3072x1024.Idx} (hy : posOf pf t = (y 0).val) : zVal xf pf f y = xf (ixX t (y 1).val) := by
  have h : ∃ t, t < 2048 ∧ posOf pf t = (y 0).val := ⟨t, ht, hy⟩
  unfold zVal
  rw [dif_pos h, hp.2 _ _ h.choose_spec.1 ht (h.choose_spec.2.trans hy.symm)]

theorem zVal_of_not {xf : S2048x1024.Idx → Elt F .f32} {pf : S64x32.Idx → BitVec 32} (f : S3072x1024.Idx → Elt F .f32)
    {y : S3072x1024.Idx} (hy : ¬ ∃ t, t < 2048 ∧ posOf pf t = (y 0).val) : zVal xf pf f y = f y := by
  unfold zVal
  rw [dif_neg hy]

/-- The places block `r` of the positions names. -/
def zSet (pf : S64x32.Idx → BitVec 32) (r : ℕ) : Finset S3072x1024.Idx :=
  Finset.univ.filter fun y => ∃ l : Fin 32, posOf pf (32 * r + l.val) = (y 0).val

theorem mem_zSet {pf : S64x32.Idx → BitVec 32} {r : ℕ} {y : S3072x1024.Idx} :
    y ∈ zSet pf r ↔ ∃ l : Fin 32, posOf pf (32 * r + l.val) = (y 0).val := by simp [zSet]

section Values

variable (xf : S2048x1024.Idx → Elt F .f32) (pf : S64x32.Idx → BitVec 32)

/-- The index buffer and the stage of a tile once its two blocks are in. -/
def lVal (L : grid0.Coords) : S2x1x32.Idx → BitVec 32 := fun y => pf (ixP (bn L + (y 0).val) (y 2).val)
def tVal (L : grid0.Coords) : S2x32x1024.Idx → Elt F .f32 := fun y => xf (ixX (32 * (bn L + (y 0).val) + (y 1).val) (y 2).val)
/-- The target once the first `n` columns of 128 lanes are written, `f` elsewhere. -/
def zPart (n : ℕ) (f : S3072x1024.Idx → Elt F .f32) : S3072x1024.Idx → Elt F .f32 :=
  fun y => if (y 1).val < 128 * n then zVal xf pf f y else f y

theorem zPart_zero (f) : zPart xf pf 0 f = f := by
  funext y; simp [zPart]
theorem zPart_eight (f) : zPart xf pf 8 f = zVal xf pf f := by
  funext y
  have h : (y 1).val < 1024 := (y 1).isLt
  simp [zPart, h]

/-- A block of positions copied into its slot. -/
theorem lSlot_write (L : grid0.Coords) (o : Fin 3 → ℕ) (ho) (p : Fin 2 → ℕ) (hp) (k : ℕ) (e0 : o 0 = k) (e2 : o 2 = 0) (p0 : p 0 = bn L + k) (p1 : p 1 = 0)
    (f : S2x1x32.Idx → BitVec 32) :
    ∀ y ∈ (lSlot o ho).view.set,
      (lSlot o ho).view.write (Elt F) f (ReadAs.same.apply ((pBlk p hp).view.read (Elt F) pf)) Finset.univ y = lVal pf L y := by
  intro y hy
  obtain ⟨x, -, rfl⟩ := Finset.mem_map.mp hy
  rw [View.write_emb_of_mem _ _ (Finset.mem_univ x)]
  show pf ((pBlk p hp).view.emb x) = pf _
  congr 1
  have hx : (x 0).val < 1 := (x 0).isLt
  obtain ⟨a0, a2⟩ := lSlot_emb o ho x
  obtain ⟨b0, b1⟩ := pBlk_emb p hp x
  exact (ixP_eq _ _ _ (by rw [a0, b0]; omega) (by rw [a2, b1]; omega)).symm

/-- A block of rows copied into its slot. -/
theorem tSlot_write (L : grid0.Coords) (o : Fin 3 → ℕ) (ho) (p : Fin 2 → ℕ) (hp) (k : ℕ) (e0 : o 0 = k) (e1 : o 1 = 0) (e2 : o 2 = 0)
    (p0 : p 0 = 32 * (bn L + k)) (p1 : p 1 = 0) (f : S2x32x1024.Idx → Elt F .f32) :
    ∀ y ∈ (tSlot o ho).view.set,
      (tSlot o ho).view.write (Elt F) f (ReadAs.same.apply ((xBlk p hp).view.read (Elt F) xf)) Finset.univ y = tVal xf L y := by
  intro y hy
  obtain ⟨x, -, rfl⟩ := Finset.mem_map.mp hy
  rw [View.write_emb_of_mem _ _ (Finset.mem_univ x)]
  show xf ((xBlk p hp).view.emb x) = xf _
  congr 1
  obtain ⟨a0, a1, a2⟩ := tSlot_emb o ho x
  obtain ⟨b0, b1⟩ := xBlk_emb p hp x
  exact (ixX_eq _ _ _ (by rw [a0, a1, b0, e0, e1, p0]; omega) (by rw [a2, b1]; omega)).symm

end Values

/-! ## One column of 128 lanes scattered -/

/-- Columns `n` of the target and of a slot of the stage; a slot of the index buffer as the flat list of 32 positions. -/
abbrev zCol (c : Fin 2 → ℕ) (h : ∀ a, c a + S3072x128.size a ≤ S3072x1024.size a) : Memref sig .scVector .hbm S3072x128 .f32 :=
  (zV).slice (Rect.unit (s := S3072x1024) c S3072x128.size h) (fun _ => rfl)
abbrev tCol (off : Fin 3 → ℕ) (h : ∀ a, off a + S1x32x1024.size a ≤ S2x32x1024.size a) (c : Fin 2 → ℕ) (hc : ∀ a, c a + S32x128.size a ≤ S32x1024.size a) :
    Memref sig .scVector .vmem S32x128 .f32 :=
  (tSlot off h).slice (Rect.unit (s := S32x1024) c S32x128.size hc) (fun _ => rfl)
abbrev lFlat (off : Fin 3 → ℕ) (h : ∀ a, off a + S1x1x32.size a ≤ S2x1x32.size a) : Memref sig .scVector .vmem S32 .i32 :=
  ((lSlot off h).slice (Rect.unit (s := S1x32) ![0, 0] S1x32.size inb_S1x32_S1x32_0_0) (fun _ => rfl)).squeeze S32 squeezes_S1x32_S32

theorem zCol_emb (c h) (x : S3072x128.Idx) : (((zCol c h).view.emb x) 0).val = c 0 + (x 0).val ∧ (((zCol c h).view.emb x) 1).val = c 1 + (x 1).val := by
  refine ⟨?_, ?_⟩
  · show c 0 + 1 * (x 0).val = _; rw [Nat.one_mul]
  · show c 1 + 1 * (x 1).val = _; rw [Nat.one_mul]

/-- The place of lane `x` of a column within its slot. -/
def inSlot (c : Fin 2 → ℕ) (hc : ∀ a, c a + S32x128.size a ≤ S32x1024.size a) (x : S32x128.Idx) : S32x1024.Idx :=
  (Rect.unit (s := S32x1024) c S32x128.size hc).emb x

theorem inSlot_val (c hc) (x : S32x128.Idx) : ((inSlot c hc x) 0).val = c 0 + (x 0).val ∧ ((inSlot c hc x) 1).val = c 1 + (x 1).val := by
  refine ⟨?_, ?_⟩
  · show c 0 + 1 * (x 0).val = _; rw [Nat.one_mul]
  · show c 1 + 1 * (x 1).val = _; rw [Nat.one_mul]

theorem tCol_emb (off h c hc) (x : S32x128.Idx) : (tCol off h c hc).view.emb x = (tSlot off h).view.emb (inSlot c hc x) := rfl

theorem tCol_subset (off h c hc) : (tCol off h c hc).view.set ⊆ (tSlot off h).view.set := by
  intro y hy
  obtain ⟨x, -, rfl⟩ := Finset.mem_map.mp hy
  rw [tCol_emb]; exact View.emb_mem_set _ _

theorem lFlat_emb (off h) (x : S32.Idx) : (((lFlat off h).view.emb x) 0).val = off 0 ∧ (((lFlat off h).view.emb x) 2).val = off 2 + (x 0).val := by
  have e : (Shape.reshapeEquiv (s := S1x32) (s' := S32) squeezes_S1x32_S32.numel_eq) x = Fin.cons ⟨0, Nat.one_pos⟩ x :=
    Shape.reshapeEquiv_cons_one _ x
  let z : S1x32.Idx := (Rect.unit (s := S1x32) ![0, 0] S1x32.size inb_S1x32_S1x32_0_0).emb ((Shape.reshapeEquiv (s := S1x32) (s' := S32) squeezes_S1x32_S32.numel_eq) x)
  have hz : (z 1).val = (x 0).val := by
    show 0 + 1 * ((Shape.reshapeEquiv squeezes_S1x32_S32.numel_eq) x 1).val = _
    rw [e, Nat.one_mul, Nat.zero_add]; rfl
  have hE : (lFlat off h).view.emb x = (lSlot off h).view.emb z := rfl
  obtain ⟨a0, a2⟩ := lSlot_emb off h z
  rw [hE]; exact ⟨a0, by rw [a2, hz]⟩

theorem lFlat_subset (off h) : (lFlat off h).view.set ⊆ (lSlot off h).view.set := by
  intro y hy
  obtain ⟨x, -, rfl⟩ := Finset.mem_map.mp hy
  exact View.emb_mem_set (lSlot off h).view _

section Column

variable (xf : S2048x1024.Idx → Elt F .f32) (pf : S64x32.Idx → BitVec 32)

/-- Entry `x` of the flat list is the position of row `x` of the slot's block. -/
theorem lFlat_read (L : grid0.Coords) (o : Fin 3 → ℕ) (ho) (e2 : o 2 = 0) (x : S32.Idx) :
    (lFlat o ho).view.read (Elt F) (lVal pf L) x = pf (ixP (bn L + o 0) (x 0).val) := by
  show lVal pf L ((lFlat o ho).view.emb x) = _
  obtain ⟨a0, a2⟩ := lFlat_emb o ho x
  unfold lVal; rw [a0, a2, e2, Nat.zero_add]

/-- Entry `j` of the list of rows is the position of row `j` of the slot's block. -/
theorem rows_val (L : grid0.Coords) (l : Fin 3 → ℕ) (hl) (l2 : l 2 = 0) (l0 : l 0 < 2)
    (hin : ∀ x, ((lFlat l hl).view.read (Elt F) (lVal pf L) x).toNat < S3072x128.size gathers_S3072x128_S32x128.axis)
    (hn : S32.numel = S32x128.size gathers_S3072x128_S32x128.axis') (j : Fin 32) :
    ((SparseCore.rows ((lFlat l hl).view.read (Elt F) (lVal pf L)) hn hin) j).val = posOf pf (32 * (bn L + l 0) + j.val) := by
  show ((lFlat l hl).view.read (Elt F) (lVal pf L) (S32.rowMajor.symm (Fin.cast hn.symm j))).toNat = _
  rw [lFlat_read pf L l hl l2]
  have h := Shape.rowMajor_val_one (S32.rowMajor.symm (Fin.cast hn.symm j))
  rw [Equiv.apply_symm_apply] at h
  unfold posOf
  have hj := j.isLt
  have h' : ((S32.rowMajor.symm (Fin.cast hn.symm j)) 0).val = j.val := h.symm
  have := bn_le L
  rw [h']
  congr 2
  exact ixP_congr (by omega) (by omega)

theorem rows_inj (hp : PosOK pf) (L : grid0.Coords) (l : Fin 3 → ℕ) (hl) (l2 : l 2 = 0) (l0 : l 0 < 2)
    (hin : ∀ x, ((lFlat l hl).view.read (Elt F) (lVal pf L) x).toNat < S3072x128.size gathers_S3072x128_S32x128.axis)
    (hn : S32.numel = S32x128.size gathers_S3072x128_S32x128.axis') :
    Function.Injective (SparseCore.rows ((lFlat l hl).view.read (Elt F) (lVal pf L)) hn hin) := by
  intro (j : Fin 32) (j' : Fin 32) h
  have e := congrArg Fin.val h
  rw [rows_val pf L l hl l2 l0 hin hn j, rows_val pf L l hl l2 l0 hin hn j'] at e
  have := bn_le L
  have hj := j.isLt
  have hj' := j'.isLt
  exact Fin.ext (by have := hp.2 _ _ (by omega) (by omega) e; omega)

/-- The rows of a column the list names are among the places of its block. -/
theorem named_subset (d : Dev nD) (L : grid0.Coords) (l : Fin 3 → ℕ) (hl) (l2 : l 2 = 0) (l0 : l 0 < 2) (c : Fin 2 → ℕ) (hc) (c0 : c 0 = 0)
    (hin : ∀ x, ((lFlat l hl).view.read (Elt F) (lVal pf L) x).toNat < S3072x128.size gathers_S3072x128_S32x128.axis)
    (hn : S32.numel = S32x128.size gathers_S3072x128_S32x128.axis') :
    SparseCore.namedRows (VT d L) (zCol c hc).view gathers_S3072x128_S32x128.axis (SparseCore.rows ((lFlat l hl).view.read (Elt F) (lVal pf L)) hn hin)
      ⊆ zSet pf (bn L + l 0) := by
  intro y hy
  rw [SparseCore.namedRows_eq] at hy
  obtain ⟨j, -, hy⟩ := Finset.mem_biUnion.mp hy
  obtain ⟨x, -, rfl⟩ := Finset.mem_map.mp hy
  refine mem_zSet.mpr ⟨j, ?_⟩
  rw [← rows_val pf L l hl l2 l0 hin hn j]
  have e := zCol_emb c hc ((S3072x128.rowRect gathers_S3072x128_S32x128.axis (SparseCore.rows ((lFlat l hl).view.read (Elt F) (lVal pf L)) hn hin j)).emb x)
  refine Eq.trans ?_ e.1.symm
  rw [c0, Nat.zero_add]
  exact (congrArg Fin.val (Shape.rowRect_emb_axis gathers_S3072x128_S32x128.axis (SparseCore.rows ((lFlat l hl).view.read (Elt F) (lVal pf L)) hn hin j) x)).symm

/-- What row `j` of a slot's column brings to lane `c` of the column. -/
theorem payload_val (d : Dev nD) (L : grid0.Coords) (o : Fin 3 → ℕ) (ho) (e1 : o 1 = 0) (e2 : o 2 = 0)
    (c : Fin 2 → ℕ) (hc) (c0 : c 0 = 0) (j : Fin 32) (x : S3072x128.Idx) :
    SparseCore.scatterRowPayload (VT d L) (tCol o ho c hc) gathers_S3072x128_S32x128 (tVal xf L) j (Shape.rowProj gathers_S3072x128_S32x128.axis x)
      = xf (ixX (32 * (bn L + o 0) + j.val) (c 1 + (x 1).val)) := by
  generalize hw : (S32x128.rowRect gathers_S3072x128_S32x128.axis' j).emb
    ((Shape.idxEquiv gathers_S3072x128_S32x128.rowShape_eq).symm (Shape.rowProj gathers_S3072x128_S32x128.axis x)) = w
  have w0 : (w 0).val = j.val := by
    rw [← hw]; exact congrArg Fin.val (Shape.rowRect_emb_axis gathers_S3072x128_S32x128.axis' j _)
  have w1 : (w 1).val = (x 1).val := by
    rw [← hw]
    refine (Shape.rowRect_emb_of_ne gathers_S3072x128_S32x128.axis' j _ (b := (1 : Fin 2)) (by decide)).trans ?_
    exact Shape.idxEquiv_symm_apply_val _ _ _
  have key : SparseCore.scatterRowPayload (VT d L) (tCol o ho c hc) gathers_S3072x128_S32x128 (tVal xf L) j (Shape.rowProj gathers_S3072x128_S32x128.axis x)
      = tVal xf L ((tSlot o ho).view.emb (inSlot c hc w)) := by rw [← hw]; rfl
  rw [key]
  obtain ⟨s0, s1⟩ := inSlot_val c hc w
  obtain ⟨a0, a1, a2⟩ := tSlot_emb o ho (inSlot c hc w)
  show xf (ixX _ _) = _
  rw [a0, a1, a2, s0, s1, c0, w0, w1, e1, e2, Nat.zero_add, Nat.zero_add, Nat.zero_add]

/-- A lane of a column, and the row the list names for it. -/
theorem zCol_at (c : Fin 2 → ℕ) (hc') (c0 : c 0 = 0) (r : Fin 3072) (x : S3072x128.Idx) (hx : (x 0).val = r.val) (y : S3072x1024.Idx)
    (h0 : (x 0).val = (y 0).val) (h1 : c 1 + (x 1).val = (y 1).val) :
    ((zCol c hc').view.slice (S3072x128.rowRect gathers_S3072x128_S32x128.axis r)).emb (Shape.rowProj gathers_S3072x128_S32x128.axis x) = y := by
  have hr : r = x gathers_S3072x128_S32x128.axis := Fin.ext hx.symm
  have e : (S3072x128.rowRect gathers_S3072x128_S32x128.axis r).emb (Shape.rowProj gathers_S3072x128_S32x128.axis x) = x := by
    rw [hr]; exact Shape.rowRect_emb_rowProj gathers_S3072x128_S32x128.axis x
  refine (congrArg (zCol c hc').view.emb e).trans ?_
  obtain ⟨b0, b1⟩ := zCol_emb c hc' x
  funext a
  match a with
  | 0 => exact Fin.ext (by rw [b0, c0, Nat.zero_add, h0])
  | 1 => exact Fin.ext (by rw [b1, h1])

/-- The scattered contents at a lane the list names. -/
theorem scatter_at (d : Dev nD) (L : grid0.Coords) (c : Fin 2 → ℕ) (hc') (c0 : c 0 = 0) (r : Fin 32 → Fin 3072) (hinj : Function.Injective r)
    (w : Fin 32 → (S3072x128.rowShape gathers_S3072x128_S32x128.axis).Idx → Elt F .f32) (g : S3072x1024.Idx → Elt F .f32) (j : Fin 32) (x : S3072x128.Idx)
    (hx : (x 0).val = (r j).val) (y : S3072x1024.Idx) (h0 : (x 0).val = (y 0).val) (h1 : c 1 + (x 1).val = (y 1).val) :
    SparseCore.scatterBuf (VT d L) (zCol c hc').view gathers_S3072x128_S32x128.axis r w g y
      = w j (Shape.rowProj gathers_S3072x128_S32x128.axis x) := by
  have hem := zCol_at c hc' c0 (r j) x hx y h0 h1
  have hmem : y ∈ ((zCol c hc').view.slice (S3072x128.rowRect gathers_S3072x128_S32x128.axis (r j))).set := by
    rw [← hem]; exact View.emb_mem_set _ _
  refine (SparseCore.scatterBuf_of_mem (VT d L) (zCol c hc').view gathers_S3072x128_S32x128.axis r hinj w g (k := j) (i := y) hmem).trans ?_
  have hw0 := View.write_emb_of_mem (v := (zCol c hc').view.slice (S3072x128.rowRect gathers_S3072x128_S32x128.axis (r j)))
    g (w j) (Finset.mem_univ (Shape.rowProj gathers_S3072x128_S32x128.axis x))
  exact (congrArg _ hem.symm).trans hw0

/-- The scattered contents off the column. -/
theorem scatter_off (d : Dev nD) (L : grid0.Coords) (n : ℕ) (c : Fin 2 → ℕ) (hc') (c1 : c 1 = 128 * n) (r : Fin 32 → Fin 3072)
    (w : Fin 32 → (S3072x128.rowShape gathers_S3072x128_S32x128.axis).Idx → Elt F .f32) (g : S3072x1024.Idx → Elt F .f32)
    (y : S3072x1024.Idx) (hcol : ¬ (128 * n ≤ (y 1).val ∧ (y 1).val < 128 * (n + 1))) :
    SparseCore.scatterBuf (VT d L) (zCol c hc').view gathers_S3072x128_S32x128.axis r w g y = g y := by
  refine SparseCore.scatterBuf_of_not_mem (VT d L) (zCol c hc').view gathers_S3072x128_S32x128.axis r w g ?_
  intro hm
  obtain ⟨x, -, hx⟩ := Finset.mem_map.mp (SparseCore.namedRows_subset_set (VT d L) _ _ _ hm)
  obtain ⟨b0, b1⟩ := zCol_emb c hc' x
  have hb : (((zCol c hc').view.emb x) 1).val = (y 1).val := by rw [hx]
  rw [hb, c1] at b1
  have : (x 1).val < 128 := (x 1).isLt
  omega

/-- A column scattered: one more column of the block's places is written. -/
theorem zCol_write (hp : PosOK pf) (d : Dev nD) (L : grid0.Coords) (o : Fin 3 → ℕ) (ho) (e1 : o 1 = 0) (e2 : o 2 = 0) (o0 : o 0 < 2) (l : Fin 3 → ℕ) (hl) (l2 : l 2 = 0) (el : l 0 = o 0)
    (n : ℕ) (c : Fin 2 → ℕ) (hc) (c0 : c 0 = 0) (c1 : c 1 = 128 * n) (hc')
    (hin : ∀ x, ((lFlat l hl).view.read (Elt F) (lVal pf L) x).toNat < S3072x128.size gathers_S3072x128_S32x128.axis)
    (hn : S32.numel = S32x128.size gathers_S3072x128_S32x128.axis') (f : S3072x1024.Idx → Elt F .f32) :
    ∀ y ∈ zSet pf (bn L + o 0),
      SparseCore.scatterBuf (VT d L) (zCol c hc').view gathers_S3072x128_S32x128.axis (SparseCore.rows ((lFlat l hl).view.read (Elt F) (lVal pf L)) hn hin)
        (SparseCore.scatterRowPayload (VT d L) (tCol o ho c hc) gathers_S3072x128_S32x128 (tVal xf L)) (zPart xf pf n f) y = zPart xf pf (n + 1) f y := by
  intro y hy
  obtain ⟨j, hj⟩ := mem_zSet.mp hy
  have hy0 : (y 0).val < 3072 := (y 0).isLt
  have hb := bn_le L
  have hj32 := j.isLt
  by_cases hcol : 128 * n ≤ (y 1).val ∧ (y 1).val < 128 * (n + 1)
  · have hx1 : (y 1).val - 128 * n < 128 := by omega
    have h1 : c 1 + ((y 1).val - 128 * n) = (y 1).val := by rw [c1]; omega
    refine (scatter_at d L c hc' c0 _ (rows_inj pf hp L l hl l2 (by omega) hin hn) _ (zPart xf pf n f) j
      (fun | 0 => ⟨(y 0).val, hy0⟩ | 1 => ⟨(y 1).val - 128 * n, hx1⟩) ?_ y rfl h1).trans ?_
    · rw [rows_val pf L l hl l2 (by omega) hin hn j, el]; exact hj.symm
    · refine (payload_val xf d L o ho e1 e2 c hc c0 j _).trans ?_
      have hlt : (y 1).val < 128 * (n + 1) := hcol.2
      rw [zPart, if_pos hlt, zVal_of_pos hp f (t := 32 * (bn L + o 0) + j.val) (by omega) hj]
      exact congrArg (fun z => xf (ixX _ z)) h1
  · refine (scatter_off d L n c hc' c1 _ _ (zPart xf pf n f) y hcol).trans ?_
    unfold zPart
    by_cases hlt : (y 1).val < 128 * n
    · rw [if_pos hlt, if_pos (by omega)]
    · rw [if_neg hlt, if_neg (by omega)]

end Column

/-! ## What a tile holds -/

abbrev lOff (k : Fin 2) : Fin 3 → ℕ := ![k.val, 0, 0]
theorem lOff_inb (k : Fin 2) : ∀ a, lOff k a + S1x1x32.size a ≤ S2x1x32.size a := by revert k; decide
theorem tOff_inb (k : Fin 2) : ∀ a, lOff k a + S1x32x1024.size a ≤ S2x32x1024.size a := by revert k; decide
abbrev pOff (L : grid0.Coords) (k : Fin 2) : Fin 2 → ℕ := ![bn L + k.val, 0]
abbrev xOff (L : grid0.Coords) (k : Fin 2) : Fin 2 → ℕ := ![32 * (bn L + k.val), 0]
theorem pOff_inb (L : grid0.Coords) (k : Fin 2) : ∀ a, pOff L k a + S1x32.size a ≤ S64x32.size a := by
  have := bn_le L; have := k.isLt
  intro a; match a with
  | 0 => show bn L + k.val + 1 ≤ 64; omega
  | 1 => show 0 + 32 ≤ 32; omega
theorem xOff_inb (L : grid0.Coords) (k : Fin 2) : ∀ a, xOff L k a + S32x1024.size a ≤ S2048x1024.size a := by
  have := bn_le L; have := k.isLt
  intro a; match a with
  | 0 => show 32 * (bn L + k.val) + 32 ≤ 2048; omega
  | 1 => show 0 + 1024 ≤ 1024; omega

section Tile

variable (d : Dev nD) (L : grid0.Coords)

/-- Slot `k` of the index buffer; slot `k` of the stage; the tile's block `k` of the positions, of the rows; the places its block `k` names. -/
def lPt (k : Fin 2) (f : S2x1x32.Idx → BitVec 32) : sProp 𝕄 :=
  iprop((lV).view.loc (VT d L) ↦[(lSlot (lOff k) (lOff_inb k)).view.set]{fullShare} (f : Buf (Elt F) ((lV).view.loc (VT d L))))
def tPt (k : Fin 2) (f : S2x32x1024.Idx → Elt F .f32) : sProp 𝕄 :=
  iprop((tV).view.loc (VT d L) ↦[(tSlot (lOff k) (tOff_inb k)).view.set]{fullShare} (f : Buf (Elt F) ((tV).view.loc (VT d L))))
def pPt (k : Fin 2) (f : S64x32.Idx → BitVec 32) : sProp 𝕄 :=
  iprop(pLoc d ↦[(pBlk (pOff L k) (pOff_inb L k)).view.set]{fullShare} (f : Buf (Elt F) (pLoc d)))
def xPt (k : Fin 2) (f : S2048x1024.Idx → Elt F .f32) : sProp 𝕄 :=
  iprop(xLoc d ↦[(xBlk (xOff L k) (xOff_inb L k)).view.set]{fullShare} (f : Buf (Elt F) (xLoc d)))
def zPt (pf : S64x32.Idx → BitVec 32) (k : Fin 2) (f : S3072x1024.Idx → Elt F .f32) : sProp 𝕄 :=
  iprop(zLoc d ↦[zSet pf (bn L + k.val)]{fullShare} (f : Buf (Elt F) (zLoc d)))

/-- Semaphore number `k` of the call. -/
def csem (k : ℕ) (hk : k < 5 := by decide) : DmaSem sig := ⟨k, by show k < 22; omega⟩
def sem0 (k : ℕ) (hk : k < 5 := by decide) : sProp 𝕄 := semVal (VT d L, .dma (csem k hk)) 0

/-- The credit of a block of positions, and of a block of rows. -/
abbrev NP : ℕ := (lSlot (lOff 0) (lOff_inb 0)).view.dmaCredit
abbrev NR : ℕ := (tSlot (lOff 0) (tOff_inb 0)).view.dmaCredit

variable [FloatOps F] (xf : S2048x1024.Idx → Elt F .f32) (pf : S64x32.Idx → BitVec 32)

local notation "DD" => defs₀ (F := F)
local notation "WP" => wp frame (wpE (Val := Elt F) DD 𝒱₀ (VT d L) none) Set.univ

/-! ## Single steps -/

/-- What a started copy of positions brings, and what a started copy of rows brings. -/
abbrev inD (k : Fin 2) : sProp 𝕄 := iprop(lPt d L k (lVal pf L) ∗ pPt d L k pf)
abbrev rowD (k : Fin 2) : sProp 𝕄 := iprop(tPt d L k (tVal xf L) ∗ xPt d L k xf)

abbrev FlightIn (k : Fin 2) (s : ℕ) (hs : s < 5 := by decide) : sProp 𝕄 := Transfers.Flight EC (VT d L) (.dma (csem s hs)) none NP (inD d L pf k)
abbrev FlightRow (k : Fin 2) (s : ℕ) (hs : s < 5 := by decide) : sProp 𝕄 := Transfers.Flight EC (VT d L) (.dma (csem s hs)) none NR (rowD d L xf k)

/-- Starting the copy of block `k` of positions. -/
theorem start_in (k : Fin 2) (s : ℕ) (hs : s < 5) {o : Fin 3 → ℕ} {ho} {p : Fin 2 → ℕ} {hp} {sem : DmaSem sig} (f : S2x1x32.Idx → BitVec 32)
    (eo : o = lOff k) (ep : p = pOff L k) (es : sem = csem s hs) {h1} {h2} {h3} {Q : PUnit → sProp 𝕄} :
    iprop(pPt d L k pf ∗ lPt d L k f ∗ sem0 d L s hs)
      ⊢ iprop((FlightIn d L pf k s hs -∗ Q ⟨⟩)
          -∗ WP (Prog.lift (.enqueueDma (pBlk p hp) (.here (lSlot o ho)) (.dma sem) h1 h2 h3)) Q) := by
  subst eo ep es
  refine Steps.wp_lift_dma EC 𝒱₀ (VT d L) none (src := pBlk (pOff L k) hp) (dst := lSlot (lOff k) ho) (q := fullShare) (fs := pf) (fd := f) none NP rfl (by decide) ?_
  refine sep_mono ?_ (.rfl)
  exact Eq.le (pointsTo_congr (ℓ := (lV).view.loc (VT d L)) (lSlot_write pf L (lOff k) ho (pOff L k) hp k.val rfl rfl rfl rfl f))

/-- Waiting for it. -/
theorem wait_in (k : Fin 2) (s : ℕ) (hs : s < 5) {o : Fin 3 → ℕ} {ho} {p : Fin 2 → ℕ} {hp} {sem : DmaSem sig}
    (es : sem = csem s hs) {h1} {h2} {O : CellTallies nD τ sig (HIx 2)} {B : Waits sig (HIx 2)} {Q : PUnit → sProp 𝕄} :
    iprop(FlightIn d L pf k s hs ∗ Steps.Owed (VT d L) none O B ∗ Transfers.MayWaits (VT d L) none O)
      ⊢ iprop((iprop(inD d L pf k ∗ sem0 d L s hs ∗ Steps.Owed (VT d L) none O B) -∗ Q ⟨⟩)
          -∗ WP (Prog.lift (.waitDma2 sem (pBlk p hp) (lSlot o ho) h1 h2)) Q) := by
  subst es
  iintro ⟨Hf, HO, Hmw⟩ Hk
  iapply (Steps.wp_lift_wait EC 𝒱₀ (VT d L) none (srcw := pBlk p hp) (dstw := lSlot o ho) (hsrc := h1) (hdst := h2) none (N := NP) rfl) $$ [Hf HO Hmw]
  · isplitl [Hf]; · iexact Hf
    isplitl [HO]; · iexact HO
    iapply (Transfers.MayWaits.elim _) $$ Hmw
  iexact Hk

/-- Starting the copy of block `k` of rows. -/
theorem start_row (k : Fin 2) (s : ℕ) (hs : s < 5) {o : Fin 3 → ℕ} {ho} {p : Fin 2 → ℕ} {hp} {sem : DmaSem sig} (f : S2x32x1024.Idx → Elt F .f32)
    (eo : o = lOff k) (ep : p = xOff L k) (es : sem = csem s hs) {h1} {h2} {h3} {Q : PUnit → sProp 𝕄} :
    iprop(xPt d L k xf ∗ tPt d L k f ∗ sem0 d L s hs)
      ⊢ iprop((FlightRow d L xf k s hs -∗ Q ⟨⟩)
          -∗ WP (Prog.lift (.enqueueDma (xBlk p hp) (.here (tSlot o ho)) (.dma sem) h1 h2 h3)) Q) := by
  subst eo ep es
  refine Steps.wp_lift_dma EC 𝒱₀ (VT d L) none (src := xBlk (xOff L k) hp) (dst := tSlot (lOff k) ho) (q := fullShare) (fs := xf) (fd := f) none NR rfl (by decide) ?_
  refine sep_mono ?_ (.rfl)
  exact Eq.le (pointsTo_congr (ℓ := (tV).view.loc (VT d L)) (tSlot_write xf L (lOff k) ho (xOff L k) hp k.val rfl rfl rfl rfl rfl f))

/-- Waiting for it. -/
theorem wait_row (k : Fin 2) (s : ℕ) (hs : s < 5) {o : Fin 3 → ℕ} {ho} {p : Fin 2 → ℕ} {hp} {sem : DmaSem sig}
    (es : sem = csem s hs) {h1} {h2} {O : CellTallies nD τ sig (HIx 2)} {B : Waits sig (HIx 2)} {Q : PUnit → sProp 𝕄} :
    iprop(FlightRow d L xf k s hs ∗ Steps.Owed (VT d L) none O B ∗ Transfers.MayWaits (VT d L) none O)
      ⊢ iprop((iprop(rowD d L xf k ∗ sem0 d L s hs ∗ Steps.Owed (VT d L) none O B) -∗ Q ⟨⟩)
          -∗ WP (Prog.lift (.waitDma2 sem (xBlk p hp) (tSlot o ho) h1 h2)) Q) := by
  subst es
  iintro ⟨Hf, HO, Hmw⟩ Hk
  iapply (Steps.wp_lift_wait EC 𝒱₀ (VT d L) none (srcw := xBlk p hp) (dstw := tSlot o ho) (hsrc := h1) (hdst := h2) none (N := NR) rfl) $$ [Hf HO Hmw]
  · isplitl [Hf]; · iexact Hf
    isplitl [HO]; · iexact HO
    iapply (Transfers.MayWaits.elim _) $$ Hmw
  iexact Hk

/-! ## The columns of one block -/

theorem trips2 : k0_t2_loop.trips = 8 := by decide

theorem pf_lt (hp : ∀ x, (pf x).toNat < 3072) (o : Fin 3 → ℕ) (ho) (e2 : o 2 = 0) :
    ∀ x, ((lFlat o ho).view.read (Elt F) (lVal pf L) x).toNat < S3072x128.size gathers_S3072x128_S32x128.axis := by
  intro x
  rw [lFlat_read pf L o ho e2]
  exact hp _

theorem lOff_lt (k : Fin 2) : lOff k 0 < 2 := k.isLt

/-- One column: scattered and waited for; what the target then holds, as the transfer leaves it. -/
theorem one_col_raw (hp : PosOK pf) (k : Fin 2) (f : S3072x1024.Idx → Elt F .f32)
    {ho hl} {c : Fin 2 → ℕ} {hc hc'} (c0 : c 0 = 0) {h1 h2 h3 h4 h5 h6}
    {O : CellTallies nD τ sig (HIx 2)} {B : Waits sig (HIx 2)} {Q : PUnit → sProp 𝕄} :
    iprop(tPt d L k (tVal xf L) ∗ zPt d L pf k f ∗ lPt d L k (lVal pf L) ∗ sem0 d L 4 ∗ Steps.Owed (VT d L) none O B ∗ MayWait (VT d L) (.dma (csem 4 (by decide))) none O)
      ⊢ iprop((iprop(tPt d L k (tVal xf L)
              ∗ zPt d L pf k (SparseCore.scatterBuf (VT d L) (zCol c hc').view gathers_S3072x128_S32x128.axis
                  (SparseCore.rows ((lFlat (lOff k) hl).view.read (Elt F) (lVal pf L)) h2 (pf_lt L pf hp.1 _ hl rfl))
                  (SparseCore.scatterRowPayload (VT d L) (tCol (lOff k) ho c hc) gathers_S3072x128_S32x128 (tVal xf L)) f)
              ∗ lPt d L k (lVal pf L) ∗ sem0 d L 4 ∗ Steps.Owed (VT d L) none O B) -∗ Q ⟨⟩)
          -∗ WP (SparseCore.enqueueIndirectScatter h1 (tCol (lOff k) ho c hc) (zCol c hc') gathers_S3072x128_S32x128 (lFlat (lOff k) hl) h2 (csem 4 (by decide)) h3 h4
              >>= fun _ => SparseCore.waitIndirectScatter (csem 4 (by decide)) (tCol (lOff k) ho c hc) (zCol c hc') h5 h6 >>= fun _ => Prog.ret ⟨⟩) Q) := by
  refine BIBase.Entails.trans (Steps.wp_scatter_wait (defs := DD) EC 𝒱₀ (VT d L) none (src := tCol (lOff k) ho c hc) (dst := zCol c hc') (hg := gathers_S3072x128_S32x128)
      (offs := lFlat (lOff k) hl) (hn := h2) (sem := csem 4 (by decide)) (hp := h1) (he := h3) (hsp := h4) (hr := by decide) (q := fullShare) (qo := fullShare)
      (srcw := tCol (lOff k) ho c hc) (dstw := zCol c hc') (hsw := h5) (hdw := h6)
      (k := fun _ => Prog.ret ⟨⟩) (Q := Q)
      (Ss := (tSlot (lOff k) ho).view.set) (fs := tVal xf L) (Sd := zSet pf (bn L + k.val)) (fd := f) (So := (lSlot (lOff k) hl).view.set) (fo := lVal pf L)
      (O := O) (B := B)
      (tCol_subset _ _ _ _) (lFlat_subset _ _) none (tCol (lOff k) ho c hc).view.dmaCredit (by decide) (pf_lt L pf hp.1 _ hl rfl)
      (rows_inj pf hp L (lOff k) hl rfl (lOff_lt k) _ _)
      (named_subset pf d L (lOff k) hl rfl (lOff_lt k) c hc' c0 _ _)
      (SparseCore.sum_scatterCredit_eq_srcCredit (VT d L) (tCol (lOff k) ho c hc) (zCol c hc') gathers_S3072x128_S32x128 rfl _ (fun _ => rfl) (fun _ => rfl)) rfl) ?_
  iintro H Hk
  iapply H
  iintro H'
  rw [wp_ret]; imodintro
  iapply Hk
  iexact H'

/-- One column: one more of the columns of the block's places is written. -/
theorem one_col (hp : PosOK pf) (k : Fin 2) (f : S3072x1024.Idx → Elt F .f32) (n : ℕ)
    {o : Fin 3 → ℕ} {ho} {l : Fin 3 → ℕ} {hl} {c c' : Fin 2 → ℕ} {hc hc'} {sem : DmaSem sig}
    (eo : o = lOff k) (el : l = lOff k) (ec : c = ![0, 128 * n]) (ec' : c' = ![0, 128 * n]) (es : sem = csem 4) {h1 h2 h3 h4 h5 h6}
    {O : CellTallies nD τ sig (HIx 2)} {B : Waits sig (HIx 2)} {Q : PUnit → sProp 𝕄} :
    iprop(tPt d L k (tVal xf L) ∗ zPt d L pf k (zPart xf pf n f) ∗ lPt d L k (lVal pf L) ∗ sem0 d L 4 ∗ Steps.Owed (VT d L) none O B ∗ Transfers.MayWaits (VT d L) none O)
      ⊢ iprop((iprop(tPt d L k (tVal xf L) ∗ zPt d L pf k (zPart xf pf (n + 1) f) ∗ lPt d L k (lVal pf L) ∗ sem0 d L 4
              ∗ Steps.Owed (VT d L) none O B) -∗ Q ⟨⟩)
          -∗ WP (SparseCore.enqueueIndirectScatter h1 (tCol o ho c hc) (zCol c' hc') gathers_S3072x128_S32x128 (lFlat l hl) h2 sem h3 h4
              >>= fun _ => SparseCore.waitIndirectScatter sem (tCol o ho c hc) (zCol c' hc') h5 h6 >>= fun _ => Prog.ret ⟨⟩) Q) := by
  subst eo el ec ec' es
  iintro ⟨Ht, Hz, Hl, Hv, HO, Hmw⟩ Hk
  iapply (one_col_raw d L xf pf hp k (zPart xf pf n f) (ho := ho) (hl := hl) (c := ![0, 128 * n]) (hc := hc) (hc' := hc') rfl (O := O) (B := B)) $$ [Hz Ht Hl Hv HO Hmw]
  · isplitl [Ht]; · iexact Ht
    isplitl [Hz]; · iexact Hz
    isplitl [Hl]; · iexact Hl
    isplitl [Hv]; · iexact Hv
    isplitl [HO]; · iexact HO
    iapply (Transfers.MayWaits.elim _) $$ Hmw
  iintro ⟨Ht, Hz, Hl, Hv, HO⟩
  iapply Hk
  isplitl [Ht]; · iexact Ht
  isplitl [Hz]
  · have e : ∀ y ∈ zSet pf (bn L + k.val), _ = zPart xf pf (n + 1) f y :=
      zCol_write xf pf hp d L (lOff k) ho rfl rfl (lOff_lt k) (lOff k) hl rfl rfl n ![0, 128 * n] hc rfl rfl hc' (pf_lt L pf hp.1 _ hl rfl) h2 f
    unfold zPt
    iapply (Entails.of_eq (pointsTo_congr (ℓ := zLoc d) (q := fullShare) (I := zSet pf (bn L + k.val)) e)) $$ Hz
  isplitl [Hl]; · iexact Hl
  isplitl [Hv]; · iexact Hv
  iexact HO

/-- What a tile holds before column `n`. -/
def colInv (k : Fin 2) (f : S3072x1024.Idx → Elt F .f32) (O : CellTallies nD τ sig (HIx 2)) (B : Waits sig (HIx 2)) (n : ℕ) (_ : Unit) : sProp 𝕄 :=
  iprop(tPt d L k (tVal xf L) ∗ zPt d L pf k (zPart xf pf n f) ∗ lPt d L k (lVal pf L) ∗ sem0 d L 4 ∗ Steps.Owed (VT d L) none O B
    ∗ Transfers.MayWaits (VT d L) none O)

/-- The eight columns of a block. -/
theorem columns (hp : PosOK pf) (k : Fin 2) (f : S3072x1024.Idx → Elt F .f32)
    (body : Fin k0_t2_loop.trips → Unit → Prog (TpuEff nD τ sig (Elt F) Λ₀ (VT d L).2) Unit)
    (o : Fin 3 → ℕ) (ho) (l : Fin 3 → ℕ) (hl) (sem : DmaSem sig) (eo : o = lOff k) (el : l = lOff k) (es : sem = csem 4) {h1 h2}
    (hbody : ∀ n u, @Eq (Prog (TpuEff nD τ sig (Elt F) Λ₀ (VT d L).2) Unit) (body n u) (SparseCore.enqueueIndirectScatter h1 (tCol o ho (k0_off19 n) (k0_off19_inb n)) (zCol (k0_off21 n) (k0_off21_inb n)) gathers_S3072x128_S32x128
        (lFlat l hl) h2 sem rfl (Or.inl rfl)
      >>= fun _ => SparseCore.waitIndirectScatter sem (tCol o ho (k0_off19 n) (k0_off19_inb n)) (zCol (k0_off21 n) (k0_off21_inb n)) (View.wordExact_bits rfl) (View.wordExact_bits rfl) >>= fun _ => Prog.ret ⟨⟩))
    {O : CellTallies nD τ sig (HIx 2)} {B : Waits sig (HIx 2)} {Q : Unit → sProp 𝕄} :
    iprop(tPt d L k (tVal xf L) ∗ zPt d L pf k f ∗ lPt d L k (lVal pf L) ∗ sem0 d L 4 ∗ Steps.Owed (VT d L) none O B ∗ Transfers.MayWaits (VT d L) none O)
      ⊢ iprop((iprop(tPt d L k (tVal xf L) ∗ zPt d L pf k (zVal xf pf f) ∗ lPt d L k (lVal pf L) ∗ sem0 d L 4
              ∗ Steps.Owed (VT d L) none O B) -∗ Q ⟨⟩)
          -∗ WP (Scf.Loop.for k0_t2_loop k0_t2_ok ⟨⟩ body) Q) := by
  have hstep : ∀ (n : Fin k0_t2_loop.trips) (u : Unit), colInv d L xf pf k f O B n.val u ⊢ WP (body n u) (colInv d L xf pf k f O B (n.val + 1)) := by
    intro n u
    rw [hbody n u]
    unfold colInv
    iintro ⟨Ht, Hz, Hl, Hv, HO, #Hmw⟩
    iapply (one_col d L xf pf hp k f n.val (hc := k0_off19_inb n) (hc' := k0_off21_inb n) eo el (k0_off19_eq n) (k0_off21_eq n) es (O := O) (B := B)) $$ [Hz Ht Hl Hv HO]
    · isplitl [Ht]; · iexact Ht
      isplitl [Hz]; · iexact Hz
      isplitl [Hl]; · iexact Hl
      isplitl [Hv]; · iexact Hv
      isplitl [HO]; · iexact HO
      iexact Hmw
    iintro ⟨Ht, Hz, Hl, Hv, HO⟩
    isplitl [Ht]; · iexact Ht
    isplitl [Hz]; · iexact Hz
    isplitl [Hl]; · iexact Hl
    isplitl [Hv]; · iexact Hv
    isplitl [HO]; · iexact HO
    iexact Hmw
  iintro ⟨Ht, Hz, Hl, Hv, HO, #Hmw⟩ Hk
  iapply (Scf.wp_for frame (wpE (Val := Elt F) DD 𝒱₀ (VT d L) none) Set.univ k0_t2_loop.lb k0_t2_loop.ub k0_t2_loop.st k0_t2_ok ⟨⟩ body (colInv d L xf pf k f O B) hstep)
  unfold colInv
  isplitl [Hz Ht Hl Hv HO]
  · rw [zPart_zero]
    isplitl [Ht]; · iexact Ht
    isplitl [Hz]; · iexact Hz
    isplitl [Hl]; · iexact Hl
    isplitl [Hv]; · iexact Hv
    isplitl [HO]; · iexact HO
    iexact Hmw
  · iintro %u ⟨Ht, Hz, Hl, Hv, HO, -⟩
    iapply Hk
    isplitl [Ht]; · iexact Ht
    isplitl [Hz]
    · have e : zPart xf pf (Scf.trips k0_t2_loop.lb k0_t2_loop.ub k0_t2_loop.st) f = zVal xf pf f := by
        rw [show Scf.trips k0_t2_loop.lb k0_t2_loop.ub k0_t2_loop.st = 8 from trips2, zPart_eight]
      rw [e]; iexact Hz
    isplitl [Hl]; · iexact Hl
    isplitl [Hv]; · iexact Hv
    iexact HO

/-! ## The two trips -/

abbrev t0 : Fin k0_t1_loop.trips := ⟨0, by decide⟩
abbrev t1 : Fin k0_t1_loop.trips := ⟨1, by decide⟩

/-- The number of a tile's first block, as the program computes it. -/
abbrev base (L : grid0.Coords) : BitVec 32 :=
  Scalar.muli (Scalar.addi (Scalar.addi 0#32 (Scalar.muli (BitVec.ofNat 32 (L 1).val) 1#32)) (Scalar.muli (BitVec.ofNat 32 (L 0).val) 16#32)) 2#32

theorem chk1_0 : ∀ L : grid0.Coords, k0_chk1 L t0 1#32 0#32 1#32 0#32 0#32 := by decide +kernel
theorem chk1_1 : ∀ L : grid0.Coords, k0_chk1 L t1 2#32 1#32 2#32 1#32 1#32 := by decide +kernel
theorem cond1_0 : ∀ L : grid0.Coords, k0_cond1 L t0 0#32 = 1#1 := by decide +kernel
theorem cond1_1 : ∀ L : grid0.Coords, ¬ k0_cond1 L t1 1#32 = 1#1 := by decide +kernel
theorem cond2_0 : ∀ L : grid0.Coords, k0_cond2 L t0 0#32 = 1#1 := by decide +kernel
theorem cond2_1 : ∀ L : grid0.Coords, ¬ k0_cond2 L t1 1#32 = 1#1 := by decide +kernel
theorem cond3_0 : ∀ L : grid0.Coords, k0_cond3 L t0 0#32 = 1#1 := by decide +kernel
theorem cond3_1 : ∀ L : grid0.Coords, k0_cond3 L t1 1#32 = 1#1 := by decide +kernel
theorem cond4_0 : ∀ L : grid0.Coords, k0_cond4 L t0 0#32 = 1#1 := by decide +kernel
theorem cond4_1 : ∀ L : grid0.Coords, k0_cond4 L t1 1#32 = 1#1 := by decide +kernel
theorem off7_0 : ∀ L : grid0.Coords, k0_off7 L 0#32 = ![32 * (2 * (L 1).val + 32 * (L 0).val + 1), 0] := by decide +kernel
theorem off10_0 : ∀ L : grid0.Coords, k0_off10 L 0#32 = ![2 * (L 1).val + 32 * (L 0).val + 1, 0] := by decide +kernel
theorem off2_0 : ∀ L : grid0.Coords, k0_off2 L = ![32 * (2 * (L 1).val + 32 * (L 0).val + 0), 0] := by decide +kernel

/-- What a tile holds before its first trip, between the two, and after the second. -/
def trip0 (l1 : S2x1x32.Idx → BitVec 32) (f1 : S2x32x1024.Idx → Elt F .f32) (g : S3072x1024.Idx → Elt F .f32) (O : CellTallies nD τ sig (HIx 2)) (B : Waits sig (HIx 2)) : sProp 𝕄 :=
  iprop(FlightRow d L xf 0 0 ∗ FlightIn d L pf 0 2 ∗ (tPt d L 1 f1 ∗ xPt d L 1 xf ∗ sem0 d L 1) ∗ (lPt d L 1 l1 ∗ pPt d L 1 pf ∗ sem0 d L 3)
    ∗ zPt d L pf 0 g ∗ zPt d L pf 1 g ∗ sem0 d L 4 ∗ Steps.Owed (VT d L) none O B ∗ Transfers.MayWaits (VT d L) none O)
def trip1 (g : S3072x1024.Idx → Elt F .f32) (O : CellTallies nD τ sig (HIx 2)) (B : Waits sig (HIx 2)) : sProp 𝕄 :=
  iprop((tPt d L 0 (tVal xf L) ∗ xPt d L 0 xf ∗ sem0 d L 0) ∗ (lPt d L 0 (lVal pf L) ∗ pPt d L 0 pf ∗ sem0 d L 2) ∗ FlightRow d L xf 1 1 ∗ FlightIn d L pf 1 3
    ∗ zPt d L pf 0 (zVal xf pf g) ∗ zPt d L pf 1 g ∗ sem0 d L 4 ∗ Steps.Owed (VT d L) none O B ∗ Transfers.MayWaits (VT d L) none O)
def trip2 (g : S3072x1024.Idx → Elt F .f32) (O : CellTallies nD τ sig (HIx 2)) (B : Waits sig (HIx 2)) : sProp 𝕄 :=
  iprop((tPt d L 0 (tVal xf L) ∗ xPt d L 0 xf ∗ sem0 d L 0) ∗ (lPt d L 0 (lVal pf L) ∗ pPt d L 0 pf ∗ sem0 d L 2)
    ∗ (tPt d L 1 (tVal xf L) ∗ xPt d L 1 xf ∗ sem0 d L 1) ∗ (lPt d L 1 (lVal pf L) ∗ pPt d L 1 pf ∗ sem0 d L 3)
    ∗ zPt d L pf 0 (zVal xf pf g) ∗ zPt d L pf 1 (zVal xf pf g) ∗ sem0 d L 4 ∗ Steps.Owed (VT d L) none O B ∗ Transfers.MayWaits (VT d L) none O)

local notation "TRIP" => k0_t1_body (F := F) L xV (Memref.isWhole_whole _) pV (Memref.isWhole_whole _) zV (Memref.isWhole_whole _)
  tV (Memref.isWhole_whole _) cc0_scoped1 lV (Memref.isWhole_whole _) cc0_scoped3 cc0_scoped4 (base L) (Scalar.addi 0#32 (base L))

/-- The first trip: the second block is asked for, the first waited for and scattered. -/
theorem first_trip (hp : PosOK pf) (l1 f1 g) (O : CellTallies nD τ sig (HIx 2)) (B : Waits sig (HIx 2)) :
    trip0 d L xf pf l1 f1 g O B
      ⊢ WP (TRIP t0 (1#32, 0#32, 1#32, 0#32, 0#32)) (fun acc => iprop(⌜acc = (2#32, 1#32, 2#32, 1#32, 1#32)⌝ ∗ trip1 d L xf pf g O B)) := by
  unfold trip0
  iintro ⟨Hfr, Hfi, ⟨Ht1, Hx1, Hs1⟩, ⟨Hl1, Hp1, Hs3⟩, Hz0, Hz1, Hs4, HO, #Hmw⟩
  simp only [k0_t1_body, k0_part1_eq_skeleton, k0_part1_skel, wp_bind]
  iapply (Steps.wp_lift_assume 𝒱₀ (VT d L) none (show k0_chk3 0#32 by decide))
  iapply (Steps.wp_lift_assume 𝒱₀ (VT d L) none (show k0_chk2 0#32 by decide))
  iapply (Steps.wp_lift_assume 𝒱₀ (VT d L) none (chk1_0 L))
  rw [dif_pos (cond1_0 L)]
  simp only [wp_bind]
  iapply (start_row d L xf 1 1 (by decide) f1 (by decide) (off7_0 L) (by rfl)) $$ [Hx1 Ht1 Hs1]
  · isplitl [Hx1]; · iexact Hx1
    isplitl [Ht1]; · iexact Ht1
    iexact Hs1
  iintro Hfr1
  simp only [wp_pure, k0_part2_eq_skeleton, k0_part2_skel, wp_bind]
  imodintro
  rw [dif_pos (cond2_0 L)]
  simp only [wp_bind]
  iapply (start_in d L pf 1 3 (by decide) l1 (by decide) (off10_0 L) (by rfl)) $$ [Hp1 Hl1 Hs3]
  · isplitl [Hp1]; · iexact Hp1
    isplitl [Hl1]; · iexact Hl1
    iexact Hs3
  iintro Hfi1
  try simp only [wp_pure, wp_bind]
  try imodintro
  rw [dif_pos (cond3_0 L)]
  simp only [wp_bind]
  iapply (wait_row d L xf 0 0 (by decide) (by rfl) (O := O) (B := B)) $$ [Hfr HO]
  · isplitl [Hfr]; · iexact Hfr
    isplitl [HO]; · iexact HO
    iexact Hmw
  iintro ⟨⟨Ht0, Hx0⟩, Hs0, HO⟩
  try simp only [wp_pure, wp_bind]
  try imodintro
  rw [dif_pos (cond4_0 L)]
  simp only [wp_bind]
  iapply (wait_in d L pf 0 2 (by decide) (by rfl) (O := O) (B := B)) $$ [Hfi HO]
  · isplitl [Hfi]; · iexact Hfi
    isplitl [HO]; · iexact HO
    iexact Hmw
  iintro ⟨⟨Hl0, Hp0⟩, Hs2, HO⟩
  simp only [wp_pure, wp_bind, ite_self, pure_bind]
  try imodintro
  iapply (columns d L xf pf hp 0 g _ (k0_off18 0#32) (k0_off18_inb _ (by decide)) (k0_off20 0#32) (k0_off20_inb _ (by decide)) _ (by decide) (by decide) (by rfl)
    (fun _ _ => rfl) (O := O)) $$ [Hz0 Ht0 Hl0 Hs4 HO]
  · isplitl [Ht0]; · iexact Ht0
    isplitl [Hz0]; · iexact Hz0
    isplitl [Hl0]; · iexact Hl0
    isplitl [Hs4]; · iexact Hs4
    isplitl [HO]; · iexact HO
    iexact Hmw
  iintro ⟨Ht0, Hz0, Hl0, Hs4, HO⟩
  try simp only [wp_pure, wp_bind, ite_self, pure_bind]
  try imodintro
  isplitr
  · ipureintro
    revert L
    decide +kernel
  unfold trip1
  isplitl [Ht0 Hx0 Hs0]
  · isplitl [Ht0]; · iexact Ht0
    isplitl [Hx0]; · iexact Hx0
    iexact Hs0
  isplitl [Hl0 Hp0 Hs2]
  · isplitl [Hl0]; · iexact Hl0
    isplitl [Hp0]; · iexact Hp0
    iexact Hs2
  isplitl [Hfr1]; · iexact Hfr1
  isplitl [Hfi1]; · iexact Hfi1
  isplitl [Hz0]; · iexact Hz0
  isplitl [Hz1]; · iexact Hz1
  isplitl [Hs4]; · iexact Hs4
  isplitl [HO]; · iexact HO
  iexact Hmw

/-- The second trip: the second block is waited for and scattered. -/
theorem second_trip (hp : PosOK pf) (g) (O : CellTallies nD τ sig (HIx 2)) (B : Waits sig (HIx 2)) :
    trip1 d L xf pf g O B
      ⊢ WP (TRIP t1 (2#32, 1#32, 2#32, 1#32, 1#32)) (fun acc => iprop(⌜acc = (2#32, 2#32, 2#32, 2#32, 0#32)⌝ ∗ trip2 d L xf pf g O B)) := by
  unfold trip1
  iintro ⟨H0, H2, Hfr, Hfi, Hz0, Hz1, Hs4, HO, #Hmw⟩
  simp only [k0_t1_body, k0_part1_eq_skeleton, k0_part1_skel, wp_bind]
  iapply (Steps.wp_lift_assume 𝒱₀ (VT d L) none (show k0_chk3 1#32 by decide))
  iapply (Steps.wp_lift_assume 𝒱₀ (VT d L) none (show k0_chk2 1#32 by decide))
  iapply (Steps.wp_lift_assume 𝒱₀ (VT d L) none (chk1_1 L))
  rw [dif_neg (cond1_1 L)]
  simp only [wp_pure, wp_bind, pure_bind, k0_part2_eq_skeleton, k0_part2_skel]
  try imodintro
  rw [dif_neg (cond2_1 L)]
  try simp only [wp_pure, wp_bind, pure_bind]
  try imodintro
  rw [dif_pos (cond3_1 L)]
  simp only [wp_bind]
  iapply (wait_row d L xf 1 1 (by decide) (by rfl) (O := O) (B := B)) $$ [Hfr HO]
  · isplitl [Hfr]; · iexact Hfr
    isplitl [HO]; · iexact HO
    iexact Hmw
  iintro ⟨⟨Ht1, Hx1⟩, Hs1, HO⟩
  try simp only [wp_pure, wp_bind]
  try imodintro
  rw [dif_pos (cond4_1 L)]
  simp only [wp_bind]
  iapply (wait_in d L pf 1 3 (by decide) (by rfl) (O := O) (B := B)) $$ [Hfi HO]
  · isplitl [Hfi]; · iexact Hfi
    isplitl [HO]; · iexact HO
    iexact Hmw
  iintro ⟨⟨Hl1, Hp1⟩, Hs3, HO⟩
  simp only [wp_pure, wp_bind, ite_self, pure_bind]
  try imodintro
  iapply (columns d L xf pf hp 1 g _ (k0_off18 1#32) (k0_off18_inb _ (by decide)) (k0_off20 1#32) (k0_off20_inb _ (by decide)) _ (by decide) (by decide) (by rfl)
    (fun _ _ => rfl) (O := O)) $$ [Hz1 Ht1 Hl1 Hs4 HO]
  · isplitl [Ht1]; · iexact Ht1
    isplitl [Hz1]; · iexact Hz1
    isplitl [Hl1]; · iexact Hl1
    isplitl [Hs4]; · iexact Hs4
    isplitl [HO]; · iexact HO
    iexact Hmw
  iintro ⟨Ht1, Hz1, Hl1, Hs4, HO⟩
  try simp only [wp_pure, wp_bind, ite_self, pure_bind]
  try imodintro
  isplitr
  · ipureintro
    revert L
    decide +kernel
  unfold trip2
  isplitl [H0]; · iexact H0
  isplitl [H2]; · iexact H2
  isplitl [Ht1 Hx1 Hs1]
  · isplitl [Ht1]; · iexact Ht1
    isplitl [Hx1]; · iexact Hx1
    iexact Hs1
  isplitl [Hl1 Hp1 Hs3]
  · isplitl [Hl1]; · iexact Hl1
    isplitl [Hp1]; · iexact Hp1
    iexact Hs3
  isplitl [Hz0]; · iexact Hz0
  isplitl [Hz1]; · iexact Hz1
  isplitl [Hs4]; · iexact Hs4
  isplitl [HO]; · iexact HO
  iexact Hmw

/-! ## The whole run of a tile -/

/-- Slot and block `k`, with their semaphores. -/
def slotIn (k : Fin 2) (s : ℕ) (hs : s < 5) (l : S2x1x32.Idx → BitVec 32) : sProp 𝕄 := iprop(lPt d L k l ∗ pPt d L k pf ∗ sem0 d L s hs)
def slotRow (k : Fin 2) (s : ℕ) (hs : s < 5) (f : S2x32x1024.Idx → Elt F .f32) : sProp 𝕄 := iprop(tPt d L k f ∗ xPt d L k xf ∗ sem0 d L s hs)

/-- What the loop holds before trip `n`. -/
def tripInv (l1 : S2x1x32.Idx → BitVec 32) (f1 : S2x32x1024.Idx → Elt F .f32) (g : S3072x1024.Idx → Elt F .f32) (O : CellTallies nD τ sig (HIx 2)) (B : Waits sig (HIx 2)) (n : ℕ) (acc : BitVec 32 × BitVec 32 × BitVec 32 × BitVec 32 × BitVec 32) : sProp 𝕄 :=
  match n with
  | 0 => iprop(⌜acc = (1#32, 0#32, 1#32, 0#32, 0#32)⌝ ∗ trip0 d L xf pf l1 f1 g O B)
  | 1 => iprop(⌜acc = (2#32, 1#32, 2#32, 1#32, 1#32)⌝ ∗ trip1 d L xf pf g O B)
  | _ => iprop(⌜acc = (2#32, 2#32, 2#32, 2#32, 0#32)⌝ ∗ trip2 d L xf pf g O B)

theorem trips1 : k0_t1_loop.trips = 2 := by decide

theorem trip_step (hp : PosOK pf) (l1 f1 g) (O : CellTallies nD τ sig (HIx 2)) (B : Waits sig (HIx 2)) (n : Fin k0_t1_loop.trips) (acc) :
    tripInv d L xf pf l1 f1 g O B n.val acc ⊢ WP (TRIP n acc) (tripInv d L xf pf l1 f1 g O B (n.val + 1)) := by
  have hn : n.val < 2 := trips1 ▸ n.isLt
  obtain h | h : n = t0 ∨ n = t1 := by
    rcases Nat.lt_or_ge n.val 1 with h | h
    · exact .inl (Fin.ext (show n.val = 0 by omega))
    · exact .inr (Fin.ext (show n.val = 1 by omega))
  · subst h
    show iprop(⌜acc = _⌝ ∗ trip0 d L xf pf l1 f1 g O B) ⊢ _
    iintro ⟨%h, H⟩
    subst h
    iapply (first_trip d L xf pf hp l1 f1 g O B) $$ H
  · subst h
    show iprop(⌜acc = _⌝ ∗ trip1 d L xf pf g O B) ⊢ _
    iintro ⟨%h, H⟩
    subst h
    iapply (second_trip d L xf pf hp g O B) $$ H

/-- A tile's run: the places its positions name end at their rows. -/
theorem tile_run (hp : PosOK pf) (l0 l1 : S2x1x32.Idx → BitVec 32) (f0 f1 : S2x32x1024.Idx → Elt F .f32) (g : S3072x1024.Idx → Elt F .f32)
    (O : CellTallies nD τ sig (HIx 2)) (B : Waits sig (HIx 2)) :
    iprop(slotRow d L xf 0 0 (by decide) f0 ∗ slotRow d L xf 1 1 (by decide) f1 ∗ slotIn d L pf 0 2 (by decide) l0 ∗ slotIn d L pf 1 3 (by decide) l1
        ∗ zPt d L pf 0 g ∗ zPt d L pf 1 g
        ∗ sem0 d L 4 ∗ Steps.Owed (VT d L) none O B ∗ Transfers.MayWaits (VT d L) none O)
      ⊢ WP (cc0_k (F := F) L xV (Memref.isWhole_whole _) pV (Memref.isWhole_whole _) zV (Memref.isWhole_whole _)
          tV (Memref.isWhole_whole _) cc0_scoped1 lV (Memref.isWhole_whole _) cc0_scoped3 cc0_scoped4)
        (fun _ => iprop(slotRow d L xf 0 0 (by decide) (tVal xf L) ∗ slotRow d L xf 1 1 (by decide) (tVal xf L)
          ∗ slotIn d L pf 0 2 (by decide) (lVal pf L) ∗ slotIn d L pf 1 3 (by decide) (lVal pf L)
          ∗ zPt d L pf 0 (zVal xf pf g) ∗ zPt d L pf 1 (zVal xf pf g)
          ∗ sem0 d L 4 ∗ Steps.Owed (VT d L) none O B)) := by
  unfold slotIn slotRow
  iintro ⟨⟨Ht0, Hx0, Hs0⟩, H1, ⟨Hl0, Hp0, Hs2⟩, H3, Hz0, Hz1, Hs4, HO, #Hmw⟩
  rw [cc0_k_eq_skeleton]
  simp only [cc0_k_skel, k0_part3_eq_skeleton, k0_part3_skel, wp_bind]
  iapply (start_row d L xf 0 0 (by decide) f0 (by decide) (off2_0 L) (by rfl)) $$ [Hx0 Ht0 Hs0]
  · isplitl [Hx0]; · iexact Hx0
    isplitl [Ht0]; · iexact Ht0
    iexact Hs0
  iintro Hfr
  simp only [wp_pure, k0_part4_eq_skeleton, k0_part4_skel, wp_bind]
  try imodintro
  iapply (start_in d L pf 0 2 (by decide) l0 (by decide) (k0_off5_eq L) (by rfl)) $$ [Hp0 Hl0 Hs2]
  · isplitl [Hp0]; · iexact Hp0
    isplitl [Hl0]; · iexact Hl0
    iexact Hs2
  iintro Hfi
  try simp only [wp_pure, wp_bind]
  try imodintro
  iapply (Scf.wp_for frame (wpE (Val := Elt F) DD 𝒱₀ (VT d L) none) Set.univ k0_t1_loop.lb k0_t1_loop.ub k0_t1_loop.st k0_t1_ok _ _
    (tripInv d L xf pf l1 f1 g O B) (trip_step d L xf pf hp l1 f1 g O B))
  isplitl [Hfr Hfi H1 H3 Hz0 Hz1 Hs4 HO]
  · rw [show tripInv d L xf pf l1 f1 g O B 0 = fun acc => iprop(⌜acc = (1#32, 0#32, 1#32, 0#32, 0#32)⌝ ∗ trip0 d L xf pf l1 f1 g O B) from rfl]
    unfold trip0
    isplitr; · ipureintro; rfl
    isplitl [Hfr]; · iexact Hfr
    isplitl [Hfi]; · iexact Hfi
    isplitl [H1]; · iexact H1
    isplitl [H3]; · iexact H3
    isplitl [Hz0]; · iexact Hz0
    isplitl [Hz1]; · iexact Hz1
    isplitl [Hs4]; · iexact Hs4
    isplitl [HO]; · iexact HO
    iexact Hmw
  iintro %acc HI
  rw [show Scf.trips k0_t1_loop.lb k0_t1_loop.ub k0_t1_loop.st = 2 from trips1,
    show tripInv d L xf pf l1 f1 g O B 2 = fun acc => iprop(⌜acc = (2#32, 2#32, 2#32, 2#32, 0#32)⌝ ∗ trip2 d L xf pf g O B) from rfl]
  unfold trip2
  icases HI with ⟨%hacc, H0, H2, H1, H3, Hz0, Hz1, Hs4, HO, -⟩
  subst hacc
  try simp only [wp_pure, wp_bind]
  try imodintro
  isplitl [H0]; · iexact H0
  isplitl [H1]; · iexact H1
  isplitl [H2]; · iexact H2
  isplitl [H3]; · iexact H3
  isplitl [Hz0]; · iexact Hz0
  isplitl [Hz1]; · iexact Hz1
  isplitl [Hs4]; · iexact Hs4
  iexact HO

end Tile

end Cert.Proof.Scatter

end
-- ==== Proof.ScatterSplit.lean ====
/-
  The arrays of the scatter cut among the thirty-two tiles and put together again: two blocks of rows each, two blocks of
  positions, the places those name; and a tile's own two buffers cut into their two slots each.
-/
module

public import proofs.«01_k».proof.Proof.ScatterBody

@[expose] public section

noncomputable section

namespace Cert.Proof.Scatter

open Cert.KernelIdeal Cert.KernelIdeal.Gen Cert.Proof

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F
local notation "lV" => (Memref.whole Cert.KernelIdeal.cc0_scoped2 : Memref Cert.KernelIdeal.sig Kind.scVector Space.vmem Cert.KernelIdeal.S2x1x32 EltTy.i32)
local notation "tV" => (Memref.whole Cert.KernelIdeal.cc0_scoped0 : Memref Cert.KernelIdeal.sig Kind.scVector Space.vmem Cert.KernelIdeal.S2x32x1024 EltTy.f32)

/-- The tile at a pair of grid coordinates. -/
def coordsV (c : Fin (grid0.bound 0)) (s : Fin (grid0.bound 1)) : grid0.Coords :=
  fun | 0 => c | 1 => s | ⟨_ + 2, h⟩ => absurd h (Nat.not_lt.2 (Nat.le_add_left _ _))

abbrev Tile : Type := Fin 2 × Fin 16
abbrev tileL (p : Tile) : grid0.Coords := coordsV p.1 p.2

theorem bn_tile (p : Tile) : bn (tileL p) = 2 * p.2.val + 32 * p.1.val := rfl

/-! ## Which entries a slot or a block is -/

theorem mem_pBlk (L : grid0.Coords) (k : Fin 2) (y : S64x32.Idx) :
    y ∈ (pBlk (pOff L k) (pOff_inb L k)).view.set ↔ (y 0).val = bn L + k.val := by
  rw [show (pBlk (pOff L k) (pOff_inb L k)).view.set = (Rect.unit (s := S64x32) (pOff L k) S1x32.size (pOff_inb L k)).set from by
    show ((View.whole (main_v37_scv : Ref sig .scVector)).slice _).set = _
    rw [View.set_slice]; exact Finset.map_refl]
  rw [Rect.mem_set_unit]
  have h1 : (y 1).val < 32 := (y 1).isLt
  constructor
  · intro h
    have h0 : bn L + k.val ≤ (y 0).val ∧ (y 0).val < bn L + k.val + 1 := h 0
    omega
  · intro h a
    match a with
    | 0 => exact (show bn L + k.val ≤ (y 0).val ∧ (y 0).val < bn L + k.val + 1 by omega)
    | 1 => exact (show 0 ≤ (y 1).val ∧ (y 1).val < 0 + 32 by omega)

theorem mem_xBlk (L : grid0.Coords) (k : Fin 2) (y : S2048x1024.Idx) :
    y ∈ (xBlk (xOff L k) (xOff_inb L k)).view.set ↔ (y 0).val / 32 = bn L + k.val := by
  rw [show (xBlk (xOff L k) (xOff_inb L k)).view.set = (Rect.unit (s := S2048x1024) (xOff L k) S32x1024.size (xOff_inb L k)).set from by
    show ((View.whole (main_arg0_scv : Ref sig .scVector)).slice _).set = _
    rw [View.set_slice]; exact Finset.map_refl]
  rw [Rect.mem_set_unit]
  have h1 : (y 1).val < 1024 := (y 1).isLt
  constructor
  · intro h
    have h0 : 32 * (bn L + k.val) ≤ (y 0).val ∧ (y 0).val < 32 * (bn L + k.val) + 32 := h 0
    omega
  · intro h a
    match a with
    | 0 => exact (show 32 * (bn L + k.val) ≤ (y 0).val ∧ (y 0).val < 32 * (bn L + k.val) + 32 by omega)
    | 1 => exact (show 0 ≤ (y 1).val ∧ (y 1).val < 0 + 1024 by omega)

theorem mem_lSlot (k : Fin 2) (y : S2x1x32.Idx) : y ∈ (lSlot (lOff k) (lOff_inb k)).view.set ↔ (y 0).val = k.val := by
  rw [show (lSlot (lOff k) (lOff_inb k)).view.set = (Rect.unit (s := S2x1x32) (lOff k) S1x1x32.size (lOff_inb k)).set from by
    show (((View.whole (cc0_scoped2 : Ref sig .scVector)).slice _).reshape _ _).set = _
    rw [View.set_reshape, View.set_slice]; exact Finset.map_refl]
  rw [Rect.mem_set_unit]
  have h1 : (y 1).val < 1 := (y 1).isLt
  have h2 : (y 2).val < 32 := (y 2).isLt
  constructor
  · intro h
    have h0 : k.val ≤ (y 0).val ∧ (y 0).val < k.val + 1 := h 0
    omega
  · intro h a
    match a with
    | 0 => exact (show k.val ≤ (y 0).val ∧ (y 0).val < k.val + 1 by omega)
    | 1 => exact (show 0 ≤ (y 1).val ∧ (y 1).val < 0 + 1 by omega)
    | 2 => exact (show 0 ≤ (y 2).val ∧ (y 2).val < 0 + 32 by omega)

theorem mem_tSlot (k : Fin 2) (y : S2x32x1024.Idx) : y ∈ (tSlot (lOff k) (tOff_inb k)).view.set ↔ (y 0).val = k.val := by
  rw [show (tSlot (lOff k) (tOff_inb k)).view.set = (Rect.unit (s := S2x32x1024) (lOff k) S1x32x1024.size (tOff_inb k)).set from by
    show (((View.whole (cc0_scoped0 : Ref sig .scVector)).slice _).reshape _ _).set = _
    rw [View.set_reshape, View.set_slice]; exact Finset.map_refl]
  rw [Rect.mem_set_unit]
  have h1 : (y 1).val < 32 := (y 1).isLt
  have h2 : (y 2).val < 1024 := (y 2).isLt
  constructor
  · intro h
    have h0 : k.val ≤ (y 0).val ∧ (y 0).val < k.val + 1 := h 0
    omega
  · intro h a
    match a with
    | 0 => exact (show k.val ≤ (y 0).val ∧ (y 0).val < k.val + 1 by omega)
    | 1 => exact (show 0 ≤ (y 1).val ∧ (y 1).val < 0 + 32 by omega)
    | 2 => exact (show 0 ≤ (y 2).val ∧ (y 2).val < 0 + 1024 by omega)

/-! ## The cuts -/

theorem blocks_ne {p p' : Tile × Fin 2} (h : p ≠ p') : bn (tileL p.1) + p.2.val ≠ bn (tileL p'.1) + p'.2.val := by
  intro e
  rw [bn_tile, bn_tile] at e
  have h1 := p.1.2.isLt; have h2 := p'.1.2.isLt
  have h3 := p.2.isLt; have h4 := p'.2.isLt
  exact h (Prod.ext (Prod.ext (Fin.ext (by omega)) (Fin.ext (by omega))) (Fin.ext (by omega)))

theorem block_of {r : ℕ} (h : r < 64) : ∃ p : Tile × Fin 2, r = bn (tileL p.1) + p.2.val :=
  ⟨((⟨r / 32, by omega⟩, ⟨r % 32 / 2, by omega⟩), ⟨r % 2, by omega⟩), by
    rw [bn_tile]; show r = 2 * (r % 32 / 2) + 32 * (r / 32) + r % 2; omega⟩

theorem pPts_tiles (d : Dev nD) (f : S64x32.Idx → BitVec 32) :
    (pLoc d ↦{fullShare} (f : Buf (Elt F) (pLoc d)) : sProp 𝕄)
      = bigSep Finset.univ fun p : Tile => iprop(pPt d (tileL p) 0 f ∗ pPt d (tileL p) 1 f) := by
  rw [show (pLoc d ↦{fullShare} (f : Buf (Elt F) (pLoc d)) : sProp 𝕄) = bigSep Finset.univ fun p : Tile × Fin 2 => pPt d (tileL p.1) p.2 f from by
    unfold pPt
    rw [← pointsTo_biUnion (ℓ := pLoc d) Finset.univ (fun p : Tile × Fin 2 => (pBlk (pOff (tileL p.1) p.2) (pOff_inb (tileL p.1) p.2)).view.set)
      (fun p _ p' _ h => Finset.disjoint_left.mpr fun y hy hy' => blocks_ne h (((mem_pBlk _ _ y).mp hy).symm.trans ((mem_pBlk _ _ y).mp hy')))]
    rw [show (Finset.univ.biUnion fun p : Tile × Fin 2 => (pBlk (pOff (tileL p.1) p.2) (pOff_inb (tileL p.1) p.2)).view.set) = (Finset.univ : Finset S64x32.Idx) from
      Finset.eq_univ_of_forall fun y => by
        obtain ⟨p, hp⟩ := block_of (show (y 0).val < 64 from (y 0).isLt)
        exact Finset.mem_biUnion.mpr ⟨p, Finset.mem_univ _, (mem_pBlk _ _ y).mpr hp⟩]]
  rw [BI.bigSep_univ_prod]
  exact bigSep_congr fun p _ => bigSep_fin_two _

theorem xPts_tiles (d : Dev nD) (f : S2048x1024.Idx → Elt F .f32) :
    (xLoc d ↦{fullShare} (f : Buf (Elt F) (xLoc d)) : sProp 𝕄)
      = bigSep Finset.univ fun p : Tile => iprop(xPt d (tileL p) 0 f ∗ xPt d (tileL p) 1 f) := by
  rw [show (xLoc d ↦{fullShare} (f : Buf (Elt F) (xLoc d)) : sProp 𝕄) = bigSep Finset.univ fun p : Tile × Fin 2 => xPt d (tileL p.1) p.2 f from by
    unfold xPt
    rw [← pointsTo_biUnion (ℓ := xLoc d) Finset.univ (fun p : Tile × Fin 2 => (xBlk (xOff (tileL p.1) p.2) (xOff_inb (tileL p.1) p.2)).view.set)
      (fun p _ p' _ h => Finset.disjoint_left.mpr fun y hy hy' => blocks_ne h (((mem_xBlk _ _ y).mp hy).symm.trans ((mem_xBlk _ _ y).mp hy')))]
    rw [show (Finset.univ.biUnion fun p : Tile × Fin 2 => (xBlk (xOff (tileL p.1) p.2) (xOff_inb (tileL p.1) p.2)).view.set) = (Finset.univ : Finset S2048x1024.Idx) from
      Finset.eq_univ_of_forall fun y => by
        have hy : (y 0).val < 2048 := (y 0).isLt
        obtain ⟨p, hp⟩ := block_of (show (y 0).val / 32 < 64 by omega)
        exact Finset.mem_biUnion.mpr ⟨p, Finset.mem_univ _, (mem_xBlk _ _ y).mpr hp⟩]]
  rw [BI.bigSep_univ_prod]
  exact bigSep_congr fun p _ => bigSep_fin_two _

/-- The places no position names. -/
def zRest (pf : S64x32.Idx → BitVec 32) : Finset S3072x1024.Idx :=
  Finset.univ \ Finset.univ.biUnion fun p : Tile × Fin 2 => zSet pf (bn (tileL p.1) + p.2.val)

theorem not_mem_zRest {pf : S64x32.Idx → BitVec 32} {y : S3072x1024.Idx} (hy : y ∈ zRest pf) : ¬ ∃ t, t < 2048 ∧ posOf pf t = (y 0).val := by
  rintro ⟨t, ht, e⟩
  refine (Finset.mem_sdiff.mp hy).2 ?_
  obtain ⟨p, hp⟩ := block_of (show t / 32 < 64 by omega)
  refine Finset.mem_biUnion.mpr ⟨p, Finset.mem_univ _, mem_zSet.mpr ⟨⟨t % 32, Nat.mod_lt _ (by decide)⟩, ?_⟩⟩
  rw [← hp]
  show posOf pf (32 * (t / 32) + t % 32) = _
  rw [Nat.div_add_mod]; exact e

/-- The places the tiles' blocks name are apart, the positions being so. -/
theorem zSets_disjoint {pf : S64x32.Idx → BitVec 32} (hp : PosOK pf) (p p' : Tile × Fin 2) (h : p ≠ p') :
    Disjoint (zSet pf (bn (tileL p.1) + p.2.val)) (zSet pf (bn (tileL p'.1) + p'.2.val)) := by
  refine Finset.disjoint_left.mpr fun y hy hy' => blocks_ne h ?_
  obtain ⟨l, hl⟩ := mem_zSet.mp hy
  obtain ⟨l', hl'⟩ := mem_zSet.mp hy'
  have h1 := l.isLt; have h2 := l'.isLt
  have h3 := bn_le (tileL p.1); have h4 := bn_le (tileL p'.1)
  have h5 := p.2.isLt; have h6 := p'.2.isLt
  have := hp.2 _ _ (by omega) (by omega) (hl.trans hl'.symm)
  omega

theorem zPts_tiles (d : Dev nD) {pf : S64x32.Idx → BitVec 32} (hp : PosOK pf) (f : S3072x1024.Idx → Elt F .f32) :
    (zLoc d ↦{fullShare} (f : Buf (Elt F) (zLoc d)) : sProp 𝕄)
      = iprop((bigSep Finset.univ fun p : Tile => iprop(zPt d (tileL p) pf 0 f ∗ zPt d (tileL p) pf 1 f)) ∗ (zLoc d ↦[zRest pf]{fullShare} (f : Buf (Elt F) (zLoc d)))) := by
  have e : (bigSep Finset.univ fun p : Tile => iprop(zPt d (tileL p) pf 0 f ∗ zPt d (tileL p) pf 1 f) : sProp 𝕄)
      = (zLoc d ↦[Finset.univ.biUnion fun p : Tile × Fin 2 => zSet pf (bn (tileL p.1) + p.2.val)]{fullShare} (f : Buf (Elt F) (zLoc d))) := by
    rw [pointsTo_biUnion (ℓ := zLoc d) Finset.univ (fun p : Tile × Fin 2 => zSet pf (bn (tileL p.1) + p.2.val))
      (fun p _ p' _ h => zSets_disjoint hp p p' h)]
    refine Eq.trans ?_ (BI.bigSep_univ_prod (Φ := fun p : Tile × Fin 2 => (zLoc d ↦[zSet pf (bn (tileL p.1) + p.2.val)]{fullShare} (f : Buf (Elt F) (zLoc d)) : sProp 𝕄))).symm
    exact bigSep_congr fun p _ => (bigSep_fin_two (fun k : Fin 2 => zPt (F := F) d (tileL p) pf k f)).symm
  rw [e]
  exact BI.equiv_iff.mp ⟨(pointsTo_split_subset (Finset.subset_univ _)).1, (pointsTo_split_subset (Finset.subset_univ _)).2⟩

theorem assoc_eq (P Q R : sProp 𝕄) : iprop((P ∗ Q) ∗ R) = iprop(P ∗ Q ∗ R) := BI.equiv_iff.mp ⟨BI.sep_assoc, BI.sep_assoc'⟩

/-- What a tile is dealt, the places it fills at `g`. -/
def tileRes (d : Dev nD) (xf : S2048x1024.Idx → Elt F .f32) (pf : S64x32.Idx → BitVec 32) (g : S3072x1024.Idx → Elt F .f32) (p : Tile) : sProp 𝕄 :=
  iprop((xPt d (tileL p) 0 xf ∗ xPt d (tileL p) 1 xf) ∗ (pPt d (tileL p) 0 pf ∗ pPt d (tileL p) 1 pf) ∗ zPt d (tileL p) pf 0 g ∗ zPt d (tileL p) pf 1 g)

/-- All tiles' pieces, with the places no position names, are the three arrays. -/
theorem tileRes_all (d : Dev nD) (xf : S2048x1024.Idx → Elt F .f32) {pf : S64x32.Idx → BitVec 32} (hp : PosOK pf) (g : S3072x1024.Idx → Elt F .f32) :
    iprop((bigSep Finset.univ fun c : Fin 2 => bigSep Finset.univ fun i : Fin 16 => tileRes d xf pf g (c, i)) ∗ (zLoc d ↦[zRest pf]{fullShare} (g : Buf (Elt F) (zLoc d))))
      = (iprop((xLoc d ↦{fullShare} (xf : Buf (Elt F) (xLoc d))) ∗ (pLoc d ↦{fullShare} (pf : Buf (Elt F) (pLoc d)))
          ∗ (zLoc d ↦{fullShare} (g : Buf (Elt F) (zLoc d)))) : sProp 𝕄) := by
  rw [← BI.bigSep_univ_prod (Φ := fun p : Tile => tileRes d xf pf g p)]
  unfold tileRes
  have e := (bigSep_sep' (s := Finset.univ) (Φ := fun p : Tile => iprop(xPt (F := F) d (tileL p) 0 xf ∗ xPt d (tileL p) 1 xf))
    (Ψ := fun p : Tile => iprop((pPt (F := F) d (tileL p) 0 pf ∗ pPt d (tileL p) 1 pf) ∗ zPt d (tileL p) pf 0 g ∗ zPt d (tileL p) pf 1 g)))
  rw [e, bigSep_sep' (s := Finset.univ) (Φ := fun p : Tile => iprop(pPt (F := F) d (tileL p) 0 pf ∗ pPt d (tileL p) 1 pf)),
    pPts_tiles, xPts_tiles, zPts_tiles d hp, assoc_eq, assoc_eq]

/-- The places no position names keep what they hold. -/
theorem zRest_same (d : Dev nD) (xf : S2048x1024.Idx → Elt F .f32) (pf : S64x32.Idx → BitVec 32) (g : S3072x1024.Idx → Elt F .f32) :
    (zLoc d ↦[zRest pf]{fullShare} (g : Buf (Elt F) (zLoc d)) : sProp 𝕄) = (zLoc d ↦[zRest pf]{fullShare} (zVal xf pf g : Buf (Elt F) (zLoc d))) :=
  pointsTo_congr fun _ hy => (zVal_of_not g (not_mem_zRest hy)).symm

/-! ## A tile's own buffers -/

theorem two_slots (n : ℕ) (h : n < 2) : n = (0 : Fin 2).val ∨ n = (1 : Fin 2).val := by
  show n = 0 ∨ n = 1; omega

theorem l_split (d : Dev nD) (L : grid0.Coords) (f : S2x1x32.Idx → BitVec 32) :
    ((VT d L).loc cc0_scoped2 ↦{fullShare} (f : Buf (Elt F) ((VT d L).loc cc0_scoped2)) : sProp 𝕄) = iprop(lPt d L 0 f ∗ lPt d L 1 f) := by
  refine Eq.trans ?_ (bigSep_fin_two (fun k : Fin 2 => lPt (F := F) d L k f))
  unfold lPt
  rw [← pointsTo_biUnion (ℓ := (lV).view.loc (VT d L)) Finset.univ (fun k : Fin 2 => (lSlot (lOff k) (lOff_inb k)).view.set)
      (fun k _ k' _ h => Finset.disjoint_left.mpr fun y hy hy' => h (Fin.ext (((mem_lSlot k y).mp hy).symm.trans ((mem_lSlot k' y).mp hy'))))]
  rw [show (Finset.univ.biUnion fun k : Fin 2 => (lSlot (lOff k) (lOff_inb k)).view.set) = (Finset.univ : Finset S2x1x32.Idx) from
      Finset.eq_univ_of_forall fun y => by
        rcases two_slots (y 0).val (y 0).isLt with h | h
        · exact Finset.mem_biUnion.mpr ⟨0, Finset.mem_univ _, (mem_lSlot 0 y).mpr h⟩
        · exact Finset.mem_biUnion.mpr ⟨1, Finset.mem_univ _, (mem_lSlot 1 y).mpr h⟩]

theorem t_split (d : Dev nD) (L : grid0.Coords) (f : S2x32x1024.Idx → Elt F .f32) :
    ((VT d L).loc cc0_scoped0 ↦{fullShare} (f : Buf (Elt F) ((VT d L).loc cc0_scoped0)) : sProp 𝕄) = iprop(tPt d L 0 f ∗ tPt d L 1 f) := by
  refine Eq.trans ?_ (bigSep_fin_two (fun k : Fin 2 => tPt (F := F) d L k f))
  unfold tPt
  rw [← pointsTo_biUnion (ℓ := (tV).view.loc (VT d L)) Finset.univ (fun k : Fin 2 => (tSlot (lOff k) (tOff_inb k)).view.set)
      (fun k _ k' _ h => Finset.disjoint_left.mpr fun y hy hy' => h (Fin.ext (((mem_tSlot k y).mp hy).symm.trans ((mem_tSlot k' y).mp hy'))))]
  rw [show (Finset.univ.biUnion fun k : Fin 2 => (tSlot (lOff k) (tOff_inb k)).view.set) = (Finset.univ : Finset S2x32x1024.Idx) from
      Finset.eq_univ_of_forall fun y => by
        rcases two_slots (y 0).val (y 0).isLt with h | h
        · exact Finset.mem_biUnion.mpr ⟨0, Finset.mem_univ _, (mem_tSlot 0 y).mpr h⟩
        · exact Finset.mem_biUnion.mpr ⟨1, Finset.mem_univ _, (mem_tSlot 1 y).mpr h⟩]

end Cert.Proof.Scatter

end
-- ==== Proof.ScatterTile.lean ====
/-
  A tile's run of the scatter between what it is dealt and what it hands back, from its own buffers and semaphores.
-/
module

public import proofs.«01_k».proof.Proof.ScatterSplit

@[expose] public section

noncomputable section

namespace Cert.Proof.Scatter

open Cert.KernelIdeal Cert.KernelIdeal.Gen Cert.Proof

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F
local notation "xV" => (Memref.whole Cert.KernelIdeal.main_arg0_scv : Memref Cert.KernelIdeal.sig Kind.scVector Space.hbm Cert.KernelIdeal.S2048x1024 EltTy.f32)
local notation "pV" => (Memref.whole Cert.KernelIdeal.main_v37_scv : Memref Cert.KernelIdeal.sig Kind.scVector Space.hbm Cert.KernelIdeal.S64x32 EltTy.i32)
local notation "zV" => (Memref.whole Cert.KernelIdeal.main_v38_scv : Memref Cert.KernelIdeal.sig Kind.scVector Space.hbm Cert.KernelIdeal.S3072x1024 EltTy.f32)
local notation "tV" => (Memref.whole Cert.KernelIdeal.cc0_scoped0 : Memref Cert.KernelIdeal.sig Kind.scVector Space.vmem Cert.KernelIdeal.S2x32x1024 EltTy.f32)
local notation "lV" => (Memref.whole Cert.KernelIdeal.cc0_scoped2 : Memref Cert.KernelIdeal.sig Kind.scVector Space.vmem Cert.KernelIdeal.S2x1x32 EltTy.i32)

variable [FloatOps F]

/-! ## A tile's own cells and buffers -/

section Tile

variable (d : Dev nD) (L : grid0.Coords)

abbrev dcell (d : Dev nD) (c : Fin τ.nSC) (i : Fin τ.nSub) (k : Fin 5) : GSem nD τ sig := (V d c i, .dma (csem k.val k.isLt))

omit [FloatOps F] in
theorem dcell_mem (c : Fin τ.nSC) (i : Fin τ.nSub) (k : Fin 5) : dcell d c i k ∈ ownCells (V d c i) :=
  mem_ownCells.mpr ⟨rfl, (show ∀ s : DmaSem sig, (SemLoc.dma s : SemLoc sig).isScoped .scVector = true by decide) _⟩

omit [FloatOps F] in
theorem ownSems0_V :
    (ownSems0 (VT d L) : sProp 𝕄)
      = iprop((sem0 d L 0 ∗ sem0 d L 1 ∗ sem0 d L 2 ∗ sem0 d L 3 ∗ sem0 d L 4)
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [csem, SemLoc.dma.injEq, Fin.mk.injEq] at this; exact Fin.ext this)]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

omit [FloatOps F] in
theorem ownBufs_V :
    (ownBufs (VT d L) : sProp 𝕄)
      = iprop((∃ f, (VT d L).loc cc0_scoped0 ↦{fullShare} f) ∗ (∃ f, (VT d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

end Tile

/-! ## A tile's run between what it is dealt and what it hands back -/

theorem tile_body (d : Dev nD) (p : Tile) (xf : S2048x1024.Idx → Elt F .f32) {pf : S64x32.Idx → BitVec 32} (hp : PosOK pf) (g : S3072x1024.Idx → Elt F .f32)
    (hF : (K (F := F)).Facts) (O : CellTallies nD τ sig (HIx 2)) (W : Waits sig (HIx 2)) (hO : ∀ g, O g none = 0) :
    iprop(levAts (K (F := F)).L (K (F := F)).lev ∗ emp ∗ tileRes d xf pf g p
        ∗ scopedBufs (VT d (tileL p)) ∗ scopedSems0 (VT d (tileL p)) ∗ owes (VT d (tileL p)) O W)
      ⊢ wp frame (wpE (defs₀ (F := F)) 𝒱₀ (VT d (tileL p)) none) Set.univ
          (cc0_k (tileL p) xV (Memref.isWhole_whole _) pV (Memref.isWhole_whole _) zV (Memref.isWhole_whole _)
            tV (Memref.isWhole_whole _) cc0_scoped1 lV (Memref.isWhole_whole _) cc0_scoped3 cc0_scoped4)
          fun _ => iprop(tileRes d xf pf (zVal xf pf g) p ∗ scopedBufs (VT d (tileL p)) ∗ scopedSems0 (VT d (tileL p))
            ∗ ∃ W', ⌜∀ p ∈ W', p ∈ W ∨ p.2 = none ∨ p.2 = some (0 : Fin 2)⌝ ∗ owes (VT d (tileL p)) O W') := by
  rw [(K (F := F)).scopedBufs_V hF d (cV (tileL p)) (jV (tileL p)), SparseCore.Cfg.scopedSems0_V (Val := Elt F) d (cV (tileL p)) (jV (tileL p)), ownSems0_V, ownBufs_V]
  unfold tileRes
  iintro ⟨#Hlv, -, ⟨⟨Hx0, Hx1⟩, ⟨Hp0, Hp1⟩, Hz0, Hz1⟩, ⟨⟨%t, Ht⟩, ⟨%l, Hl⟩, Hbufs⟩, ⟨⟨Hs0, Hs1, Hs2, Hs3, Hs4⟩, Hsems⟩, HO⟩
  ihave Hmw := (show levAts (K (F := F)).L (K (F := F)).lev ⊢ Transfers.MayWaits (VT d (tileL p)) (none : HIx 2) O from
    (K (F := F)).mayWaits_none (thr := VT d (tileL p)) hO) $$ Hlv
  ihave Hl' := (Entails.of_eq (l_split (F := F) d (tileL p) l)) $$ Hl
  icases Hl' with ⟨Hl0, Hl1⟩
  ihave Ht' := (Entails.of_eq (t_split (F := F) d (tileL p) t)) $$ Ht
  icases Ht' with ⟨Ht0, Ht1⟩
  iapply (wp_wand_r Idealize.ShloMosaic.frame (wpE (defs₀ (F := F)) 𝒱₀ (VT d (tileL p)) none) Set.univ)
  isplitl [Hx0 Hx1 Hp0 Hp1 Hz0 Hz1 Hl0 Hl1 Ht0 Ht1 Hs0 Hs1 Hs2 Hs3 Hs4 HO Hmw]
  · iapply (tile_run d (tileL p) xf pf hp l l t t g O W)
    unfold slotIn slotRow
    isplitl [Ht0 Hx0 Hs0]
    · isplitl [Ht0]; · iexact Ht0
      isplitl [Hx0]; · iexact Hx0
      iexact Hs0
    isplitl [Ht1 Hx1 Hs1]
    · isplitl [Ht1]; · iexact Ht1
      isplitl [Hx1]; · iexact Hx1
      iexact Hs1
    isplitl [Hl0 Hp0 Hs2]
    · isplitl [Hl0]; · iexact Hl0
      isplitl [Hp0]; · iexact Hp0
      iexact Hs2
    isplitl [Hl1 Hp1 Hs3]
    · isplitl [Hl1]; · iexact Hl1
      isplitl [Hp1]; · iexact Hp1
      iexact Hs3
    isplitl [Hz0]; · iexact Hz0
    isplitl [Hz1]; · iexact Hz1
    isplitl [Hs4]; · iexact Hs4
    isplitl [HO]; · iapply (Steps.owed_start (VT d (tileL p)) none O W) $$ HO
    iexact Hmw
  iintro %_
  unfold slotIn slotRow Steps.Owed
  iintro ⟨⟨Ht0, Hx0, Hs0⟩, ⟨Ht1, Hx1, Hs1⟩, ⟨Hl0, Hp0, Hs2⟩, ⟨Hl1, Hp1, Hs3⟩, Hz0, Hz1, Hs4, ⟨%W', %hW, HO⟩⟩
  isplitl [Hx0 Hx1 Hp0 Hp1 Hz0 Hz1]
  · isplitl [Hx0 Hx1]
    · isplitl [Hx0]; · iexact Hx0
      iexact Hx1
    isplitl [Hp0 Hp1]
    · isplitl [Hp0]; · iexact Hp0
      iexact Hp1
    isplitl [Hz0]; · iexact Hz0
    iexact Hz1
  isplitl [Hl0 Hl1 Ht0 Ht1 Hbufs]
  · isplitl [Ht0 Ht1]
    · iexists _; iapply (Entails.of_eq (t_split (F := F) d (tileL p) _).symm)
      isplitl [Ht0]; · iexact Ht0
      iexact Ht1
    isplitl [Hl0 Hl1]
    · iexists _; iapply (Entails.of_eq (l_split (F := F) d (tileL p) _).symm)
      isplitl [Hl0]; · iexact Hl0
      iexact Hl1
    iexact Hbufs
  isplitl [Hs0 Hs1 Hs2 Hs3 Hs4 Hsems]
  · isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    iexact Hsems
  iexists W'; isplitr
  · ipureintro; intro p hp
    rcases hW p hp with h | h
    · exact .inl h
    · exact .inr (.inl h)
  · iexact HO

theorem defs₀_vector (c : Fin τ.nSC) (s : Fin τ.nSub) :
    defs₀ (F := F) (.scVector c s) 0 ()
      = SparseCore.onTile hcore0 hsub0 (fun c s => cc0_k (coordsV c s)
          xV (Memref.isWhole_whole _) pV (Memref.isWhole_whole _) zV (Memref.isWhole_whole _)
          tV (Memref.isWhole_whole _) cc0_scoped1 lV (Memref.isWhole_whole _) cc0_scoped3 cc0_scoped4) ⟨⟩ c s := rfl

end Cert.Proof.Scatter

end
-- ==== Proof.Contents.lean ====
/-
  The contents of the program's arrays from launch to end: after the host's routing, after the scatter, through the two-layer
  network and after the gather; each a function of the launch memory alone.
-/
module

public import proofs.«01_k».proof.Proof.HostFrame
public import proofs.«01_k».proof.Proof.HostValue
public import proofs.«01_k».proof.Proof.MlpValue
public import proofs.«01_k».proof.Proof.GatherTile
public import proofs.«01_k».proof.Proof.ScatterTile

@[expose] public section

noncomputable section

namespace Cert.Proof.Whole

open Cert.KernelIdeal Cert.KernelIdeal.Gen Cert.Proof
open Idealize.ShloMosaic Idealize.ShloMosaic.TcCoe
open Idealize.ShloMosaic.ValueIdx (ix2 ix3)
open Idealize.SL

variable {F : FTy → Type} [FloatOps F]

/-! ## A list of experts under eight is one the network may read -/

theorem block1 (pf : pre1.Contents (Elt F)) (h : ∀ i : S24.Idx, (BitVec.toNat (pf 0 i)) < 8) (i : grid1.Coords) :
    ∃ n, n < 8 ∧ cc1_transform_1 Facts₀.k1_off1_inb Facts₀.numel1_S1 pf i = ![n, 0, 0] := ⟨_, h _, rfl⟩
theorem block2 (pf : pre1.Contents (Elt F)) (h : ∀ i : S24.Idx, (BitVec.toNat (pf 0 i)) < 8) (i : grid1.Coords) :
    ∃ n, n < 8 ∧ cc1_transform_2 Facts₀.k1_off1_inb Facts₀.numel1_S1 pf i = ![n, 0, 0] := ⟨_, h _, rfl⟩
theorem block3 (pf : pre1.Contents (Elt F)) (h : ∀ i : S24.Idx, (BitVec.toNat (pf 0 i)) < 8) (i : grid1.Coords) :
    ∃ n, n < 8 ∧ cc1_transform_3 Facts₀.k1_off1_inb Facts₀.numel1_S1 pf i = ![n, 0, 0] := ⟨_, h _, rfl⟩
theorem block4 (pf : pre1.Contents (Elt F)) (h : ∀ i : S24.Idx, (BitVec.toNat (pf 0 i)) < 8) (i : grid1.Coords) :
    ∃ n, n < 8 ∧ cc1_transform_4 Facts₀.k1_off1_inb Facts₀.numel1_S1 pf i = ![n, 0, 0] := ⟨_, h _, rfl⟩

theorem ok_of_lt (pf : pre1.Contents (Elt F)) (h : ∀ i : S24.Idx, (BitVec.toNat (pf 0 i)) < 8) : ok1 pf := by
  unfold ok1
  refine ⟨fun i => ⟨fun a => ?_, Or.inl rfl⟩, fun i => ⟨fun a => ?_, Or.inl rfl⟩, fun i => ⟨fun a => ?_, Or.inl rfl⟩, fun i => ⟨fun a => ?_, Or.inl rfl⟩⟩
  · obtain ⟨n, hn, e⟩ := block1 pf h i
    rw [e]
    match a with
    | 0 => exact (show (n + 1) * 1 ≤ 8 by omega)
    | 1 => exact (show (0 + 1) * 1024 ≤ 1024 by omega)
    | 2 => exact (show (0 + 1) * 2048 ≤ 2048 by omega)
  · obtain ⟨n, hn, e⟩ := block2 pf h i
    rw [e]
    match a with
    | 0 => exact (show (n + 1) * 1 ≤ 8 by omega)
    | 1 => exact (show (0 + 1) * 1 ≤ 1 by omega)
    | 2 => exact (show (0 + 1) * 2048 ≤ 2048 by omega)
  · obtain ⟨n, hn, e⟩ := block3 pf h i
    rw [e]
    match a with
    | 0 => exact (show (n + 1) * 1 ≤ 8 by omega)
    | 1 => exact (show (0 + 1) * 2048 ≤ 2048 by omega)
    | 2 => exact (show (0 + 1) * 1024 ≤ 1024 by omega)
  · obtain ⟨n, hn, e⟩ := block4 pf h i
    rw [e]
    match a with
    | 0 => exact (show (n + 1) * 1 ≤ 8 by omega)
    | 1 => exact (show (0 + 1) * 1 ≤ 1 by omega)
    | 2 => exact (show (0 + 1) * 1024 ≤ 1024 by omega)

/-! ## The contents, step by step -/

variable (m : (ℓ : Loc nD τ sig) → Buf (Elt F) ℓ)

/-- The routing table, as launched. -/
def GT : S2048x2.Idx → BitVec 32 := m ((SparseCore.T (0 : Dev nD)).loc main_arg1)

/-- Every token's expert is one of the eight. -/
def PreOK : Prop := ∀ t : Fin 2048, (GT m (ix2 t (0 : Fin 2))).toNat < 8

/-- At launch. -/
def V0 : Valuation τ sig (Elt F) := fun b => m ((0 : Dev nD), b)
/-- After the routing. -/
def V1 : Valuation τ sig (Elt F) := StableHlo.after Host.ops (V0 m)
/-- The rows, the positions, and the sorted rows after the scatter. -/
def XF : S2048x1024.Idx → Elt F .f32 := V1 m (Proc.devRef .tc main_arg0)
def PF : S64x32.Idx → BitVec 32 := V1 m (Proc.devRef .tc main_v37)
def ZF : S3072x1024.Idx → Elt F .f32 := V1 m (Proc.devRef .tc main_v38)
def XS : S3072x1024.Idx → Elt F .f32 := Scatter.zVal (XF m) (PF m) (ZF m)
abbrev z' : DevRef τ sig := Proc.devRef .tc (main_v38 : Ref sig .tc)
abbrev o' : DevRef τ sig := Proc.devRef .tc (main_v43 : Ref sig .tc)
/-- After the scatter. -/
def V2 : Valuation τ sig (Elt F) := Function.update (V1 m) z' (XS m)
/-- At the network's entry. -/
def V3 : Valuation τ sig (Elt F) := StableHlo.after Host.opsG (V2 m)
/-- The list of experts the network reads. -/
def TE : pre1.Contents (Elt F) := fun k => V3 m (Proc.devRef .tc (pre1.ref k))

theorem V1_arg {r : Ref sig .tc} (h : r ∈ Host.args) : V1 m (Proc.devRef .tc r) = m ((SparseCore.T (0 : Dev nD)).loc r) := Host.keep (V0 m) r h

theorem V2_of_ne {r : Ref sig .tc} (h : r ≠ main_v38) : V2 m (Proc.devRef .tc r) = V1 m (Proc.devRef .tc r) :=
  Function.update_of_ne (StableHlo.devRef_ne_of_ne h) _ _

theorem args_ne {r : Ref sig .tc} (h : r ∈ Host.args) : r ≠ main_v38 ∧ r ≠ main_v43 ∧ ∀ w, Pipeline.arrRef spec1 w = r → (spec1 w).isOut = false := by
  revert r; decide

theorem V3_v36 : V3 m (Proc.devRef .tc main_v36) = Host.experts (GT m) :=
  (Host.keepG _ _ (by simp)).trans ((V2_of_ne m (by decide)).trans ((Host.ops_v36 _)))

theorem TE_eq : TE m 0 = Host.experts (GT m) := V3_v36 m

theorem TE_lt (hpre : PreOK m) (i : S24.Idx) : BitVec.toNat (TE m 0 i) < 8 := by
  rw [TE_eq]
  have e : i = ValueIdx.ix1 (i 0) := by funext k; obtain rfl : k = 0 := Subsingleton.elim (α := Fin 1) _ _; rfl
  rw [e]
  refine lt_of_eq_of_lt ((congrArg BitVec.toNat (Host.experts_at hpre (i 0))).trans ?_) (Routing.te_lt (Host.gOf (GT m)) (i 0).val)
  rw [BitVec.toNat_ofNat]
  exact Nat.mod_eq_of_lt (lt_trans (Routing.te_lt _ _) (by decide))

theorem te_ok (hpre : PreOK m) : ok1 (TE m) := ok_of_lt (TE m) (TE_lt m hpre)

def adm (hpre : PreOK m) : (p : Fin 1) → (pcfgs (F := F) p).Adm := fun _ => ⟨TE m, te_ok m hpre⟩

/-- After the network. -/
def V4 (hpre : PreOK m) : Valuation τ sig (Elt F) := Pipeline.afterRegion (Mlp.dat (V3 m) (adm m hpre) 0) (V3 m)
/-- Before the gather. -/
def V5 (hpre : PreOK m) : Valuation τ sig (Elt F) := StableHlo.after Host.opsH (V4 m hpre)
/-- The result. -/
def YS (hpre : PreOK m) : S3072x1024.Idx → Elt F .f32 := V5 m hpre (Proc.devRef .tc main_v41)
def QF (hpre : PreOK m) : S64x32.Idx → BitVec 32 := V5 m hpre (Proc.devRef .tc main_v42)
def OG (hpre : PreOK m) : S2048x1024.Idx → Elt F .f32 := V5 m hpre (Proc.devRef .tc main_v43)
def OF (hpre : PreOK m) : S2048x1024.Idx → Elt F .f32 := Gather.oVal (YS m hpre) (QF m hpre)
/-- At the end. -/
def V6 (hpre : PreOK m) : Valuation τ sig (Elt F) := Function.update (V5 m hpre) o' (OF m hpre)

/-! ## What each array holds -/

theorem XF_eq : XF m = m ((SparseCore.T (0 : Dev nD)).loc main_arg0) := V1_arg m (by simp)
theorem PF_eq : PF m = shapeCast S64x32 (Host.rows (GT m)) shapeCasts_S2048_S64x32 := Host.ops_v37 _

theorem V3_arg {r : Ref sig .tc} (h : r ∈ Host.args) : V3 m (Proc.devRef .tc r) = m ((SparseCore.T (0 : Dev nD)).loc r) :=
  (Host.keepG _ _ (by simp only [List.mem_cons]; exact .inr (.inr (.inr (by simpa using h))))).trans ((V2_of_ne m (args_ne h).1).trans (V1_arg m h))
theorem V3_v38 : V3 m (Proc.devRef .tc main_v38) = XS m := (Host.keepG _ _ (by simp)).trans (Function.update_self _ _ _)
theorem V3_v25 : V3 m (Proc.devRef .tc main_v25) = Host.rows (GT m) :=
  (Host.keepG _ _ (by simp)).trans ((V2_of_ne m (by decide)).trans (Host.ops_v25 _))
theorem V3_v39 : V3 m (Proc.devRef .tc main_v39) = shapeCast S8x1x2048 (m ((SparseCore.T (0 : Dev nD)).loc main_arg3)) shapeCasts_S8x2048_S8x1x2048 := by
  refine (Host.G_v39 _).trans ?_
  rw [V2_of_ne m (by decide), V1_arg m (by simp)]
theorem V3_v40 : V3 m (Proc.devRef .tc main_v40) = shapeCast S8x1x1024 (m ((SparseCore.T (0 : Dev nD)).loc main_arg5)) shapeCasts_S8x1024_S8x1x1024 := by
  refine (Host.G_v40 _).trans ?_
  rw [V2_of_ne m (by decide), V1_arg m (by simp)]

variable (hpre : PreOK m)

theorem V4_keep {r : Ref sig .tc} (h : ∀ w, Pipeline.arrRef spec1 w = r → (spec1 w).isOut = false) : V4 m hpre (Proc.devRef .tc r) = V3 m (Proc.devRef .tc r) :=
  Pipeline.afterRegion_keeps (Mlp.dat (V3 m) (adm m hpre) 0) (V3 m) (launch1 (F := F)).win.arr_inj (fun _ => rfl) r h
theorem V4_arg {r : Ref sig .tc} (h : r ∈ Host.args) : V4 m hpre (Proc.devRef .tc r) = m ((SparseCore.T (0 : Dev nD)).loc r) :=
  (V4_keep m hpre (args_ne h).2.2).trans (V3_arg m h)
theorem V4_v25 : V4 m hpre (Proc.devRef .tc main_v25) = Host.rows (GT m) := (V4_keep m hpre (by decide)).trans (V3_v25 m)
theorem V4_v41 : V4 m hpre (Proc.devRef .tc main_v41) = Mlp.ysVal (V3 m) (adm m hpre) :=
  (Pipeline.afterRegion_arr (Mlp.dat (V3 m) (adm m hpre) 0) (V3 m) (launch1 (F := F)).win.arr_inj 5).trans (Mlp.arr5 _ _ _)

theorem YS_eq : YS m hpre = Mlp.ysVal (V3 m) (adm m hpre) := (Host.keepH _ _ (by simp)).trans (V4_v41 m hpre)
theorem QF_eq : QF m hpre = shapeCast S64x32 (Host.rows (GT m)) shapeCasts_S2048_S64x32 := by
  refine (Host.H_v42 _).trans ?_
  rw [V4_v25]

theorem V6_arg {r : Ref sig .tc} (h : r ∈ Host.args) : V6 m hpre (Proc.devRef .tc r) = m ((SparseCore.T (0 : Dev nD)).loc r) :=
  (Function.update_of_ne (StableHlo.devRef_ne_of_ne (args_ne h).2.1) _ _).trans
    ((Host.keepH _ _ (by simp only [List.mem_cons]; exact .inr (by simpa using h))).trans (V4_arg m hpre h))
theorem V6_v43 : V6 m hpre (Proc.devRef .tc main_v43) = OF m hpre := Function.update_self _ _ _

/-! ## The positions are distinct rows -/

/-- A token's position, in the blocked list. -/
theorem block_at (t : ℕ) (ht : t < 2048) (A : S2048.Idx → BitVec 32) : shapeCast S64x32 A shapeCasts_S2048_S64x32 (ixP (t / 32) t) = A (ValueIdx.ix1 (⟨t, ht⟩ : Fin 2048)) := by
  rw [show ixP (t / 32) t = ix2 (⟨t / 32, by omega⟩ : Fin 64) (⟨t % 32, Nat.mod_lt _ (by decide)⟩ : Fin 32) from ?_]
  · exact Idealize.ShloMosaic.Routing.cast12 A _ _ _ _ (by show t = t / 32 * 32 + t % 32; omega)
  · funext a
    match a with
    | ⟨0, _⟩ => exact Fin.ext (Nat.mod_eq_of_lt (by omega))
    | ⟨1, _⟩ => rfl

include hpre in
theorem pos_at (t : ℕ) (ht : t < 2048) : Scatter.posOf (PF m) t = Routing.pos (Host.gOf (GT m)) t := by
  have hg := Host.gOf_lt hpre t ht
  unfold Scatter.posOf
  rw [PF_eq, block_at t ht, Host.rows_at hpre ⟨t, ht⟩, BitVec.toNat_ofNat]
  exact Nat.mod_eq_of_lt (lt_trans (Routing.pos_lt _ ht hg) (by decide))

include hpre in
theorem rows_lt (x : S64x32.Idx) : (shapeCast S64x32 (Host.rows (GT m)) shapeCasts_S2048_S64x32 x).toNat < 3072 := by
  have h0 : (x 0).val < 64 := (x 0).isLt
  have h1 : (x 1).val < 32 := (x 1).isLt
  have ht : 32 * (x 0).val + (x 1).val < 2048 := by omega
  have e : x = ixP ((32 * (x 0).val + (x 1).val) / 32) (32 * (x 0).val + (x 1).val) :=
    (ixP_eq x (x 0).val (x 1).val rfl rfl).symm.trans (ixP_congr (by omega) (by omega))
  rw [e]
  have := pos_at m hpre _ ht
  unfold Scatter.posOf at this
  rw [PF_eq] at this
  rw [this]
  exact Routing.pos_lt _ ht (Host.gOf_lt hpre _ ht)

include hpre in
theorem PF_ok : Scatter.PosOK (PF m) := by
  refine ⟨fun x => by rw [PF_eq]; exact rows_lt m hpre x, fun t t' ht ht' h => ?_⟩
  rw [pos_at m hpre t ht, pos_at m hpre t' ht'] at h
  exact Routing.pos_inj _ ht ht' h

theorem QF_lt (x : S64x32.Idx) : (QF m hpre x).toNat < 3072 := by rw [QF_eq]; exact rows_lt m hpre x

end Cert.Proof.Whole

end
-- ==== Proof.Launch.lean ====
/-
  The launch: what the two SparseCore calls hand their tiles and take back, a tile's obligation in each, and the ghost state the
  program starts from.
-/
module

public import proofs.«01_k».proof.Proof.Contents

@[expose] public section

noncomputable section

namespace Cert.Proof.Whole

open Cert.KernelIdeal Cert.KernelIdeal.Gen Cert.Proof

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (m : (ℓ : Loc nD τ sig) → Buf (Elt F) ℓ) (hpre : PreOK m)

/-! ## What the handshakes carry -/

/-- A tile's pieces in each call, before and after. -/
abbrev sIn (d : Dev nD) (p : Scatter.Tile) : sProp 𝕄 := Scatter.tileRes d (XF m) (PF m) (ZF m) p
abbrev sOut (d : Dev nD) (p : Scatter.Tile) : sProp 𝕄 := Scatter.tileRes d (XF m) (PF m) (XS m) p
abbrev gIn (d : Dev nD) (p : Gather.Tile) : sProp 𝕄 := Gather.tileRes d (YS m hpre) (QF m hpre) (OG m hpre) p
abbrev gOut (d : Dev nD) (p : Gather.Tile) : sProp 𝕄 := Gather.tileRes d (YS m hpre) (QF m hpre) (OF m hpre) p

theorem nCore0 : (K (F := F)).nCore 0 = 2 := rfl
theorem nSub0 : (K (F := F)).nSub 0 = 16 := rfl
theorem nCore1 : (K (F := F)).nCore 1 = 2 := rfl
theorem nSub1 : (K (F := F)).nSub 1 = 16 := rfl

/-- Each SparseCore takes its sixteen tiles' pieces and brings them back, filled. -/
def P : (K (F := F)).Pay (nD := nD) (Val := Elt F) (Name := ℕ) (U := UU) where
  st := fun q d c => match q with
    | 0 => bigSep Finset.univ fun i : Fin 16 => sIn m d (Fin.cast nCore0 c, i)
    | 1 => bigSep Finset.univ fun i : Fin 16 => gIn m hpre d (Fin.cast nCore1 c, i)
  dn := fun q d c => match q with
    | 0 => bigSep Finset.univ fun i : Fin 16 => sOut m d (Fin.cast nCore0 c, i)
    | 1 => bigSep Finset.univ fun i : Fin 16 => gOut m hpre d (Fin.cast nCore1 c, i)
  go := fun q d c i => match q with
    | 0 => sIn m d (Fin.cast nCore0 c, Fin.cast nSub0 i)
    | 1 => gIn m hpre d (Fin.cast nCore1 c, Fin.cast nSub1 i)
  td := fun q d c i => match q with
    | 0 => sOut m d (Fin.cast nCore0 c, Fin.cast nSub0 i)
    | 1 => gOut m hpre d (Fin.cast nCore1 c, Fin.cast nSub1 i)
  x := fun _ _ => iprop(emp)

instance sRes_storable (d : Dev nD) (xf : S2048x1024.Idx → Elt F .f32) (pf : S64x32.Idx → BitVec 32) (g : S3072x1024.Idx → Elt F .f32) (p : Scatter.Tile) :
    BI.Storable (upEmb : UEmb _ 𝕄) (Scatter.tileRes d xf pf g p) := by
  unfold Scatter.tileRes Scatter.xPt Scatter.pPt Scatter.zPt; infer_instance

set_option synthInstance.maxHeartbeats 400000 in
instance gRes_storable (d : Dev nD) (yf : S3072x1024.Idx → Elt F .f32) (pf : S64x32.Idx → BitVec 32) (g : S2048x1024.Idx → Elt F .f32) (p : Gather.Tile) :
    BI.Storable (upEmb : UEmb _ 𝕄) (Gather.tileRes d yf pf g p) := by
  unfold Gather.tileRes Gather.yPt Gather.pPt Gather.oPt; infer_instance

instance P_storable : (P (F := F) m hpre).IsStorable where
  st q d c := match q with
    | 0 => (inferInstance : BI.Storable (upEmb : UEmb _ 𝕄) (bigSep Finset.univ fun i : Fin 16 => sIn m d (Fin.cast nCore0 c, i)))
    | 1 => (inferInstance : BI.Storable (upEmb : UEmb _ 𝕄) (bigSep Finset.univ fun i : Fin 16 => gIn m hpre d (Fin.cast nCore1 c, i)))
  dn q d c := match q with
    | 0 => (inferInstance : BI.Storable (upEmb : UEmb _ 𝕄) (bigSep Finset.univ fun i : Fin 16 => sOut m d (Fin.cast nCore0 c, i)))
    | 1 => (inferInstance : BI.Storable (upEmb : UEmb _ 𝕄) (bigSep Finset.univ fun i : Fin 16 => gOut m hpre d (Fin.cast nCore1 c, i)))
  go q d c i := match q with
    | 0 => (inferInstance : BI.Storable (upEmb : UEmb _ 𝕄) (sIn m d (Fin.cast nCore0 c, Fin.cast nSub0 i)))
    | 1 => (inferInstance : BI.Storable (upEmb : UEmb _ 𝕄) (gIn m hpre d (Fin.cast nCore1 c, Fin.cast nSub1 i)))
  td q d c i := match q with
    | 0 => (inferInstance : BI.Storable (upEmb : UEmb _ 𝕄) (sOut m d (Fin.cast nCore0 c, Fin.cast nSub0 i)))
    | 1 => (inferInstance : BI.Storable (upEmb : UEmb _ 𝕄) (gOut m hpre d (Fin.cast nCore1 c, Fin.cast nSub1 i)))

/-! ## The tiles' obligations -/

theorem tileObl0 (hF : (K (F := F)).Facts) : (K (F := F)).TileObl (D (F := F)) 𝒱 (P m hpre) v₀ 0 := by
  intro d c i O W hO _ _
  simp only [show (P m hpre).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [Scatter.defs₀_vector]; simp only [SparseCore.onTile, hci, and_self, ↓reduceDIte]
  exact Scatter.tile_body d (⟨_, hci.1⟩, ⟨_, hci.2⟩) (XF m) (PF_ok m hpre) (ZF m) hF O W hO

theorem tileObl1 (hF : (K (F := F)).Facts) : (K (F := F)).TileObl (D (F := F)) 𝒱 (P m hpre) v₀ 1 := by
  intro d c i O W hO _ _
  simp only [show (P m hpre).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [Gather.defs₀_vector]; simp only [SparseCore.onTile, hci, and_self, ↓reduceDIte]
  exact Gather.tile_body d (⟨_, hci.1⟩, ⟨_, hci.2⟩) (YS m hpre) (QF_lt m hpre) (OG m hpre) hF O W hO

theorem vecSplit0 : (K (F := F)).VecSplit' (P m hpre) 0 := by
  intro d c
  show (bigSep Finset.univ fun i : Fin 16 => sIn m d (Fin.cast nCore0 c, i)) ⊢ |={Set.univ}=> iprop(
      (bigSep Finset.univ fun i : Fin 16 => sIn m d (Fin.cast nCore0 c, i))
      ∗ ((bigSep Finset.univ fun i : Fin 16 => sOut m d (Fin.cast nCore0 c, i))
          -∗ (bigSep Finset.univ fun i : Fin 16 => sOut m d (Fin.cast nCore0 c, i))))
  iintro H; imodintro
  isplitl [H]; · iexact H
  iintro H; iexact H

theorem vecSplit1 : (K (F := F)).VecSplit' (P m hpre) 1 := by
  intro d c
  show (bigSep Finset.univ fun i : Fin 16 => gIn m hpre d (Fin.cast nCore1 c, i)) ⊢ |={Set.univ}=> iprop(
      (bigSep Finset.univ fun i : Fin 16 => gIn m hpre d (Fin.cast nCore1 c, i))
      ∗ ((bigSep Finset.univ fun i : Fin 16 => gOut m hpre d (Fin.cast nCore1 c, i))
          -∗ (bigSep Finset.univ fun i : Fin 16 => gOut m hpre d (Fin.cast nCore1 c, i))))
  iintro H; imodintro
  isplitl [H]; · iexact H
  iintro H; iexact H

/-! ## The launch element of the ghost state -/

/-- The network's pipeline at its list of experts. -/
abbrev pc : Fin 1 → Pipeline.Cfg sig Λ₀ := Pipeline.pin (pcfgs (F := F)) (adm m hpre)

/-- What the launch deals a core for the network's pipeline. -/
abbrev G (d : Dev nD) : sProp 𝕄 := iprop(Pipeline.cellsGhost (nD := nD) (τ := τ) (pc m hpre) EP 0 d ∗ Pipeline.toksInit (nD := nD) (τ := τ) (pc m hpre) EP 0 d)

def uP : UP := initOf (Pipeline.cells (nD := nD) (τ := τ) (pc m hpre) (cellOf_inj (adm m hpre))) (Pipeline.launchToks (nD := nD) (τ := τ) (pc m hpre) (cellOf_inj (adm m hpre)))
def u₀ : UU := (initOf (K (F := F)).hsCells (K (F := F)).hsToks, (uP m hpre, 1))

theorem bigSep_emp' {I : Type} (s : Finset I) : (bigSep s fun _ => iprop(emp)) = (iprop(emp) : sProp 𝕄) := bigSep_emp_const s

theorem x_emp : (bigSep Finset.univ fun thr : Thread nD τ => bigSep Finset.univ fun q : Fin 2 => (P (F := F) m hpre).x q thr) = (iprop(emp) : sProp 𝕄) := by
  rw [show (bigSep Finset.univ fun thr : Thread nD τ => bigSep Finset.univ fun q : Fin 2 => (P (F := F) m hpre).x q thr) = (bigSep Finset.univ fun _ => iprop(emp)) from
    bigSep_congr fun _ _ => bigSep_emp' _, bigSep_emp']

theorem fund : (BI.own ((EP : Emb UP 𝕄) (uP m hpre)) : sProp 𝕄) ⊢ |==> bigSep Finset.univ fun d : Dev nD => G m hpre d := by
  have h := Pipeline.fund_ghost (nD := nD) (τ := τ) (pc m hpre) (EP : Emb UP 𝕄) (cellOf_inj (adm m hpre))
  rw [show (bigSep Finset.univ fun d : Dev nD => G m hpre d)
    = iprop((bigSep Finset.univ fun d : Dev nD => Pipeline.cellsGhost (nD := nD) (τ := τ) (pc m hpre) EP 0 d)
        ∗ bigSep Finset.univ fun d : Dev nD => Pipeline.toksInit (nD := nD) (τ := τ) (pc m hpre) EP 0 d) from bigSep_sep' _ _ _]
  unfold uP
  iintro H
  imod h $$ H with ⟨H1, H2⟩
  imodintro
  isplitl [H1]
  · iapply (Entails.of_eq (bigSep_congr (s := Finset.univ) fun (c : Dev nD) _ =>
      bigSep_univ_of_subsingleton (Φ := fun p => Pipeline.cellsGhost (nD := nD) (τ := τ) (pc m hpre) (EP : Emb UP 𝕄) p c) (0 : Fin 1)))
    iexact H1
  · iapply (Entails.of_eq (bigSep_congr (s := Finset.univ) fun (c : Dev nD) _ =>
      bigSep_univ_of_subsingleton (Φ := fun p => Pipeline.toksInit (nD := nD) (τ := τ) (pc m hpre) (EP : Emb UP 𝕄) p c) (0 : Fin 1)))
    iexact H2

theorem hu₀ : (ownU (u₀ m hpre) : sProp 𝕄)
    ⊢ |={Set.univ}=> iprop(BI.own (EH (initOf (K (F := F)).hsCells (K (F := F)).hsToks)) ∗ (bigSep Finset.univ fun d : Dev nD => G m hpre d)
        ∗ bigSep Finset.univ fun thr : Thread nD τ => bigSep Finset.univ fun q : Fin 2 => (P m hpre).x q thr) := by
  unfold u₀
  rw [x_emp]
  iintro Hu
  ihave H := (ownU_pair (initOf (K (F := F)).hsCells (K (F := F)).hsToks) ((uP m hpre, (1 : Counters)) : UP × Counters)) $$ Hu
  icases H with ⟨HH, HR⟩
  ihave H := (own_pair_emb (embR : Emb (UP × Counters) 𝕄) (uP m hpre) (1 : Counters)) $$ HR
  icases H with ⟨HP, -⟩
  imod (fund m hpre) $$ HP with HG
  imodintro
  isplitl [HH]; · iexact HH
  isplitl [HG]; · iexact HG
  iempintro

end Cert.Proof.Whole

end
-- ==== Proof.Run.lean ====
/-
  The run of the whole program: the host's routing, the scatter, the two-layer network, the gather; and the contents it leaves.
-/
module

public import proofs.«01_k».proof.Proof.Launch

@[expose] public section

noncomputable section

namespace Cert.Proof.Whole

open Cert.KernelIdeal Cert.KernelIdeal.Gen Cert.Proof

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Tactic

variable {F : FTy → Type} [FloatOps F]

local notation "𝕄" => MM F

variable (m : (ℓ : Loc nD τ sig) → Buf (Elt F) ℓ) (ρ : Dev nD → PrngReg) (hpre : PreOK m)

/-- The host's buffers. -/
abbrev UC : Finset (DevRef τ sig) := Pipeline.ucRefs τ sig

theorem mem_UC (r : Ref sig .tc) (h : r.isScoped = false) : (Proc.devRef .tc r : DevRef τ sig) ∈ UC := by
  refine Finset.mem_filter.mpr ⟨StableHlo.devRef_mem_tcRefs r, ?_⟩
  intro h'
  exact Bool.false_ne_true (h.symm.trans h')

abbrev x' : DevRef τ sig := Proc.devRef .tc (main_arg0 : Ref sig .tc)
abbrev p' : DevRef τ sig := Proc.devRef .tc (main_v37 : Ref sig .tc)
abbrev y' : DevRef τ sig := Proc.devRef .tc (main_v41 : Ref sig .tc)
abbrev q' : DevRef τ sig := Proc.devRef .tc (main_v42 : Ref sig .tc)
abbrev T0 : Finset (DevRef τ sig) := {x', p', z'}
abbrev T1 : Finset (DevRef τ sig) := {y', q', o'}

theorem T0_sub : T0 ⊆ UC := by
  intro b hb
  simp only [T0, Finset.mem_insert, Finset.mem_singleton] at hb
  rcases hb with rfl | rfl | rfl <;> exact mem_UC _ (by decide)
theorem T1_sub : T1 ⊆ UC := by
  intro b hb
  simp only [T1, Finset.mem_insert, Finset.mem_singleton] at hb
  rcases hb with rfl | rfl | rfl <;> exact mem_UC _ (by decide)

omit [FloatOps F] in
theorem held_T0 (d : Dev nD) (W : Valuation τ sig (Elt F)) :
    (held (T d) T0 W : sProp 𝕄) = iprop((Scatter.xLoc d ↦{fullShare} W x') ∗ (Scatter.pLoc d ↦{fullShare} W p') ∗ (Scatter.zLoc d ↦{fullShare} W z')) := by
  unfold held T0
  rw [SparseCore.bigSep_insert' (by decide), SparseCore.bigSep_insert' (by decide), bigSep_singleton]
omit [FloatOps F] in
theorem held_T1 (d : Dev nD) (W : Valuation τ sig (Elt F)) :
    (held (T d) T1 W : sProp 𝕄) = iprop((Gather.yLoc d ↦{fullShare} W y') ∗ (Gather.pLoc d ↦{fullShare} W q') ∗ (Gather.oLoc d ↦{fullShare} W o')) := by
  unfold held T1
  rw [SparseCore.bigSep_insert' (by decide), SparseCore.bigSep_insert' (by decide), bigSep_singleton]

theorem V2_x : V2 m x' = XF m := Function.update_of_ne (show x' ≠ z' by decide) _ _
theorem V2_p : V2 m p' = PF m := Function.update_of_ne (show p' ≠ z' by decide) _ _
theorem V2_z : V2 m z' = XS m := Function.update_self _ _ _
theorem V6_y : V6 m hpre y' = YS m hpre := Function.update_of_ne (show y' ≠ o' by decide) _ _
theorem V6_q : V6 m hpre q' = QF m hpre := Function.update_of_ne (show q' ≠ o' by decide) _ _
theorem V6_o : V6 m hpre o' = OF m hpre := Function.update_self _ _ _

theorem rest0 (d : Dev nD) : (held (T d) (UC \ T0) (V1 m) : sProp 𝕄) = held (T d) (UC \ T0) (V2 m) :=
  StableHlo.held_congr (T d) fun b hb => (Function.update_of_ne (fun e => (Finset.mem_sdiff.mp hb).2 (by rw [e]; simp)) _ _).symm
theorem rest1 (d : Dev nD) : (held (T d) (UC \ T1) (V5 m hpre) : sProp 𝕄) = held (T d) (UC \ T1) (V6 m hpre) :=
  StableHlo.held_congr (T d) fun b hb => (Function.update_of_ne (fun e => (Finset.mem_sdiff.mp hb).2 (by rw [e]; simp)) _ _).symm

/-! ## The scatter's call -/

theorem st0 (d : Dev nD) : iprop((bigSep Finset.univ fun c : Fin ((K (F := F)).nCore 0) => (P m hpre).st 0 d c) ∗ (Scatter.zLoc d ↦[Scatter.zRest (PF m)]{fullShare} (ZF m : Buf (Elt F) (Scatter.zLoc d))))
    = iprop((Scatter.xLoc d ↦{fullShare} (XF m : Buf (Elt F) (Scatter.xLoc d))) ∗ (Scatter.pLoc d ↦{fullShare} (PF m : Buf (Elt F) (Scatter.pLoc d)))
          ∗ (Scatter.zLoc d ↦{fullShare} (ZF m : Buf (Elt F) (Scatter.zLoc d)))) :=
  Scatter.tileRes_all d (XF m) (PF_ok m hpre) (ZF m)
theorem dn0 (d : Dev nD) : iprop((bigSep Finset.univ fun c : Fin ((K (F := F)).nCore 0) => (P m hpre).dn 0 d c) ∗ (Scatter.zLoc d ↦[Scatter.zRest (PF m)]{fullShare} (ZF m : Buf (Elt F) (Scatter.zLoc d))))
    = iprop((Scatter.xLoc d ↦{fullShare} (XF m : Buf (Elt F) (Scatter.xLoc d))) ∗ (Scatter.pLoc d ↦{fullShare} (PF m : Buf (Elt F) (Scatter.pLoc d)))
          ∗ (Scatter.zLoc d ↦{fullShare} (XS m : Buf (Elt F) (Scatter.zLoc d)))) := by
  rw [Scatter.zRest_same d (XF m) (PF m) (ZF m)]
  exact Scatter.tileRes_all d (XF m) (PF_ok m hpre) (XS m)

theorem heldIn0 (d : Dev nD) : (held (T d) UC (V1 m) : sProp 𝕄)
    = iprop(iprop((bigSep Finset.univ fun c : Fin ((K (F := F)).nCore 0) => (P m hpre).st 0 d c) ∗ (Scatter.zLoc d ↦[Scatter.zRest (PF m)]{fullShare} (ZF m : Buf (Elt F) (Scatter.zLoc d))))
        ∗ held (T d) (UC \ T0) (V1 m)) := by
  rw [StableHlo.held_sub_split (T d) T0_sub (V1 m), held_T0, st0]; rfl
theorem heldOut0 (d : Dev nD) : (held (T d) UC (V2 m) : sProp 𝕄)
    = iprop(iprop((bigSep Finset.univ fun c : Fin ((K (F := F)).nCore 0) => (P m hpre).dn 0 d c) ∗ (Scatter.zLoc d ↦[Scatter.zRest (PF m)]{fullShare} (ZF m : Buf (Elt F) (Scatter.zLoc d))))
        ∗ held (T d) (UC \ T0) (V1 m)) := by
  rw [StableHlo.held_sub_split (T d) T0_sub (V2 m), held_T0, dn0, rest0, V2_x, V2_p, V2_z]

theorem call0 (κ : GSem nD τ sig → ℕ) (d : Dev nD) (Φ : PUnit → sProp 𝕄) :
    iprop((K (F := F)).ctx EH (P m hpre) κ ∗ (K (F := F)).tcSt EH d 0 ∗ held (T d) UC (V1 m)
        ∗ (iprop((K (F := F)).tcSt EH d 1 ∗ held (T d) UC (V2 m)) -∗ Φ ⟨⟩))
      ⊢ wp frame (wpE ((K (F := F)).defs (D (F := F))) 𝒱 (T d) none) Set.univ ((K (F := F)).run d 0) Φ := by
  rw [heldIn0 m hpre, heldOut0 m hpre]
  iintro ⟨#Hctx, Hst, ⟨⟨Hin, Hz⟩, Hrest⟩, Hk⟩
  iapply ((K (F := F)).wp_run (D (F := F)) 𝒱 (EH := EH) (P := P m hpre) κ d 0) $$ [Hst Hin Hz Hrest Hk]
  isplitr; · iexact Hctx
  isplitl [Hst]; · iexact Hst
  isplitl [Hin]; · iexact Hin
  iintro ⟨Hst, Hdn⟩
  iapply Hk
  isplitl [Hst]; · iexact Hst
  isplitl [Hdn Hz]
  · isplitl [Hdn]; · iexact Hdn
    iexact Hz
  iexact Hrest

/-! ## The gather's call -/

theorem st1 (d : Dev nD) : (bigSep Finset.univ fun c : Fin ((K (F := F)).nCore 1) => (P m hpre).st 1 d c)
    = iprop((Gather.yLoc d ↦{fullShare} (YS m hpre : Buf (Elt F) (Gather.yLoc d))) ∗ (Gather.pLoc d ↦{fullShare} (QF m hpre : Buf (Elt F) (Gather.pLoc d)))
          ∗ (Gather.oLoc d ↦{fullShare} (OG m hpre : Buf (Elt F) (Gather.oLoc d)))) :=
  Gather.tileRes_all d (YS m hpre) (QF m hpre) (OG m hpre)
theorem dn1 (d : Dev nD) : (bigSep Finset.univ fun c : Fin ((K (F := F)).nCore 1) => (P m hpre).dn 1 d c)
    = iprop((Gather.yLoc d ↦{fullShare} (YS m hpre : Buf (Elt F) (Gather.yLoc d))) ∗ (Gather.pLoc d ↦{fullShare} (QF m hpre : Buf (Elt F) (Gather.pLoc d)))
          ∗ (Gather.oLoc d ↦{fullShare} (OF m hpre : Buf (Elt F) (Gather.oLoc d)))) :=
  Gather.tileRes_all d (YS m hpre) (QF m hpre) (OF m hpre)

theorem heldIn1 (d : Dev nD) : (held (T d) UC (V5 m hpre) : sProp 𝕄)
    = iprop((bigSep Finset.univ fun c : Fin ((K (F := F)).nCore 1) => (P m hpre).st 1 d c) ∗ held (T d) (UC \ T1) (V5 m hpre)) := by
  rw [StableHlo.held_sub_split (T d) T1_sub (V5 m hpre), held_T1, st1]; rfl
theorem heldOut1 (d : Dev nD) : (held (T d) UC (V6 m hpre) : sProp 𝕄)
    = iprop((bigSep Finset.univ fun c : Fin ((K (F := F)).nCore 1) => (P m hpre).dn 1 d c) ∗ held (T d) (UC \ T1) (V5 m hpre)) := by
  rw [StableHlo.held_sub_split (T d) T1_sub (V6 m hpre), held_T1, dn1, rest1, V6_y, V6_q, V6_o]

theorem call1 (κ : GSem nD τ sig → ℕ) (d : Dev nD) (Φ : PUnit → sProp 𝕄) :
    iprop((K (F := F)).ctx EH (P m hpre) κ ∗ (K (F := F)).tcSt EH d 1 ∗ held (T d) UC (V5 m hpre)
        ∗ (iprop((K (F := F)).tcSt EH d 2 ∗ held (T d) UC (V6 m hpre)) -∗ Φ ⟨⟩))
      ⊢ wp frame (wpE ((K (F := F)).defs (D (F := F))) 𝒱 (T d) none) Set.univ ((K (F := F)).run d 1) Φ := by
  rw [heldIn1 m hpre, heldOut1 m hpre]
  iintro ⟨#Hctx, Hst, ⟨Hin, Hrest⟩, Hk⟩
  iapply ((K (F := F)).wp_run (D (F := F)) 𝒱 (EH := EH) (P := P m hpre) κ d 1) $$ [Hst Hin Hrest Hk]
  isplitr; · iexact Hctx
  isplitl [Hst]; · iexact Hst
  isplitl [Hin]; · iexact Hin
  iintro ⟨Hst, Hdn⟩
  iapply Hk
  isplitl [Hst]; · iexact Hst
  isplitl [Hdn]; · iexact Hdn
  iexact Hrest

end Cert.Proof.Whole

end
-- ==== Proof.Main.lean ====
/-
  The tables' network between the two SparseCore calls, the host's program from the calls and the straight lines, and the
  program's run.
-/
module

public import proofs.«01_k».proof.Proof.Run
public import proofs.«01_k».proof.Proof.HostFrame

@[expose] public section

noncomputable section

namespace Cert.Proof.Whole

open Cert.KernelIdeal Cert.KernelIdeal.Gen Cert.Proof

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Tactic

variable {F : FTy → Type} [FloatOps F]

local notation "𝕄" => MM F

variable (m : (ℓ : Loc nD τ sig) → Buf (Elt F) ℓ) (ρ : Dev nD → PrngReg) (hpre : PreOK m)

theorem due_none (c : Dev nD) (g : GSem nD τ sig) : Mlp.due (F := F) c g none = 0 := by
  show (K (F := F)).Otc c 1 g none = 0
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun i _ => ?_
    unfold tallyAt tallyOn
    by_cases h : g = (K (F := F)).startCell c ((K (F := F)).core q i)
    · subst h; rw [Pi.single_eq_same]; exact Finsupp.single_eq_of_ne (by intro e; cases e)
    · rw [Pi.single_eq_of_ne h]; rfl
  · rfl

theorem arr_sub : Pipeline.arrRefs spec1 ⊆ UC := Pipeline.arrRefs_sub_ucRefs spec1 (by decide)
theorem tbl_sub : Pipeline.tblRefs pre1 ⊆ UC := by
  exact Pipeline.tblRefs_sub_ucRefs pre1 (by decide)

/-- What the main thread holds between the calls, beside its dues. -/
abbrev tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_eq (d : Dev nD) : ((K (F := F)).tcSt EH d 1 : sProp 𝕄) = iprop(Mlp.owing (F := F) d ∗ tcRest d) := rfl

section Call

variable (W : Valuation τ sig (Elt F)) (a : (p : Fin 1) → (pcfgs (F := F) p).Adm)

abbrev Ga (d : Dev nD) : sProp 𝕄 := iprop(Pipeline.cellsGhost (nD := nD) (τ := τ) (Pipeline.pin (pcfgs (F := F)) a) EP 0 d ∗ Pipeline.toksInit (nD := nD) (τ := τ) (Pipeline.pin (pcfgs (F := F)) a) EP 0 d)

/-- The network's call in its own signature, at any contents and any list of experts held in them. -/
theorem region_in [∀ e, Nonempty (Elt F e)] (hT : ∀ k, (a 0).1 k = W (Proc.devRef .tc (pre1.ref k))) (Φ : PUnit → sProp 𝕄) :
    (iprop((iprop(boundary (T (0 : Dev nD)) ∗ held (T (0 : Dev nD)) UC (Pipeline.afterRegion (Mlp.dat W a 0) W) ∗ Mlp.owing (F := F) 0)
          -∗ wp frame (wpE (D (F := F)) 𝒱 (T (0 : Dev nD)) none) Set.univ (Prog.ret ⟨⟩) Φ)
      ∗ boundary (T (0 : Dev nD)) ∗ (held (T (0 : Dev nD)) UC W ∗ Mlp.owing (F := F) 0) ∗ levAts (K (F := F)).L (K (F := F)).lev ∗ Ga a 0) : sProp 𝕄)
      ⊢ wp frame (wpE (D (F := F)) 𝒱 (T (0 : Dev nD)) none) Set.univ (.op (.customCall (Pipeline.entry 0) ()) (fun _ => Prog.ret ⟨⟩)) Φ := by
  have h := Pipeline.RegionSeg.wp (pcfgs (F := F)) a (Mlp.pdats W a) none (cellOf_inj a) EP
    (defs₀ (F := F)) 𝒱₀ (K (F := F)).L (K (F := F)).lev
    (Mlp.reg W a (S := UC) arr_sub tbl_sub hT (K (F := F)).lev (SparseCore.Cfg.refines_self _) due_none) 0 none (fun u hu => nomatch hu) (fun _ => Prog.ret ⟨⟩) Φ
  generalize hR : (Mlp.reg W a (S := UC) arr_sub tbl_sub hT (K (F := F)).lev (SparseCore.Cfg.refines_self _) due_none) = R at h
  have hp : R.pre 0 = iprop(held (T (0 : Dev nD)) UC W ∗ Mlp.owing (F := F) 0) := by rw [← hR]; rfl
  have hq : R.post 0 = iprop(held (T (0 : Dev nD)) UC (Pipeline.afterRegion (Mlp.dat W a 0) W) ∗ Mlp.owing (F := F) 0) := by rw [← hR]; rfl
  rw [hp, hq] at h
  exact h

/-- The same from the host's program. -/
theorem region_lift (Φ : PUnit → sProp 𝕄) :
    wp frame (wpE (D (F := F)) 𝒱 (T (0 : Dev nD)) none) Set.univ (.op (.customCall (Pipeline.entry 0) ()) (fun _ => Prog.ret ⟨⟩)) Φ
      ⊢ wp frame (wpE ((K (F := F)).defs (D (F := F))) 𝒱 (T (0 : Dev nD)) none) Set.univ
          (Prog.lift (.customCall (SparseCore.inner (Pipeline.entry 0)) ())) Φ := by
  have h := (K (F := F)).wp_liftProg (D (F := F)) 𝒱 (T (0 : Dev nD)) Set.univ none
    (.op (.customCall (Pipeline.entry 0) ()) (fun _ => Prog.ret ⟨⟩)) Φ
  exact h

/-- Beside the other things the main thread holds. -/
theorem region_out [∀ e, Nonempty (Elt F e)] (hT : ∀ k, (a 0).1 k = W (Proc.devRef .tc (pre1.ref k))) (C : sProp 𝕄)
    (hC : C ⊢ levAts (K (F := F)).L (K (F := F)).lev) (Φ : PUnit → sProp 𝕄) :
    iprop(C ∗ boundary (T (0 : Dev nD)) ∗ (K (F := F)).tcSt EH 0 1 ∗ held (T (0 : Dev nD)) UC W ∗ Ga a 0
        ∗ (iprop(boundary (T (0 : Dev nD)) ∗ (K (F := F)).tcSt EH 0 1 ∗ held (T (0 : Dev nD)) UC (Pipeline.afterRegion (Mlp.dat W a 0) W)) -∗ Φ ⟨⟩))
      ⊢ wp frame (wpE ((K (F := F)).defs (D (F := F))) 𝒱 (T (0 : Dev nD)) none) Set.univ
          (Prog.lift (.customCall (SparseCore.inner (Pipeline.entry 0)) ())) Φ := by
  refine BIBase.Entails.trans ?_ ((region_in W a hT Φ).trans (region_lift Φ))
  rw [tcSt_eq]
  iintro ⟨Hctx, Hb, ⟨HO, Hr⟩, Hh, HG, Hk⟩
  ihave Hlv := hC $$ Hctx
  isplitl [Hk Hr]
  · iintro ⟨Hb, Hh, HO⟩
    rw [wp_ret]; imodintro
    iapply Hk
    isplitl [Hb]; · iexact Hb
    isplitl [HO Hr]
    · isplitl [HO]; · iexact HO
      iexact Hr
    iexact Hh
  isplitl [Hb]; · iexact Hb
  isplitl [Hh HO]
  · isplitl [Hh]; · iexact Hh
    iexact HO
  isplitl [Hlv]; · iexact Hlv
  iexact HG

end Call

theorem region [∀ e, Nonempty (Elt F e)] (κ : GSem nD τ sig → ℕ) (Φ : PUnit → sProp 𝕄) :
    iprop((K (F := F)).ctx EH (P m hpre) κ ∗ boundary (T (0 : Dev nD)) ∗ (K (F := F)).tcSt EH 0 1 ∗ held (T (0 : Dev nD)) UC (V3 m) ∗ G m hpre 0
        ∗ (iprop(boundary (T (0 : Dev nD)) ∗ (K (F := F)).tcSt EH 0 1 ∗ held (T (0 : Dev nD)) UC (V4 m hpre)) -∗ Φ ⟨⟩))
      ⊢ wp frame (wpE ((K (F := F)).defs (D (F := F))) 𝒱 (T (0 : Dev nD)) none) Set.univ
          (Prog.lift (.customCall (SparseCore.inner (Pipeline.entry 0)) ())) Φ := by
  have h := region_out (V3 m) (adm m hpre) (fun _ => rfl) _ (SparseCore.Cfg.ctx_levAts (EH := EH) (P := P m hpre) (lv := (K (F := F)).lev) κ) Φ
  unfold V4
  exact h

/-- What the host keeps to the end. -/
abbrev FIN (d : Dev nD) : sProp 𝕄 := held (T d) UC (V6 m hpre)

theorem unscoped_held (d : Dev nD) : (unscopedBufs d (fun b => m ((SparseCore.T d).loc b)) : sProp 𝕄) = held (T d) UC (V0 m) := by
  obtain rfl : d = 0 := Subsingleton.elim _ _
  exact Pipeline.unscopedBufs_held 0 (V0 m)

set_option backward.isDefEq.respectTransparency.types false in
theorem hmain [∀ e, Nonempty (Elt F e)] (κ : GSem nD τ sig → ℕ) (d : Dev nD) :
    iprop((K (F := F)).ctx EH (P m hpre) κ ∗ (K (F := F)).tcSt EH d 0 ∗ (K (F := F)).tcRes m ρ d ∗ G m hpre d)
      ⊢ wp frame (wpE ((K (F := F)).defs (D (F := F))) 𝒱 (SparseCore.T d) none) Set.univ (main d)
          fun _ => iprop((K (F := F)).tcSt EH d 2 ∗ FIN m hpre d ∗ (K (F := F)).tcEnd d) := by
  obtain rfl : d = 0 := Subsingleton.elim _ _
  unfold SparseCore.Cfg.tcRes SparseCore.Cfg.tcEnd
  rw [unscoped_held, Host.main_eq]
  iintro ⟨#Hctx, Hst, ⟨Hb, Hh, Hts, -⟩, HG⟩
  iapply (StableHlo.wp_seq 𝒱 none Set.univ 0 UC _ Host.ops Host.plain.sub Host.plain.fresh (V0 m)) $$ [Hb Hh]
  · isplitl [Hb]; · iexact Hb
    iexact Hh
  iintro ⟨Hb, Hh⟩
  rw [wp_bind]
  iapply (call0 m hpre κ 0 _) $$ [Hst Hb Hh Hts HG]
  isplitr; · iexact Hctx
  isplitl [Hst]; · iexact Hst
  isplitl [Hh]; · unfold V1; iexact Hh
  iintro ⟨Hst, Hh⟩
  iapply (StableHlo.wp_seq 𝒱 none Set.univ 0 UC _ Host.opsG Host.plainG.sub Host.plainG.fresh (V2 m)) $$ [Hb Hh]
  · isplitl [Hb]; · iexact Hb
    iexact Hh
  iintro ⟨Hb, Hh⟩
  rw [wp_bind]
  iapply (region m hpre κ _) $$ [Hst Hb Hh Hts HG]
  isplitr; · iexact Hctx
  isplitl [Hb]; · iexact Hb
  isplitl [Hst]; · iexact Hst
  isplitl [Hh]; · unfold V3; iexact Hh
  isplitl [HG]; · iexact HG
  iintro ⟨Hb, Hst, Hh⟩
  iapply (StableHlo.wp_seq 𝒱 none Set.univ 0 UC _ Host.opsH Host.plainH.sub Host.plainH.fresh (V4 m hpre)) $$ [Hb Hh]
  · isplitl [Hb]; · iexact Hb
    iexact Hh
  iintro ⟨Hb, Hh⟩
  rw [wp_bind]
  iapply (call1 m hpre κ 0 _) $$ [Hst Hb Hh Hts]
  isplitr; · iexact Hctx
  isplitl [Hst]; · iexact Hst
  isplitl [Hh]; · unfold V5; iexact Hh
  iintro ⟨Hst, Hh⟩
  rw [wp_pure]; imodintro
  isplitl [Hst]; · iexact Hst
  isplitl [Hh]; · iexact Hh
  isplitl [Hb] <;> iassumption

/-! ## The program's run -/

/-- The arguments as they were and the result at the gathered rows. -/
def fq (d : Dev nD) (s' : Phys nD τ sig (Elt F)) : Prop :=
  (∀ r ∈ Host.args, s'.mem.mem ((SparseCore.T d).loc r) = m ((SparseCore.T d).loc r)) ∧ s'.mem.mem (Gather.oLoc d) = (OF m hpre : Buf (Elt F) (Gather.oLoc d))

theorem agree (W : Valuation τ sig (Elt F)) (b : DevRef τ sig) (hb : b ∈ UC) (d : Dev nD) (s' : Phys nD τ sig (Elt F)) :
    (iprop(held (T d) UC W ∗ SI s') : sProp 𝕄) ⊢ ⌜s'.mem.mem ((d, b) : Loc nD τ sig) = W b⌝ := by
  unfold held
  iintro ⟨H, HSI⟩
  ihave H := (show (bigSep UC fun b : DevRef τ sig => iprop(((d, b) : Loc nD τ sig) ↦{fullShare} W b) : sProp 𝕄) ⊢ iprop(((d, b) : Loc nD τ sig) ↦{fullShare} W b)
    from bigSep_elim (Φ := fun b : DevRef τ sig => (iprop(((d, b) : Loc nD τ sig) ↦{fullShare} W b) : sProp 𝕄)) hb) $$ H
  ihave H := (SI_pointsTo_agree (st := s') (ℓ := ((d, b) : Loc nD τ sig)) (I := Finset.univ) (q := fullShare) (f := W b)) $$ [HSI H]
  · isplitl [HSI] <;> iassumption
  icases H with %h
  ipureintro
  exact funext fun i => h i (Finset.mem_univ i)

theorem hfin (d : Dev nD) (s' : Phys nD τ sig (Elt F)) : iprop(FIN m hpre d ∗ SI s') ⊢ (⌜fq m hpre d s'⌝ : sProp 𝕄) := by
  obtain rfl : d = 0 := Subsingleton.elim _ _
  have all : ∀ b ∈ UC, iprop(FIN m hpre 0 ∗ SI s') ⊢ (⌜s'.mem.mem (((0 : Dev nD), b) : Loc nD τ sig) = V6 m hpre b⌝ : sProp 𝕄) :=
    fun b hb => agree (V6 m hpre) b hb 0 s'
  have every : iprop(FIN m hpre 0 ∗ SI s') ⊢ (⌜∀ b : {b // b ∈ UC}, s'.mem.mem (((0 : Dev nD), b.1) : Loc nD τ sig) = V6 m hpre b.1⌝ : sProp 𝕄) :=
    (Laws.forall_intro fun b : {b // b ∈ UC} => all b.1 b.2).trans Laws.pure_forall.2
  refine every.trans (Laws.pure_mono fun h => ⟨fun r hr => ?_, ?_⟩)
  · refine (h ⟨Proc.devRef .tc r, mem_UC r ?_⟩).trans (V6_arg m hpre hr)
    exact (show ∀ r ∈ Host.args, r.isScoped = false by decide) r hr
  · exact (h ⟨o', mem_UC _ (by decide)⟩).trans (V6_o m hpre)

/-! ## The program's run -/

def QC : PUnit × MemSt nD τ sig (Elt F) → Prop := fun r =>
  (∀ c : Dev nD, (∀ q ∈ Host.args, r.2.mem ((SparseCore.T c).loc q) = m ((SparseCore.T c).loc q)) ∧ r.2.mem (Gather.oLoc c) = (OF m hpre : Buf (Elt F) (Gather.oLoc c))) ∧ r.2.sem = fun _ => 0

theorem run_main [∀ e, Nonempty (Elt F e)] :
    θ_run (Cert.KernelIdeal.defs (F := F)) (Cert.KernelIdeal.threads (F := F)) ⟨m, fun _ => 0, ρ⟩ (QC m hpre) :=
  SparseCore.Cfg.θ_run_sc_quiescent (K := K (F := F)) (D := D (F := F)) (𝒱 := 𝒱) (EH := EH) (P := P m hpre) (A := ∅) facts v₀
    (fun q hq => match q with | 0 => nomatch hq | 1 => nomatch hq)
    (fun q _ => match q with | 0 => tileObl0 m hpre facts | 1 => tileObl1 m hpre facts)
    (fun q _ => match q with | 0 => SparseCore.Cfg.VecSplit.of_plain (vecSplit0 m hpre) | 1 => SparseCore.Cfg.VecSplit.of_plain (vecSplit1 m hpre))
    m ρ main (G m hpre) (FIN m hpre) (u₀ m hpre) (sep_elim_left.trans (hu₀ m hpre)) (hmain m ρ hpre) (fq m hpre) (hfin m hpre) (QC m hpre) (fun _ h hz => ⟨h, hz⟩)

end Cert.Proof.Whole

end
-- ==== Proof.Precondition.lean ====
/-
  What the precondition says: every token's group is one of the eight.
-/
module

public import proofs.«01_k».proof.Defs
public import proofs.«01_k».proof.Proof.Contents
public import proofs.«01_k».proof.Proof.Gen.Pre_in_range
public import Idealize.ShloMosaic.Lib.ReduceAll

@[expose] public section

noncomputable section

namespace Cert.Proof.Whole

open Idealize.ShloMosaic Idealize.SL.Sem
open Idealize.ShloMosaic.ValueIdx (ix2)

/-- A word between 0 and `b`, both read as signed, is a number below `b`. -/
theorem lt_of_range (v b : BitVec 32) (hb : b.toNat < 2 ^ 31)
    (e : IntOp.andi (IntOp.cmpi .sge v 0#32) (IntOp.cmpi .slt v b) = 1#1) : v.toNat < b.toNat := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition's predicate, all ones, bounds every token's group. -/
theorem in_range {F : FTy → Type} [FloatOps F] (x : FVec F Cert.Pre_in_range.S2048x1024 .f32) (g : IVec Cert.Pre_in_range.S2048x2 32)
    (w1 : FVec F Cert.Pre_in_range.S8x1024x2048 .f32) (b1 : FVec F Cert.Pre_in_range.S8x2048 .f32) (w2 : FVec F Cert.Pre_in_range.S8x2048x1024 .f32)
    (b2 : FVec F Cert.Pre_in_range.S8x1024 .f32) (h : Cert.Pre_in_range.fn (F := F) x g w1 b1 w2 b2 = fun _ => 1#1) (t : Fin 2048) :
    (g (ix2 t (0 : Fin 2))).toNat < 8 := by
  have : Subsingleton Cert.Pre_in_range.S_.Idx := ⟨fun a b => funext fun k => k.elim0⟩
  have e := Host.reduce_andi_all _ _ _ _ _ (congrFun h fun k => k.elim0) (ValueIdx.ix1 t)
  have e' := lt_of_range _ 8#32 (by decide) e
  have e2 : Host.a1 g (ValueIdx.ix1 t) = g (ix2 t (0 : Fin 2)) := by
    unfold Host.a1
    exact (Idealize.ShloMosaic.Routing.cast21 _ _ t (0 : Fin 1) t (by simp)).trans (Idealize.ShloMosaic.Routing.slice_col0 (b := 2) g _ t (by decide))
  exact (congrArg BitVec.toNat e2).symm.trans_lt e'

theorem ok_bits (m : (ℓ : Loc Cert.Kernel.nD Cert.Kernel.τ Cert.Kernel.sig) → Buf (Elt Bits) ℓ) (h : Cert.Pre_Kernel m) : PreOK (F := Bits) m :=
  fun t => in_range _ _ _ _ _ _ (h 0) t

theorem ok_ideal (m : (ℓ : Loc Cert.KernelIdeal.nD Cert.KernelIdeal.τ Cert.KernelIdeal.sig) → Buf (Elt Ideal) ℓ) (h : Cert.Pre_KernelIdeal m) :
    PreOK (F := Ideal) m :=
  fun t => in_range _ _ _ _ _ _ (h 0) t

end Cert.Proof.Whole
-- ==== Proof.Network.lean ====
/-
  One token through one expert's network over the reals, and a tile of the kernel's network as that.
-/
module

public import proofs.«01_k».proof.Proof.MlpValue
public import Idealize.ShloMosaic.Lib.MatmulPlain
public import Idealize.ShloMosaic.Lib.ValueLayout

@[expose] public section

noncomputable section

namespace Cert.Proof.Network

open Idealize.ShloMosaic Idealize.ShloMosaic.TcCoe
open Idealize.ShloMosaic.ValueIdx
open scoped BigOperators

/-- Tokens, an expert's first matrix and its bias, its second matrix and its bias. -/
abbrev Toks : Type := (⟨2, ![2048, 1024]⟩ : Shape).Idx → EReal
abbrev Mat1 : Type := (⟨3, ![8, 1024, 2048]⟩ : Shape).Idx → EReal
abbrev Bias1 : Type := (⟨2, ![8, 2048]⟩ : Shape).Idx → EReal
abbrev Mat2 : Type := (⟨3, ![8, 2048, 1024]⟩ : Shape).Idx → EReal
abbrev Bias2 : Type := (⟨2, ![8, 1024]⟩ : Shape).Idx → EReal

/-- Hidden unit `f` of expert `e` at token `t`. -/
def hid (x : Toks) (w1 : Mat1) (b1 : Bias1) (e : Fin 8) (t : Fin 2048) (f : Fin 2048) : EReal :=
  max ((∑ k : Fin 1024, x (ix2 t k) * w1 (ix3 e k f)) + b1 (ix2 e f)) 0

/-- Output `c` of expert `e` at token `t`. -/
def out (x : Toks) (w1 : Mat1) (b1 : Bias1) (w2 : Mat2) (b2 : Bias2) (e : Fin 8) (t : Fin 2048) (c : Fin 1024) : EReal :=
  (∑ f : Fin 2048, hid x w1 b1 e t f * w2 (ix3 e f c)) + b2 (ix2 e c)

section Tile

open Cert.KernelIdeal Cert.KernelIdeal.Gen

variable (v0 : Vec Ideal S128x1024 .f32) (v2 : Vec Ideal S1x1024x2048 .f32) (v5 : Vec Ideal S1x1x2048 .f32)
  (v11 : Vec Ideal S1x2048x1024 .f32) (v14 : Vec Ideal S1x1x1024 .f32)

theorem relu_at (a : EReal) : FloatOps.maximumf (F := Ideal) (φ := .f32) a (FloatOps.ofBits .f32 0x00000000#32) = max a 0 := by
  show max a (Ideal.ofBits .f32 0x00000000#32) = _
  rw [Ideal.ofBits_zero_f32]

/-- A plain product onto zeros at an entry. -/
theorem plain_zero {M K N : ℕ} (lhs : FVec Ideal (⟨2, ![M, K]⟩ : Shape) .f32) (rhs : FVec Ideal (⟨2, ![K, N]⟩ : Shape) .f32) (r : Fin M) (c : Fin N) :
    FloatOps.matmul (DotDims.plain M K N) none lhs rhs (constant (⟨2, ![M, N]⟩ : Shape) .f32 0x00000000#32) (ix2 r c)
      = ∑ k : Fin K, (lhs (ix2 r k) : EReal) * rhs (ix2 k c) :=
  (Ideal.matmul_plain_apply none lhs rhs _ r c).trans
    ((congrArg (· + ∑ k : Fin K, (lhs (ix2 r k) : EReal) * rhs (ix2 k c)) Ideal.ofBits_zero_f32).trans (zero_add _))

/-- A tile of the network at an entry. -/
theorem pay_at (r : Fin 128) (c : Fin 1024) :
    k1_pay1 v0 v2 v5 v11 v14 (ix2 r c)
      = (∑ f : Fin 2048, max ((∑ k : Fin 1024, (v0 (ix2 r k) : EReal) * v2 (ix3 (0 : Fin 1) k f)) + v5 (ix3 (0 : Fin 1) (0 : Fin 1) f)) 0
          * v11 (ix3 (0 : Fin 1) f c)) + v14 (ix3 (0 : Fin 1) (0 : Fin 1) c) := by
  unfold k1_pay1
  refine congrArg₂ (· + · : EReal → EReal → EReal) ?_ ?_
  · refine (plain_zero (M := 128) (K := 2048) (N := 1024) _ _ r c).trans ?_
    refine Finset.sum_congr rfl fun f _ => congrArg₂ (· * · : EReal → EReal → EReal) ?_ ?_
    · refine (relu_at _).trans (congrArg (fun a : EReal => max a 0) ?_)
      refine congrArg₂ (· + · : EReal → EReal → EReal) ?_ ?_
      · refine (plain_zero (M := 128) (K := 1024) (N := 2048) _ _ r f).trans ?_
        refine Finset.sum_congr rfl fun k _ => congrArg₂ (· * · : EReal → EReal → EReal) ?_ ?_
        · exact congrFun (shapeCast_self v0 _) _
        · exact shapeCast_1ab_ab_apply v2 _ k f
      · exact (broadcastTo_1b_ab_apply _ _ r f).trans (shapeCast_1ab_ab_apply v5 _ (0 : Fin 1) f)
    · exact shapeCast_1ab_ab_apply v11 _ f c
  · exact (broadcastTo_1b_ab_apply _ _ r c).trans (shapeCast_1ab_ab_apply v14 _ (0 : Fin 1) c)

end Tile

end Cert.Proof.Network
-- ==== Proof.KernelValue.lean ====
/-
  The kernel's result over the reals: every token through its own group's network.
-/
module

public import proofs.«01_k».proof.Proof.Network
public import proofs.«01_k».proof.Proof.Contents

@[expose] public section

noncomputable section

namespace Cert.Proof.Whole

open Cert.KernelIdeal Cert.KernelIdeal.Gen Cert.Proof
open Idealize.ShloMosaic Idealize.ShloMosaic.TcCoe
open Idealize.ShloMosaic.ValueIdx (ix2 ix3)
open Idealize.SL
open scoped BigOperators

/-- A tile's entry, its blocks read off the arrays. -/
theorem tile_at (V : Valuation τ sig (Elt Ideal)) (a : (p : Fin 1) → (pcfgs (F := Ideal) p).Adm) (T : Fin grid1.N) (r : Fin 128) (c : Fin 1024)
    (e : Fin 8) (he : Mlp.teOf a T = e.val) (t : Fin 2048)
    (x : Network.Toks) (w1 : Network.Mat1) (b1 : Network.Bias1) (w2 : Network.Mat2) (b2 : Network.Bias2)
    (h0 : ∀ (k : Fin 1024) (h : 128 * T.val + r.val < 3072), V (Proc.devRef .tc main_v38) (ix2 (⟨128 * T.val + r.val, h⟩ : Fin 3072) k) = x (ix2 t k))
    (h1 : ∀ k f, V (Proc.devRef .tc main_arg2) (ix3 e k f) = w1 (ix3 e k f))
    (h2 : ∀ f, V (Proc.devRef .tc main_v39) (ix3 e (0 : Fin 1) f) = b1 (ix2 e f))
    (h3 : ∀ f k, V (Proc.devRef .tc main_arg4) (ix3 e f k) = w2 (ix3 e f k))
    (h4 : ∀ k, V (Proc.devRef .tc main_v40) (ix3 e (0 : Fin 1) k) = b2 (ix2 e k)) :
    Mlp.tileVal V a T (ix2 r c) = Network.out x w1 b1 w2 b2 e t c := by
  have hE : (⟨Mlp.teOf a T, Mlp.teOf_lt a T⟩ : Fin 8) = e := Fin.ext he
  unfold Mlp.tileVal
  refine (Network.pay_at _ _ _ _ _ r c).trans ?_
  unfold Network.out Network.hid
  refine congrArg₂ (· + · : EReal → EReal → EReal) (Finset.sum_congr rfl fun f _ => congrArg₂ (· * · : EReal → EReal → EReal) (congrArg (fun z : EReal => max z 0) ?_) ?_) ?_
  · refine congrArg₂ (· + · : EReal → EReal → EReal) (Finset.sum_congr rfl fun k _ => congrArg₂ (· * · : EReal → EReal → EReal) ?_ ?_) ?_
    · exact (Mlp.inBlk0 V a T r k).trans (h0 k _)
    · exact (Mlp.inBlk1 V a T k f).trans ((congrArg (fun e : Fin 8 => V (Proc.devRef .tc main_arg2) (ix3 e k f)) hE).trans (h1 k f))
    · exact (Mlp.inBlk2 V a T f).trans ((congrArg (fun e : Fin 8 => V (Proc.devRef .tc main_v39) (ix3 e (0 : Fin 1) f)) hE).trans (h2 f))
  · exact (Mlp.inBlk3 V a T f c).trans ((congrArg (fun e : Fin 8 => V (Proc.devRef .tc main_arg4) (ix3 e f c)) hE).trans (h3 f c))
  · exact (Mlp.inBlk4 V a T c).trans ((congrArg (fun e : Fin 8 => V (Proc.devRef .tc main_v40) (ix3 e (0 : Fin 1) c)) hE).trans (h4 c))

/-- A matrix with a unit axis put in the middle, at an entry. -/
theorem mid_at {A B : ℕ} (b : (⟨2, ![A, B]⟩ : Shape).Idx → EReal) (h : (⟨2, ![A, B]⟩ : Shape).ShapeCasts (⟨3, ![A, 1, B]⟩ : Shape)) (e : Fin A) (f : Fin B) :
    shapeCast (⟨3, ![A, 1, B]⟩ : Shape) b h (ix3 e (0 : Fin 1) f) = b (ix2 e f) :=
  shapeCast_apply b h _ _ (by
    rw [Shape.rowMajor_val_two, Shape.rowMajor_val_three]
    show e.val * B + f.val = (e.val * 1 + 0) * B + f.val
    rw [Nat.mul_one, Nat.add_zero])

/-- A row of the rearranged rows, at a token's position, through the tile that holds it. -/
theorem ys_at (V : Valuation τ sig (Elt Ideal)) (a : (p : Fin 1) → (pcfgs (F := Ideal) p).Adm) (p : ℕ) (hp : p < 3072) (c : Fin 1024) :
    ∃ (T : Fin grid1.N) (r : Fin 128), T.val = p / 128 ∧ 128 * T.val + r.val = p ∧
      Mlp.ysVal V a (ix2 (⟨p, hp⟩ : Fin 3072) c) = Mlp.tileVal V a T (ix2 r c) :=
  ⟨⟨p / 128, by rw [N_1]; omega⟩, ⟨p % 128, Nat.mod_lt _ (by decide)⟩, rfl, by show 128 * (p / 128) + p % 128 = p; omega, rfl⟩

variable (m : (ℓ : Loc nD τ sig) → Buf (Elt Ideal) ℓ) (hpre : PreOK m)

/-- The group of a token. -/
def eOf (t : Fin 2048) : Fin 8 := ⟨(GT m (ix2 t (0 : Fin 2))).toNat, hpre t⟩

theorem gOf_eq (t : Fin 2048) : Host.gOf (GT m) t.val = (eOf m hpre t).val := by
  unfold Host.gOf
  rw [dif_pos t.isLt]; rfl

theorem te_at (T : Fin grid1.N) : Mlp.teOf (adm m hpre) T = Routing.te (Host.gOf (GT m)) T.val := by
  unfold Mlp.teOf
  have h : (adm m hpre 0).1 0 = Host.experts (GT m) := TE_eq m
  refine (congrArg BitVec.toNat (congrFun h _)).trans ?_
  refine (congrArg BitVec.toNat (Host.experts_at hpre ⟨T.val, Mlp.t_lt T⟩)).trans ?_
  rw [BitVec.toNat_ofNat]
  have := Routing.te_lt (Host.gOf (GT m)) T.val
  exact Nat.mod_eq_of_lt (by show Routing.te (Host.gOf (GT m)) T.val < 2 ^ 32; omega)

theorem q_at (t : Fin 2048) : (QF m hpre (ixP (t.val / 32) t.val)).toNat = Routing.pos (Host.gOf (GT m)) t.val := by
  rw [QF_eq, ← PF_eq m]
  exact pos_at m hpre t.val t.isLt

include hpre in
theorem x_at (t : Fin 2048) (k : Fin 1024) (h : Routing.pos (Host.gOf (GT m)) t.val < 3072) :
    V3 m (Proc.devRef .tc main_v38) (ix2 (⟨Routing.pos (Host.gOf (GT m)) t.val, h⟩ : Fin 3072) k) = m ((SparseCore.T (0 : Dev nD)).loc main_arg0) (ix2 t k) := by
  refine (congrFun (V3_v38 m) _).trans ?_
  unfold XS
  refine (Scatter.zVal_of_pos (PF_ok m hpre) _ t.isLt (pos_at m hpre t.val t.isLt)).trans ?_
  refine (congrFun (XF_eq m) _).trans ?_
  exact congrArg _ (Scatter.ixX_eq _ _ _ rfl rfl)

theorem row_at (t : Fin 2048) (c : Fin 1024) (hp : Routing.pos (Host.gOf (GT m)) t.val < 3072) :
    Mlp.ysVal (V3 m) (adm m hpre) (ix2 (⟨Routing.pos (Host.gOf (GT m)) t.val, hp⟩ : Fin 3072) c)
      = Network.out (m ((SparseCore.T (0 : Dev nD)).loc main_arg0)) (m ((SparseCore.T (0 : Dev nD)).loc main_arg2)) (m ((SparseCore.T (0 : Dev nD)).loc main_arg3))
          (m ((SparseCore.T (0 : Dev nD)).loc main_arg4)) (m ((SparseCore.T (0 : Dev nD)).loc main_arg5)) (eOf m hpre t) t c := by
  obtain ⟨T, r, hT, hr, e⟩ := ys_at (V3 m) (adm m hpre) _ hp c
  refine e.trans (tile_at (V3 m) (adm m hpre) T r c (eOf m hpre t) ?_ t _ _ _ _ _ ?_ ?_ ?_ ?_ ?_)
  · rw [te_at, hT, Routing.te_pos _ t.isLt (Host.gOf_lt hpre _ t.isLt)]
    exact gOf_eq m hpre t
  · intro k h
    have e : (⟨128 * T.val + r.val, h⟩ : Fin 3072) = ⟨_, hp⟩ := Fin.ext hr
    refine Eq.trans (congrArg (fun i : Fin 3072 => V3 m (Proc.devRef .tc main_v38) (ix2 i k)) e) ?_
    exact x_at m hpre t k hp
  · exact fun k f => congrFun (V3_arg m (by simp)) _
  · exact fun f => (congrFun (V3_v39 m) _).trans (mid_at _ _ _ _)
  · exact fun f k => congrFun (V3_arg m (by simp)) _
  · exact fun k => (congrFun (V3_v40 m) _).trans (mid_at _ _ _ _)

/-- Every token ends with its own group's network of it. -/
theorem OF_at (t : Fin 2048) (c : Fin 1024) :
    OF m hpre (ix2 t c)
      = Network.out (m ((SparseCore.T (0 : Dev nD)).loc main_arg0)) (m ((SparseCore.T (0 : Dev nD)).loc main_arg2)) (m ((SparseCore.T (0 : Dev nD)).loc main_arg3))
          (m ((SparseCore.T (0 : Dev nD)).loc main_arg4)) (m ((SparseCore.T (0 : Dev nD)).loc main_arg5)) (eOf m hpre t) t c := by
  have hp := Routing.pos_lt _ t.isLt (Host.gOf_lt hpre _ t.isLt)
  refine Eq.trans ?_ (row_at m hpre t c hp)
  rw [← YS_eq]
  show YS m hpre (ixY (QF m hpre (ixP (t.val / 32) t.val)).toNat c.val) = _
  exact congrArg _ (ixY_eq _ _ _ (q_at m hpre t) rfl)

end Cert.Proof.Whole
-- ==== Proof.Reference.lean ====
/-
  The reference's result over the reals: every expert's network of every token, and of those the one its group selects.
-/
module

public import proofs.«01_k».proof.Proof.Network
public import proofs.«01_k».proof.Proof.Gen.ReferenceIdeal
public import Idealize.ShloMosaic.Lib.IdealHost
public import Idealize.ShloMosaic.Lib.Pointwise.Contract
public import Idealize.ShloMosaic.Lib.Routing.Ops

@[expose] public section

noncomputable section

namespace Cert.Proof.Reference

open Cert.ReferenceIdeal Cert.Proof
open Idealize.ShloMosaic hiding ix2 ix3
open Idealize.ShloMosaic.ValueIdx (ix2 ix3)
open Cert.ReferenceIdeal.Facts₀
open scoped BigOperators

variable (x : FVec Ideal S2048x1024 .f32) (g : IVec S2048x2 32) (w1 : FVec Ideal S8x1024x2048 .f32) (b1 : FVec Ideal S8x2048 .f32)
  (w2 : FVec Ideal S8x2048x1024 .f32) (b2 : FVec Ideal S8x1024 .f32)

/-- An index of rank three is its coordinates. -/
theorem idx3 {A B C : ℕ} (z : (⟨3, ![A, B, C]⟩ : Shape).Idx) (i : Fin A) (j : Fin B) (k : Fin C) (h0 : (z 0).val = i.val) (h1 : (z 1).val = j.val) (h2 : (z 2).val = k.val) :
    z = ix3 i j k := by
  funext a; apply Fin.ext
  match a with
  | ⟨0, _⟩ => exact h0
  | ⟨1, _⟩ => exact h1
  | ⟨2, _⟩ => exact h2
theorem idx2 {A B : ℕ} (z : (⟨2, ![A, B]⟩ : Shape).Idx) (i : Fin A) (j : Fin B) (h0 : (z 0).val = i.val) (h1 : (z 1).val = j.val) :
    z = ix2 i j := by
  funext a; apply Fin.ext
  match a with
  | ⟨0, _⟩ => exact h0
  | ⟨1, _⟩ => exact h1

/-- A product over one axis at an entry, its operands read where `hl` and `hr` say. -/
theorem dot_at {sl sr so : Shape} (d : DotDims sl sr so) (lhs : FVec Ideal sl .f32) (rhs : FVec Ideal sr .f32) (j : so.Idx) {a : Fin sl.rank} (hc : d.lhsContracting = [a])
    {K : ℕ} (hK : sl.size a = K) (il : Fin K → sl.Idx) (ir : Fin K → sr.Idx)
    (hl : ∀ k, d.lhsIdx j (d.contrIdx₁ hc hK k) = il k) (hr : ∀ k, d.rhsIdx j (d.contrIdx₁ hc hK k) = ir k) :
    Host.dotGeneral d none lhs rhs j = ∑ k : Fin K, (lhs (il k) : EReal) * rhs (ir k) := by
  simp only [Host.dotGeneral]
  refine (Ideal.dotGeneral_apply _ _ _ _ _ _).trans ((DotDims.sum_contr₁ d hc hK _).trans (Finset.sum_congr rfl fun k _ => ?_))
  rw [hl, hr]

/-- The hidden units of every expert. -/
def hidAll : FVec Ideal S2048x8x2048 .f32 :=
  maximumf (addf (Host.dotGeneral dot_S2048x1024_S8x1024x2048_S2048x8x2048_1_1_0_02_n_n none x w1) (broadcastInDim S2048x8x2048 ![0, 1, 2] bcast_S1x8x2048_S2048x8x2048_0_1_2 (broadcastInDim S1x8x2048 ![1, 2] bcast_S8x2048_S1x8x2048_1_2 b1))) (broadcastInDim S2048x8x2048 ![] bcast_S_S2048x8x2048 (constant S_ .f32 0x00000000#32))

/-- The outputs of every expert. -/
def outAll : FVec Ideal S2048x8x1024 .f32 :=
  addf (transpose S2048x8x1024 [2, 0, 1] (Host.dotGeneral dot_S8x2048x1024_S2048x8x2048_S8x1024x2048_1_2_2_0_0_1 none w2 (hidAll x w1 b1)) transposes_S8x1024x2048_S2048x8x1024_2_0_1) (broadcastInDim S2048x8x1024 ![0, 1, 2] bcast_S1x8x1024_S2048x8x1024_0_1_2 (broadcastInDim S1x8x1024 ![1, 2] bcast_S8x1024_S1x8x1024_1_2 b2))

/-- The gates: one at a token's group, nought elsewhere. -/
def gates : FVec Ideal S2048x8 .f32 :=
  uitofp .f32 (cmpi .eq (broadcastInDim S2048x8 ![0, 1] bcast_S2048x1_S2048x8_0_1 (broadcastInDim S2048x1 ![0] bcast_S2048_S2048x1_0 (shapeCast _ (extractStridedSlice S2048x1 ![0, 0] g slices_S2048x2_S2048x1_0_0) shapeCasts_S2048x1_S2048))) (broadcastInDim S2048x8 ![0, 1] bcast_S1x8_S2048x8_0_1 (iotaInDim S1x8 32 1)))

theorem bias1_at (t : Fin 2048) (e : Fin 8) (f : Fin 2048) :
    broadcastInDim S2048x8x2048 ![0, 1, 2] bcast_S1x8x2048_S2048x8x2048_0_1_2 (broadcastInDim S1x8x2048 ![1, 2] bcast_S8x2048_S1x8x2048_1_2 b1) (ix3 t e f) = b1 (ix2 e f) := by
  refine (broadcastInDim_apply _ _ _ _ (ix3 (0 : Fin 1) e f) fun a => ?_).trans (broadcastInDim_apply _ _ _ _ (ix2 e f) fun a => ?_)
  · match a with
    | ⟨0, _⟩ => rfl
    | ⟨1, _⟩ => rfl
    | ⟨2, _⟩ => rfl
  · match a with
    | ⟨0, _⟩ => rfl
    | ⟨1, _⟩ => rfl

theorem bias2_at (t : Fin 2048) (e : Fin 8) (c : Fin 1024) :
    broadcastInDim S2048x8x1024 ![0, 1, 2] bcast_S1x8x1024_S2048x8x1024_0_1_2 (broadcastInDim S1x8x1024 ![1, 2] bcast_S8x1024_S1x8x1024_1_2 b2) (ix3 t e c) = b2 (ix2 e c) := by
  refine (broadcastInDim_apply _ _ _ _ (ix3 (0 : Fin 1) e c) fun a => ?_).trans (broadcastInDim_apply _ _ _ _ (ix2 e c) fun a => ?_)
  · match a with
    | ⟨0, _⟩ => rfl
    | ⟨1, _⟩ => rfl
    | ⟨2, _⟩ => rfl
  · match a with
    | ⟨0, _⟩ => rfl
    | ⟨1, _⟩ => rfl

theorem hidAll_at (t : Fin 2048) (e : Fin 8) (f : Fin 2048) : hidAll x w1 b1 (ix3 t e f) = Network.hid x w1 b1 e t f := by
  unfold hidAll Network.hid
  refine congrArg₂ (fun a b : EReal => max a b) (congrArg₂ (· + · : EReal → EReal → EReal) ?_ (bias1_at b1 t e f)) ?_
  · exact dot_at _ x w1 _ (a := (1 : Fin 2)) (K := 1024) rfl rfl (fun k => ix2 t k) (fun k => ix3 e k f) (fun k => idx2 _ _ _ rfl rfl) (fun k => idx3 _ _ _ _ rfl rfl rfl)
  · exact (ValueIdx.broadcastInDim_scalar_apply _ _ _).trans Ideal.ofBits_zero_f32

theorem outAll_at (t : Fin 2048) (e : Fin 8) (c : Fin 1024) : outAll x w1 b1 w2 b2 (ix3 t e c) = Network.out x w1 b1 w2 b2 e t c := by
  unfold outAll Network.out
  refine congrArg₂ (· + · : EReal → EReal → EReal) ?_ (bias2_at b2 t e c)
  refine (transpose_apply _ _ _ _ (ix3 e c t) fun a => ?_).trans ?_
  · match a with
    | ⟨0, _⟩ => rfl
    | ⟨1, _⟩ => rfl
    | ⟨2, _⟩ => rfl
  · refine (dot_at _ w2 (hidAll x w1 b1) _ (a := (1 : Fin 3)) (K := 2048) rfl rfl (fun k => ix3 e k c) (fun k => ix3 t e k) (fun k => idx3 _ _ _ _ rfl rfl rfl) (fun k => idx3 _ _ _ _ rfl rfl rfl)).trans ?_
    refine Finset.sum_congr rfl fun f _ => ?_
    rw [hidAll_at]
    exact mul_comm _ _

theorem word_at (t : Fin 2048) (e : Fin 8) :
    broadcastInDim S2048x8 ![0, 1] bcast_S2048x1_S2048x8_0_1 (broadcastInDim S2048x1 ![0] bcast_S2048_S2048x1_0 (shapeCast S2048 (extractStridedSlice S2048x1 ![0, 0] g slices_S2048x2_S2048x1_0_0) shapeCasts_S2048x1_S2048)) (ix2 t e)
      = g (ix2 t (0 : Fin 2)) := by
  refine (broadcastInDim_apply _ _ _ _ (ix2 t (0 : Fin 1)) fun a => ?_).trans ?_
  · match a with
    | ⟨0, _⟩ => rfl
    | ⟨1, _⟩ => rfl
  refine (broadcastInDim_apply _ _ _ _ (ValueIdx.ix1 t) fun a => ?_).trans ?_
  · match a with
    | ⟨0, _⟩ => rfl
  refine (shapeCast_apply _ _ _ (ix2 t (0 : Fin 1)) ?_).trans ?_
  · rw [Shape.rowMajor_val_two, Shape.rowMajor_val_one]
    show t.val * 1 + 0 = t.val
    omega
  · exact congrArg g (idx2 _ _ _ (by show 0 + t.val = t.val; omega) rfl)

theorem iota_at (t : Fin 2048) (e : Fin 8) :
    broadcastInDim S2048x8 ![0, 1] bcast_S1x8_S2048x8_0_1 (iotaInDim S1x8 32 1) (ix2 t e) = BitVec.ofNat 32 e.val := by
  refine (broadcastInDim_apply _ _ _ _ (ix2 (0 : Fin 1) e) fun a => ?_).trans rfl
  match a with
  | ⟨0, _⟩ => rfl
  | ⟨1, _⟩ => rfl

theorem gate_gen (A B : IVec S2048x8 32) (i : S2048x8.Idx) :
    (uitofp .f32 (cmpi .eq A B) : FVec Ideal S2048x8 .f32) i = (((IntOp.cmpi .eq (A i) (B i)).toNat : ℝ) : EReal) := rfl

theorem gates_at (t : Fin 2048) (e : Fin 8) :
    gates g (ix2 t e) = (((IntOp.cmpi .eq (g (ix2 t (0 : Fin 2))) (BitVec.ofNat 32 e.val)).toNat : ℝ) : EReal) := by
  unfold gates
  rw [gate_gen, word_at, iota_at]

theorem gates_self (t : Fin 2048) (e : Fin 8) (h : (g (ix2 t (0 : Fin 2))).toNat = e.val) : gates g (ix2 t e) = (1 : EReal) := by
  rw [gates_at, show g (ix2 t (0 : Fin 2)) = BitVec.ofNat 32 e.val from BitVec.eq_of_toNat_eq (by rw [h, BitVec.toNat_ofNat]; have := e.isLt; omega)]
  simp [IntOp.cmpi]

theorem gates_other (t : Fin 2048) (e : Fin 8) (h : (g (ix2 t (0 : Fin 2))).toNat ≠ e.val) : gates g (ix2 t e) = (0 : EReal) := by
  have : g (ix2 t (0 : Fin 2)) ≠ BitVec.ofNat 32 e.val := by
    intro hh
    refine h ?_
    rw [hh, BitVec.toNat_ofNat]; have := e.isLt; omega
  rw [gates_at]
  simp [IntOp.cmpi, this]

/-- Every token through its own group's network. -/
theorem result_at (t : Fin 2048) (c : Fin 1024) (e : Fin 8) (h : (g (ix2 t (0 : Fin 2))).toNat = e.val) :
    Host.dotGeneral dot_S2048x8x1024_S2048x8_S2048x1024_1_1_2_n_0_0 none (outAll x w1 b1 w2 b2) (gates g) (ix2 t c) = Network.out x w1 b1 w2 b2 e t c := by
  refine (dot_at _ (outAll x w1 b1 w2 b2) (gates g) _ (a := (1 : Fin 3)) (K := 8) rfl rfl (fun k => ix3 t k c) (fun k => ix2 t k) (fun k => idx3 _ _ _ _ rfl rfl rfl) (fun k => idx2 _ _ _ rfl rfl)).trans ?_
  refine (Finset.sum_eq_single e (fun k _ hk => ?_) (fun hk => absurd (Finset.mem_univ _) hk)).trans ?_
  · rw [gates_other g t k fun hh => hk (Fin.ext (hh.symm.trans h))]
    exact mul_zero _
  · rw [gates_self g t e h, outAll_at]
    exact mul_one _

end Cert.Proof.Reference
-- ==== Proof.TwinDefs.lean ====
/-
  The program as first printed and the idealized one have the same kernels: their body tables are one table.
-/
module

public import proofs.«01_k».proof.Kernel
public import proofs.«01_k».proof.KernelIdeal
public import proofs.«01_k».proof.Proof.Gen.Kernel
public import proofs.«01_k».proof.Proof.Gen.KernelIdeal

@[expose] public section

set_option maxHeartbeats 4000000

noncomputable section

namespace Cert.Proof.Twin

open Idealize.ShloMosaic Idealize.SL Idealize.SL.Sem

variable {F : FTy → Type} [FloatOps F]

theorem bodies : Cert.Kernel.defs₀ (F := F) = Cert.KernelIdeal.defs₀ (F := F) := by
  funext p l a
  match p, l, a with
  | .tc, (0 : Fin 3), a => rfl
  | .tc, (1 : Fin 3), a => rfl
  | .tc, (2 : Fin 3), a => rfl
  | .scScalar c, (0 : Fin 3), a => rfl
  | .scScalar c, (1 : Fin 3), a => rfl
  | .scScalar c, (2 : Fin 3), a => rfl
  | .scVector c s, (0 : Fin 3), a => rfl
  | .scVector c s, (1 : Fin 3), a => rfl
  | .scVector c s, (2 : Fin 3), a => rfl

theorem calls (D : Defs Cert.Kernel.nD Cert.Kernel.τ Cert.Kernel.sig (Elt F) Cert.Kernel.Λ₀) :
    (Cert.Kernel.sc (F := F)).defs (Pipeline.defs Cert.Kernel.pcfgs D) = (Cert.KernelIdeal.sc (F := F)).defs (Pipeline.defs Cert.KernelIdeal.pcfgs D) := rfl

/-- The body tables are one. -/
theorem defs_eq : Cert.Kernel.defs (F := F) = Cert.KernelIdeal.defs (F := F) := by
  unfold Cert.Kernel.defs Cert.KernelIdeal.defs
  exact (congrArg (fun D => (Cert.Kernel.sc (F := F)).defs (Pipeline.defs Cert.Kernel.pcfgs D)) bodies).trans (calls _)

end Cert.Proof.Twin
-- ==== Proof.TwinMain.lean ====
/-
  The program as first printed and the idealized one run the same line on the main processor.
-/
module

public import proofs.«01_k».proof.Kernel
public import proofs.«01_k».proof.KernelIdeal
public import proofs.«01_k».proof.Proof.Gen.Kernel
public import proofs.«01_k».proof.Proof.Gen.KernelIdeal
public import proofs.«01_k».proof.Proof.HostBits
public import proofs.«01_k».proof.Proof.HostOps

@[expose] public section

set_option maxHeartbeats 4000000

noncomputable section

namespace Cert.Proof.Twin

open Idealize.ShloMosaic Idealize.SL Idealize.SL.Sem

variable {F : FTy → Type} [FloatOps F]

abbrev ΛK : Labels := SparseCore.Sig (Pipeline.Sig Cert.Kernel.Λ₀ (Fin 1) fun p => (Cert.Kernel.pcfgs (F := F) p).Adm) 2
abbrev ΛI : Labels := SparseCore.Sig (Pipeline.Sig Cert.KernelIdeal.Λ₀ (Fin 1) fun p => (Cert.KernelIdeal.pcfgs (F := F) p).Adm) 2

/-- The line, from its three lists of host operations. -/
def lineK (o g h : List (HloOp Cert.Kernel.τ Cert.Kernel.sig (Elt F))) (d : Dev Cert.Kernel.nD) :
    Prog (TpuEff Cert.Kernel.nD Cert.Kernel.τ Cert.Kernel.sig (Elt F) (ΛK (F := F)) .tc) PUnit :=
  StableHlo.seq o >>= fun _ => (Cert.Kernel.sc (F := F)).run d 0 >>= fun _ => StableHlo.seq g >>= fun _ =>
    Prog.lift (.customCall (SparseCore.inner (Pipeline.entry 0)) ()) >>= fun _ => StableHlo.seq h >>= fun _ => (Cert.Kernel.sc (F := F)).run d 1 >>= fun _ => pure ⟨⟩

/-- The same of the idealized program. -/
def lineI (o g h : List (HloOp Cert.KernelIdeal.τ Cert.KernelIdeal.sig (Elt F))) (d : Dev Cert.KernelIdeal.nD) :
    Prog (TpuEff Cert.KernelIdeal.nD Cert.KernelIdeal.τ Cert.KernelIdeal.sig (Elt F) (ΛI (F := F)) .tc) PUnit :=
  StableHlo.seq o >>= fun _ => (Cert.KernelIdeal.sc (F := F)).run d 0 >>= fun _ => StableHlo.seq g >>= fun _ =>
    Prog.lift (.customCall (SparseCore.inner (Pipeline.entry 0)) ()) >>= fun _ => StableHlo.seq h >>= fun _ => (Cert.KernelIdeal.sc (F := F)).run d 1 >>= fun _ => pure ⟨⟩

theorem line_eq (o g h : List (HloOp Cert.Kernel.τ Cert.Kernel.sig (Elt F))) (d : Dev Cert.Kernel.nD) : lineK (F := F) o g h d = lineI (F := F) o g h d := rfl

theorem opsA : HostBits.opsA (F := F) = Host.opsA (F := F) := rfl
theorem opsB : HostBits.opsB (F := F) = Host.opsB (F := F) := rfl
theorem opsC : HostBits.opsC (F := F) = Host.opsC (F := F) := rfl
theorem opsD : HostBits.opsD (F := F) = Host.opsD (F := F) := rfl
theorem opsE : HostBits.opsE (F := F) = Host.opsE (F := F) := rfl
theorem opsF : HostBits.opsF (F := F) = Host.opsF (F := F) := rfl
theorem opsG : HostBits.opsG (F := F) = Host.opsG (F := F) := rfl
theorem opsH : HostBits.opsH (F := F) = Host.opsH (F := F) := rfl

theorem ops : HostBits.ops (F := F) = Host.ops (F := F) :=
  congrArg₂ (· ++ ·) (congrArg₂ (· ++ ·) (congrArg₂ (· ++ ·) (congrArg₂ (· ++ ·) (congrArg₂ (· ++ ·) opsA opsB) opsC) opsD) opsE) opsF

theorem mainK (d : Dev Cert.Kernel.nD) : Cert.Kernel.main (F := F) d = lineK HostBits.ops HostBits.opsG HostBits.opsH d := HostBits.main_eq d
theorem mainI (d : Dev Cert.KernelIdeal.nD) : Cert.KernelIdeal.main (F := F) d = lineI Host.ops Host.opsG Host.opsH d := Host.main_eq d

theorem lists (d : Dev Cert.Kernel.nD) : lineK (F := F) HostBits.ops HostBits.opsG HostBits.opsH d = lineK (F := F) Host.ops Host.opsG Host.opsH d := by
  rw [ops, opsG, opsH]

/-- The main processor's programs are one. -/
theorem main_eq : Cert.Kernel.main (F := F) = Cert.KernelIdeal.main (F := F) :=
  funext fun d => (mainK d).trans ((lists d).trans ((line_eq _ _ _ d).trans (mainI d).symm))

theorem threads_of (M : Dev Cert.Kernel.nD → Prog (TpuEff Cert.Kernel.nD Cert.Kernel.τ Cert.Kernel.sig (Elt F) (ΛK (F := F)) .tc) PUnit) :
    (Cert.Kernel.sc (F := F)).threads M = (Cert.KernelIdeal.sc (F := F)).threads M := rfl

/-- The threads are the same. -/
theorem threads_eq : Cert.Kernel.threads (F := F) = Cert.KernelIdeal.threads (F := F) :=
  (congrArg (fun M => (Cert.Kernel.sc (F := F)).threads M) main_eq).trans (threads_of _)

end Cert.Proof.Twin
-- ==== Proof.Twin.lean ====
/-
  What the idealized program's text does, the program as first printed does: they are one program.
-/
module

public import proofs.«01_k».proof.Proof.TwinDefs
public import proofs.«01_k».proof.Proof.TwinMain

@[expose] public section

set_option maxHeartbeats 4000000

noncomputable section

namespace Cert.Proof.Twin

open Idealize.ShloMosaic Idealize.SL Idealize.SL.Sem

theorem carry {nD : ℕ} {τ : Topo} {sig : RefSig} {V : EltTy → Type} {Λ : Labels} {D D' : Defs nD τ sig V Λ}
    {T T' : (c : Thread nD τ) → Prog (TpuEff nD τ sig V Λ c.2) PUnit} (hD : D = D') (hT : T = T') (s : MemSt nD τ sig V)
    (Q : PUnit × MemSt nD τ sig V → Prop) (h : θ_run D' T' s Q) : θ_run D T s Q := by
  subst hD hT; exact h

variable {F : FTy → Type} [FloatOps F]

theorem run (s : MemSt Cert.Kernel.nD Cert.Kernel.τ Cert.Kernel.sig (Elt F)) (Q : PUnit × MemSt Cert.Kernel.nD Cert.Kernel.τ Cert.Kernel.sig (Elt F) → Prop)
    (h : θ_run (Cert.KernelIdeal.defs (F := F)) (Cert.KernelIdeal.threads (F := F)) s Q) :
    θ_run (Cert.Kernel.defs (F := F)) (Cert.Kernel.threads (F := F)) s Q :=
  carry defs_eq threads_eq s Q h

end Cert.Proof.Twin
-- ==== Proof.lean ====
/- The certificate: frames of the kernel and of the reference, and their agreement at the extended reals. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Main
public import proofs.«01_k».proof.Proof.Precondition
public import proofs.«01_k».proof.Proof.KernelValue
public import proofs.«01_k».proof.Proof.Reference
public import proofs.«01_k».proof.Proof.Twin
public import Idealize.ShloMosaic.Adequacy
public import Idealize.ShloMosaic.Init

@[expose] public section

noncomputable section

namespace Cert.Proof

open Idealize.ShloMosaic Idealize.SL.Sem Cert.Kernel

/-- The six arguments end as they began. -/
theorem args_kept {F : FTy → Type} [FloatOps F] (m : (ℓ : Loc Cert.KernelIdeal.nD Cert.KernelIdeal.τ Cert.KernelIdeal.sig) → Buf (Elt F) ℓ)
    (hpre : Whole.PreOK m) (r : PUnit × MemSt Cert.KernelIdeal.nD Cert.KernelIdeal.τ Cert.KernelIdeal.sig (Elt F)) (h : Whole.QC m hpre r) (c : Dev Cert.KernelIdeal.nD) :
    r.2.mem ((SparseCore.T c).loc Cert.KernelIdeal.main_arg0) = m ((SparseCore.T c).loc Cert.KernelIdeal.main_arg0)
    ∧ r.2.mem ((SparseCore.T c).loc Cert.KernelIdeal.main_arg1) = m ((SparseCore.T c).loc Cert.KernelIdeal.main_arg1)
    ∧ r.2.mem ((SparseCore.T c).loc Cert.KernelIdeal.main_arg2) = m ((SparseCore.T c).loc Cert.KernelIdeal.main_arg2)
    ∧ r.2.mem ((SparseCore.T c).loc Cert.KernelIdeal.main_arg3) = m ((SparseCore.T c).loc Cert.KernelIdeal.main_arg3)
    ∧ r.2.mem ((SparseCore.T c).loc Cert.KernelIdeal.main_arg4) = m ((SparseCore.T c).loc Cert.KernelIdeal.main_arg4)
    ∧ r.2.mem ((SparseCore.T c).loc Cert.KernelIdeal.main_arg5) = m ((SparseCore.T c).loc Cert.KernelIdeal.main_arg5) :=
  ⟨(h.1 c).1 _ (by simp), (h.1 c).1 _ (by simp), (h.1 c).1 _ (by simp), (h.1 c).1 _ (by simp), (h.1 c).1 _ (by simp), (h.1 c).1 _ (by simp)⟩

/-- The kernel at the floats' bits runs, its arguments end unchanged and every counter at zero. -/
theorem frame_kernel : Cert.quiescent_Kernel := fun m ρ hp =>
  Twin.run _ _ ((θ_run Cert.KernelIdeal.defs _ _).mono (fun r h => ⟨fun c => args_kept m (Whole.ok_bits m hp) r h c, h.2⟩)
    (Whole.run_main (F := Bits) m ρ (Whole.ok_bits m hp)))

/-- The same at the extended reals. -/
theorem frame_ideal : Cert.quiescent_KernelIdeal := fun m ρ hp =>
  (θ_run Cert.KernelIdeal.defs _ _).mono (fun r h => ⟨fun c => args_kept m (Whole.ok_ideal m hp) r h c, h.2⟩)
    (Whole.run_main (F := Ideal) m ρ (Whole.ok_ideal m hp))

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_reference_pre : Cert.quiescent_ReferenceIdeal_pre_in_range := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two results are one array. -/
theorem values_eq (m : (ℓ : Loc Cert.KernelIdeal.nD Cert.KernelIdeal.τ Cert.KernelIdeal.sig) → Buf (Elt Ideal) ℓ) (hpre : Whole.PreOK m) :
    Host.dotGeneral Cert.ReferenceIdeal.dot_S2048x8x1024_S2048x8_S2048x1024_1_1_2_n_0_0 none
      (Reference.outAll (m ((SparseCore.T 0).loc Cert.KernelIdeal.main_arg0)) (m ((SparseCore.T 0).loc Cert.KernelIdeal.main_arg2)) (m ((SparseCore.T 0).loc Cert.KernelIdeal.main_arg3))
        (m ((SparseCore.T 0).loc Cert.KernelIdeal.main_arg4)) (m ((SparseCore.T 0).loc Cert.KernelIdeal.main_arg5)))
      (Reference.gates (m ((SparseCore.T 0).loc Cert.KernelIdeal.main_arg1)))
      = Whole.OF m hpre := by
  funext z
  obtain ⟨t, c, rfl⟩ : ∃ (t : Fin 2048) (c : Fin 1024), z = ValueIdx.ix2 t c := ⟨z 0, z 1, by funext a; match a with | ⟨0, _⟩ => rfl | ⟨1, _⟩ => rfl⟩
  exact (Reference.result_at _ _ _ _ _ _ t c (Whole.eOf m hpre t) rfl).trans (Whole.OF_at m hpre t c).symm

/-- Kernel and reference end with the same rows. -/
theorem algebraic : Cert.algebraic_KernelIdeal_ReferenceIdeal := fun m ρ m' ρ' hp ha =>
  ⟨fun c => Whole.OF m (Whole.ok_ideal m hp),
    (θ_run Cert.KernelIdeal.defs _ _).mono (fun r h c => ⟨(h.1 c).2, args_kept m (Whole.ok_ideal m hp) r h c⟩)
      (Whole.run_main (F := Ideal) m ρ (Whole.ok_ideal m hp)),
    (θ_run Cert.ReferenceIdeal.defs _ _).mono
      (fun r h c => ⟨(h c).1.trans (by
        obtain rfl : c = 0 := Subsingleton.elim _ _
        obtain ⟨h0, h1, h2, h3, h4, h5⟩ := ha 0
        rw [h0, h1, h2, h3, h4, h5]
        exact values_eq m (Whole.ok_ideal m hp)), (h c).2⟩)
      (Cert.ReferenceIdeal.Value.run (F := Ideal) m' ρ')⟩

theorem claim : Cert.Claim := ⟨Cert.Kernel.Gen.facts, Cert.KernelIdeal.Gen.facts, Cert.ReferenceIdeal.Gen.facts, Cert.Pre_in_range.Gen.facts,
  frame_kernel, frame_ideal, frame_reference, frame_reference_pre, trivial, algebraic⟩

end Cert.Proof

end
